-- ==== Defs.lean ====
def Pre_Kernel [hPre_index_range : Cert.Pre_index_range.Facts] (m : (ℓ : Loc Cert.Kernel.nD Cert.Kernel.τ Cert.Kernel.sig) → Buf (Elt Bits) ℓ) : Prop :=
  ∀ c : Dev Cert.Kernel.nD,
    (Cert.Pre_index_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_index_range : Cert.Pre_index_range.Facts] (m : (ℓ : Loc Cert.KernelIdeal.nD Cert.KernelIdeal.τ Cert.KernelIdeal.sig) → Buf (Elt Ideal) ℓ) : Prop :=
  ∀ c : Dev Cert.KernelIdeal.nD,
    (Cert.Pre_index_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_KernelIdeal_admissible [hPre_admissible : Cert.Pre_admissible.Facts] (m : (ℓ : Loc Cert.KernelIdeal.nD Cert.KernelIdeal.τ Cert.KernelIdeal.sig) → Buf (Elt Ideal) ℓ) : Prop :=
  ∀ c : Dev Cert.KernelIdeal.nD,
    (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_admissible [hPre_admissible : Cert.Pre_admissible.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_index_range : Cert.Pre_index_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_index_range : Cert.Pre_index_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_admissible [hKernelIdeal : Cert.KernelIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_admissible m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_admissible [hReferenceIdeal : Cert.ReferenceIdeal.Facts] [hPre_admissible : Cert.Pre_admissible.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_admissible m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_admissible [hKernelIdeal : Cert.KernelIdeal.Facts] [hReferenceIdeal : Cert.ReferenceIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_admissible m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_index_range : Cert.Pre_index_range.Facts) (hPre_admissible : Cert.Pre_admissible.Facts),
    quiescent_Kernel (hKernel := hKernel) (hPre_index_range := hPre_index_range)
    ∧ quiescent_KernelIdeal (hKernelIdeal := hKernelIdeal) (hPre_index_range := hPre_index_range)
    ∧ quiescent_KernelIdeal_pre_admissible (hKernelIdeal := hKernelIdeal) (hPre_admissible := hPre_admissible)
    ∧ quiescent_ReferenceIdeal (hReferenceIdeal := hReferenceIdeal)
    ∧ quiescent_ReferenceIdeal_pre_admissible (hReferenceIdeal := hReferenceIdeal) (hPre_admissible := hPre_admissible)
    ∧ preserves_Kernel_KernelIdeal
    ∧ algebraic_KernelIdeal_ReferenceIdeal_pre_admissible (hKernelIdeal := hKernelIdeal) (hReferenceIdeal := hReferenceIdeal) (hPre_admissible := hPre_admissible)
-- ==== Pre_admissible.lean ====
abbrev S10000x128 : Shape := ⟨2, ![10000, 128]⟩
abbrev S10000x32x16 : Shape := ⟨3, ![10000, 32, 16]⟩
abbrev S10000x32 : Shape := ⟨2, ![10000, 32]⟩
abbrev S272x256 : Shape := ⟨2, ![272, 256]⟩
abbrev S256 : Shape := ⟨1, ![256]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x32x16 : S_.BroadcastsInDim S10000x32x16 (![] : Fin 0 → Fin S10000x32x16.rank)
  reducesTo_S10000x32x16_S_d0_1_2 : S10000x32x16.ReducesTo [0, 1, 2] S_
  bcast_S_S272x256 : S_.BroadcastsInDim S272x256 (![] : Fin 0 → Fin S272x256.rank)
  reducesTo_S272x256_S_d0_1 : S272x256.ReducesTo [0, 1] S_
  bcast_S_S256 : S_.BroadcastsInDim S256 (![] : Fin 0 → Fin S256.rank)
  reducesTo_S256_S_d0 : S256.ReducesTo [0] S_
  bcast_S_S128 : S_.BroadcastsInDim S128 (![] : Fin 0 → Fin S128.rank)
  reducesTo_S128_S_d0 : S128.ReducesTo [0] S_
  bcast_S_S10000x32 : S_.BroadcastsInDim S10000x32 (![] : Fin 0 → Fin S10000x32.rank)
  reducesTo_S10000x32_S_d0_1 : S10000x32.ReducesTo [0, 1] S_

variable [Facts]

def fn_part2 {F : FTy → Type} [FloatOps F] (main_arg2 : IVec S10000x32 32) (main_v33 : IVec S_ 1) : IVec S_ 1 :=
  let main_c_12 : IVec S_ 32 := constantI S_ 32 0#32
  let main_v34 : IVec S10000x32 32 := broadcastInDim S10000x32 ![] bcast_S_S10000x32 main_c_12
  let main_v35 : IVec S10000x32 1 := cmpi .sge main_arg2 main_v34
  let main_c_13 : IVec S_ 32 := constantI S_ 32 10000#32
  let main_v36 : IVec S10000x32 32 := broadcastInDim S10000x32 ![] bcast_S_S10000x32 main_c_13
  let main_v37 : IVec S10000x32 1 := cmpi .slt main_arg2 main_v36
  let main_v38 : IVec S10000x32 1 := andi main_v35 main_v37
  let main_c_14 : IVec S_ 1 := constantI S_ 1 1#1
  let main_v39 : IVec S_ 1 := (fun x v => Host.reduce IntOp.andi x v reducesTo_S10000x32_S_d0_1 h_S_) main_v38 main_c_14
  let main_v40 : IVec S_ 1 := andi main_v33 main_v39
  main_v40

def fn_part1 {F : FTy → Type} [FloatOps F] (main_arg2 : IVec S10000x32 32) (main_arg5 : FVec F S256 .f32) (main_arg6 : FVec F S256 .f32) (main_arg7 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg2 main_v33

def fn {F : FTy → Type} [FloatOps F] (main_arg0 : FVec F S10000x128 .f32) (main_arg1 : FVec F S10000x32x16 .f32) (main_arg2 : IVec S10000x32 32) (main_arg3 : FVec F S272x256 .f32) (main_arg4 : FVec F S256 .f32) (main_arg5 : FVec F S256 .f32) (main_arg6 : FVec F S256 .f32) (main_arg7 : FVec F S128 .f32) (main_arg8 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x32x16 .f32 := Host.absf main_arg1
  let main_cst_0 : FVec F S_ .f32 := constant S_ .f32 0x7F800000#32
  let main_v5 : FVec F S10000x32x16 .f32 := broadcastInDim S10000x32x16 ![] bcast_S_S10000x32x16 main_cst_0
  let main_v6 : IVec S10000x32x16 1 := cmpf .olt main_v4 main_v5
  let main_c_1 : IVec S_ 1 := constantI S_ 1 1#1
  let main_v7 : IVec S_ 1 := (fun x v => Host.reduce IntOp.andi x v reducesTo_S10000x32x16_S_d0_1_2 h_S_) main_v6 main_c_1
  let main_v8 : IVec S_ 1 := andi main_v3 main_v7
  let main_v9 : FVec F S272x256 .f32 := Host.absf main_arg3
  let main_cst_2 : FVec F S_ .f32 := constant S_ .f32 0x7F800000#32
  let main_v10 : FVec F S272x256 .f32 := broadcastInDim S272x256 ![] bcast_S_S272x256 main_cst_2
  let main_v11 : IVec S272x256 1 := cmpf .olt main_v9 main_v10
  let main_c_3 : IVec S_ 1 := constantI S_ 1 1#1
  let main_v12 : IVec S_ 1 := (fun x v => Host.reduce IntOp.andi x v reducesTo_S272x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg2 main_arg5 main_arg6 main_arg7 main_v13 main_v16
-- ==== Pre_index_range.lean ====
abbrev S10000x128 : Shape := ⟨2, ![10000, 128]⟩
abbrev S10000x32x16 : Shape := ⟨3, ![10000, 32, 16]⟩
abbrev S10000x32 : Shape := ⟨2, ![10000, 32]⟩
abbrev S272x256 : Shape := ⟨2, ![272, 256]⟩
abbrev S256 : Shape := ⟨1, ![256]⟩
abbrev S128 : Shape := ⟨1, ![128]⟩
abbrev S_ : Shape := ⟨0, ![]⟩

class Facts : Prop where
  bcast_S_S10000x32 : S_.BroadcastsInDim S10000x32 (![] : Fin 0 → Fin S10000x32.rank)
  reducesTo_S10000x32_S_d0_1 : S10000x32.ReducesTo [0, 1] S_
  h_S_ : 0 < S_.numel

variable [Facts]

def fn {F : FTy → Type} [FloatOps F] (main_arg0 : FVec F S10000x128 .f32) (main_arg1 : FVec F S10000x32x16 .f32) (main_arg2 : IVec S10000x32 32) (main_arg3 : FVec F S272x256 .f32) (main_arg4 : FVec F S256 .f32) (main_arg5 : FVec F S256 .f32) (main_arg6 : FVec F S256 .f32) (main_arg7 : FVec F S128 .f32) (main_arg8 : FVec F S128 .f32) : IVec S_ 1 :=
  let main_c : IVec S_ 32 := constantI S_ 32 0#32
  let main_v0 : IVec S10000x32 32 := broadcastInDim S10000x32 ![] bcast_S_S10000x32 main_c
  let main_v1 : IVec S10000x32 1 := cmpi .sge main_arg2 main_v0
  let main_c_0 : IVec S_ 32 := constantI S_ 32 10000#32
  let main_v2 : IVec S10000x32 32 := broadcastInDim S10000x32 ![] bcast_S_S10000x32 main_c_0
  let main_v3 : IVec S10000x32 1 := cmpi .slt main_arg2 main_v2
  let main_v4 : IVec S10000x32 1 := andi main_v1 main_v3
  let main_c_1 : IVec S_ 1 := constantI S_ 1 1#1
  let main_v5 : IVec S_ 1 := (fun x v => Host.reduce IntOp.andi x v reducesTo_S10000x32_S_d0_1 h_S_) main_v4 main_c_1
  main_v5
-- ==== Kernel.lean ====
abbrev S10000x128 : Shape := ⟨2, ![10000, 128]⟩
abbrev S10000x32x16 : Shape := ⟨3, ![10000, 32, 16]⟩
abbrev S10000x32 : Shape := ⟨2, ![10000, 32]⟩
abbrev S272x256 : Shape := ⟨2, ![272, 256]⟩
abbrev S256 : Shape := ⟨1, ![256]⟩
abbrev S128 : Shape := ⟨1, ![128]⟩
abbrev S1x320000 : Shape := ⟨2, ![1, 320000]⟩
abbrev S_ : Shape := ⟨0, ![]⟩
abbrev S1x3584 : Shape := ⟨2, ![1, 3584]⟩
abbrev S320000x16 : Shape := ⟨2, ![320000, 16]⟩
abbrev S1x256 : Shape := ⟨2, ![1, 256]⟩
abbrev S1x128 : Shape := ⟨2, ![1, 128]⟩
abbrev S10000x256 : Shape := ⟨2, ![10000, 256]⟩
abbrev S1000x128 : Shape := ⟨2, ![1000, 128]⟩
abbrev S1000x256 : Shape := ⟨2, ![1000, 256]⟩
abbrev S128x256 : Shape := ⟨2, ![128, 256]⟩
abbrev S1x323584 : Shape := ⟨2, ![1, 323584]⟩
abbrev S323584x128 : Shape := ⟨2, ![323584, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1 : Shape := ⟨1, ![1]⟩
abbrev S1x128x128 : Shape := ⟨3, ![1, 128, 128]⟩
abbrev S128x128 : Shape := ⟨2, ![128, 128]⟩
abbrev S8x256 : Shape := ⟨2, ![8, 256]⟩
abbrev S6400x128 : Shape := ⟨2, ![6400, 128]⟩
abbrev S6400x16 : Shape := ⟨2, ![6400, 16]⟩
abbrev S200x256 : Shape := ⟨2, ![200, 256]⟩
abbrev S16x256 : Shape := ⟨2, ![16, 256]⟩
abbrev S6400x256 : Shape := ⟨2, ![6400, 256]⟩
abbrev S200x32x256 : Shape := ⟨3, ![200, 32, 256]⟩
abbrev S200x1x256 : Shape := ⟨3, ![200, 1, 256]⟩
abbrev S8x128 : Shape := ⟨2, ![8, 128]⟩
abbrev S200x128 : Shape := ⟨2, ![200, 128]⟩
abbrev S1x8x256 : Shape := ⟨3, ![1, 8, 256]⟩
abbrev S1x1x256 : Shape := ⟨3, ![1, 1, 256]⟩
abbrev S200x32x128 : Shape := ⟨3, ![200, 32, 128]⟩
abbrev S1x8x128 : Shape := ⟨3, ![1, 8, 128]⟩

abbrev nBuf : Table → Nat
  | .hbm => 25
  | .local .tc .vmem => 36
  | .shared => 1
  | .local .scVector .vmem => 2
  | _ => 0

abbrev bufTy : (tb : Table) → Fin (nBuf tb) → BufTy
  | .hbm, ⟨0, _⟩ => ⟨S10000x128, .f32⟩
  | .hbm, ⟨1, _⟩ => ⟨S10000x32x16, .f32⟩
  | .hbm, ⟨2, _⟩ => ⟨S10000x32, .i32⟩
  | .hbm, ⟨3, _⟩ => ⟨S272x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S128, .f32⟩
  | .hbm, ⟨8, _⟩ => ⟨S128, .f32⟩
  | .hbm, ⟨9, _⟩ => ⟨S1x320000, .i32⟩
  | .hbm, ⟨10, _⟩ => ⟨S_, .i32⟩
  | .hbm, ⟨11, _⟩ => ⟨S1x3584, .i32⟩
  | .hbm, ⟨12, _⟩ => ⟨S320000x16, .f32⟩
  | .hbm, ⟨13, _⟩ => ⟨S1x256, .f32⟩
  | .hbm, ⟨14, _⟩ => ⟨S1x256, .f32⟩
  | .hbm, ⟨15, _⟩ => ⟨S1x256, .f32⟩
  | .hbm, ⟨16, _⟩ => ⟨S1x128, .f32⟩
  | .hbm, ⟨17, _⟩ => ⟨S1x128, .f32⟩
  | .hbm, ⟨18, _⟩ => ⟨S10000x256, .f32⟩
  | .hbm, ⟨19, _⟩ => ⟨S1x323584, .i32⟩
  | .hbm, ⟨20, _⟩ => ⟨S323584x128, .f32⟩
  | .hbm, ⟨21, _⟩ => ⟨S8x256, .f32⟩
  | .hbm, ⟨22, _⟩ => ⟨S10000x128, .f32⟩
  | .hbm, ⟨23, _⟩ => ⟨S8x128, .f32⟩
  | .hbm, ⟨24, _⟩ => ⟨S10000x128, .f32⟩
  | .local .tc .vmem, ⟨0, _⟩ => ⟨S1000x128, .f32⟩
  | .local .tc .vmem, ⟨1, _⟩ => ⟨S1000x128, .f32⟩
  | .local .tc .vmem, ⟨2, _⟩ => ⟨S272x256, .f32⟩
  | .local .tc .vmem, ⟨3, _⟩ => ⟨S1x256, .f32⟩
  | .local .tc .vmem, ⟨4, _⟩ => ⟨S1000x256, .f32⟩
  | .local .tc .vmem, ⟨5, _⟩ => ⟨S1000x256, .f32⟩
  | .local .tc .vmem, ⟨6, _⟩ => ⟨S6400x128, .f32⟩
  | .local .tc .vmem, ⟨7, _⟩ => ⟨S6400x128, .f32⟩
  | .local .tc .vmem, ⟨8, _⟩ => ⟨S6400x16, .f32⟩
  | .local .tc .vmem, ⟨9, _⟩ => ⟨S6400x16, .f32⟩
  | .local .tc .vmem, ⟨10, _⟩ => ⟨S200x256, .f32⟩
  | .local .tc .vmem, ⟨11, _⟩ => ⟨S200x256, .f32⟩
  | .local .tc .vmem, ⟨12, _⟩ => ⟨S272x256, .f32⟩
  | .local .tc .vmem, ⟨13, _⟩ => ⟨S8x256, .f32⟩
  | .local .tc .vmem, ⟨14, _⟩ => ⟨S6400x128, .f32⟩
  | .local .tc .vmem, ⟨15, _⟩ => ⟨S6400x128, .f32⟩
  | .local .tc .vmem, ⟨16, _⟩ => ⟨S6400x16, .f32⟩
  | .local .tc .vmem, ⟨17, _⟩ => ⟨S6400x16, .f32⟩
  | .local .tc .vmem, ⟨18, _⟩ => ⟨S200x256, .f32⟩
  | .local .tc .vmem, ⟨19, _⟩ => ⟨S200x256, .f32⟩
  | .local .tc .vmem, ⟨20, _⟩ => ⟨S272x256, .f32⟩
  | .local .tc .vmem, ⟨21, _⟩ => ⟨S8x256, .f32⟩
  | .local .tc .vmem, ⟨22, _⟩ => ⟨S1x256, .f32⟩
  | .local .tc .vmem, ⟨23, _⟩ => ⟨S1x256, .f32⟩
  | .local .tc .vmem, ⟨24, _⟩ => ⟨S200x128, .f32⟩
  | .local .tc .vmem, ⟨25, _⟩ => ⟨S200x128, .f32⟩
  | .local .tc .vmem, ⟨26, _⟩ => ⟨S8x128, .f32⟩
  | .local .tc .vmem, ⟨27, _⟩ => ⟨S1000x128, .f32⟩
  | .local .tc .vmem, ⟨28, _⟩ => ⟨S1000x128, .f32⟩
  | .local .tc .vmem, ⟨29, _⟩ => ⟨S1000x128, .f32⟩
  | .local .tc .vmem, ⟨30, _⟩ => ⟨S1000x128, .f32⟩
  | .local .tc .vmem, ⟨31, _⟩ => ⟨S8x128, .f32⟩
  | .local .tc .vmem, ⟨32, _⟩ => ⟨S1x128, .f32⟩
  | .local .tc .vmem, ⟨33, _⟩ => ⟨S1x128, .f32⟩
  | .local .tc .vmem, ⟨34, _⟩ => ⟨S1000x128, .f32⟩
  | .local .tc .vmem, ⟨35, _⟩ => ⟨S1000x128, .f32⟩
  | .shared, ⟨0, _⟩ => ⟨S10000x128, .f32⟩
  | .local .scVector .vmem, ⟨0, _⟩ => ⟨S2x1x128, .i32⟩
  | .local .scVector .vmem, ⟨1, _⟩ => ⟨S2x128x128, .f32⟩
  | _, _ => ⟨S10000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | ⟨11, _⟩ => false
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTables nBuf rfl bufTy 5 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev main_v13 : Ref sig .tc := ⟨.hbm, 24, rfl⟩
abbrev main_arg0_scv : Ref sig .scVector := ⟨.hbm, 0, rfl⟩
abbrev main_v9_scv : Ref sig .scVector := ⟨.hbm, 19, rfl⟩
abbrev main_v10_scv : Ref sig .scVector := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc2_stg0_0 : Ref sig .tc := ⟨.vmem, 6, rfl⟩
abbrev cc2_stg0_1 : Ref sig .tc := ⟨.vmem, 7, rfl⟩
abbrev cc2_stg1_0 : Ref sig .tc := ⟨.vmem, 8, rfl⟩
abbrev cc2_stg1_1 : Ref sig .tc := ⟨.vmem, 9, rfl⟩
abbrev cc2_stg2_0 : Ref sig .tc := ⟨.vmem, 10, rfl⟩
abbrev cc2_stg2_1 : Ref sig .tc := ⟨.vmem, 11, rfl⟩
abbrev cc2_stg3_0 : Ref sig .tc := ⟨.vmem, 12, rfl⟩
abbrev cc2_stg4_0 : Ref sig .tc := ⟨.vmem, 13, rfl⟩
abbrev cc3_stg0_0 : Ref sig .tc := ⟨.vmem, 14, rfl⟩
abbrev cc3_stg0_1 : Ref sig .tc := ⟨.vmem, 15, rfl⟩
abbrev cc3_stg1_0 : Ref sig .tc := ⟨.vmem, 16, rfl⟩
abbrev cc3_stg1_1 : Ref sig .tc := ⟨.vmem, 17, rfl⟩
abbrev cc3_stg2_0 : Ref sig .tc := ⟨.vmem, 18, rfl⟩
abbrev cc3_stg2_1 : Ref sig .tc := ⟨.vmem, 19, rfl⟩
abbrev cc3_stg3_0 : Ref sig .tc := ⟨.vmem, 20, rfl⟩
abbrev cc3_stg4_0 : Ref sig .tc := ⟨.vmem, 21, rfl⟩
abbrev cc3_stg5_0 : Ref sig .tc := ⟨.vmem, 22, rfl⟩
abbrev cc3_stg6_0 : Ref sig .tc := ⟨.vmem, 23, rfl⟩
abbrev cc3_stg7_0 : Ref sig .tc := ⟨.vmem, 24, rfl⟩
abbrev cc3_stg7_1 : Ref sig .tc := ⟨.vmem, 25, rfl⟩
abbrev cc3_stg8_0 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg4_0 : Ref sig .tc := ⟨.vmem, 33, rfl⟩
abbrev cc4_stg5_0 : Ref sig .tc := ⟨.vmem, 34, rfl⟩
abbrev cc4_stg5_1 : Ref sig .tc := ⟨.vmem, 35, rfl⟩
abbrev cc1_scratch0 : Ref sig .scVector := ⟨.shared, 0, rfl⟩
abbrev cc1_scoped1 : Ref sig .scVector := ⟨.vmem, 0, rfl⟩
abbrev cc1_scoped3 : Ref sig .scVector := ⟨.vmem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem4_0 : DmaSem sig := 27
abbrev cc3_sem5_0 : DmaSem sig := 28
abbrev cc3_sem6_0 : DmaSem sig := 29
abbrev cc3_sem7_0 : DmaSem sig := 30
abbrev cc3_sem7_1 : DmaSem sig := 31
abbrev cc3_sem8_0 : DmaSem sig := 32
abbrev cc4_sem0_0 : DmaSem sig := 33
abbrev cc4_sem0_1 : DmaSem sig := 34
abbrev cc4_sem1_0 : DmaSem sig := 35
abbrev cc4_sem1_1 : DmaSem sig := 36
abbrev cc4_sem2_0 : DmaSem sig := 37
abbrev cc4_sem3_0 : DmaSem sig := 38
abbrev cc4_sem4_0 : DmaSem sig := 39
abbrev cc4_sem5_0 : DmaSem sig := 40
abbrev cc4_sem5_1 : DmaSem sig := 41
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S272x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 16], ![false, false]⟩

def k1_off1 : Fin 3 → Nat :=
  let c0_i32_33_r1 : BitVec 32 := 0#32
  let c2_i32_r1 : BitVec 32 := 2#32
  let v36_r1 : BitVec 32 := Scalar.remui c0_i32_33_r1 c2_i32_r1
  let c0_i32_36_r1 : BitVec 32 := 0#32
  let c0_i32_37_r1 : BitVec 32 := 0#32
  ![v36_r1.toNat, 0, 0]
def k1_off2 (i : grid1.Coords) : Fin 2 → Nat :=
  let c0_i32_38_r1 : BitVec 32 := 0#32
  let c128_i32_r1 : BitVec 32 := 128#32
  let c0_i32_4_r1 : BitVec 32 := 0#32
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c1_i32_2 : BitVec 32 := 1#32
  let v7 : BitVec 32 := Scalar.muli v6 c1_i32_2
  let v10_r1 : BitVec 32 := Scalar.addi c0_i32_4_r1 v7
  let c79_i32_34_r1 : BitVec 32 := 79#32
  let v37_r1 : BitVec 32 := Scalar.muli v10_r1 c79_i32_34_r1
  let c0_i32_35_r1 : BitVec 32 := 0#32
  let v38_r1 : BitVec 32 := Scalar.addi v37_r1 c0_i32_35_r1
  let v39_r1 : BitVec 32 := Scalar.muli c128_i32_r1 v38_r1
  ![0, v39_r1.toNat]
def k1_off3 : Fin 1 → Nat :=
  let c0_i32_33_r1 : BitVec 32 := 0#32
  let c2_i32_r1 : BitVec 32 := 2#32
  let v36_r1 : BitVec 32 := Scalar.remui c0_i32_33_r1 c2_i32_r1
  ![v36_r1.toNat]
@[reducible] def k1_t1_loop : Scf.Loop 32 :=
  let c0_i32_49_r1 : BitVec 32 := 0#32
  let c79_i32_50_r1 : BitVec 32 := 79#32
  let v49_r1 : BitVec 32 := Scalar.addi c0_i32_49_r1 c79_i32_50_r1
  let c1_i32_51_r1 : BitVec 32 := 1#32
  ⟨c0_i32_49_r1, v49_r1, c1_i32_51_r1⟩
def k1_off4 (arg7_r1 : BitVec 32) : Fin 3 → Nat :=
  let c2_i32_177_r1 : BitVec 32 := 2#32
  let v208_r1 : BitVec 32 := Scalar.remui arg7_r1 c2_i32_177_r1
  let c0_i32_180_r1 : BitVec 32 := 0#32
  let c0_i32_181_r1 : BitVec 32 := 0#32
  ![v208_r1.toNat, 0, 0]
def k1_cond2 (i : grid1.Coords) (k1_t1 : Fin k1_t1_loop.trips) (arg12_r1 : BitVec 32) : BitVec 1 :=
  let c0_i32_103_r1 : BitVec 32 := 0#32
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c1_i32_2 : BitVec 32 := 1#32
  let v7 : BitVec 32 := Scalar.muli v6 c1_i32_2
  let v102_r1 : BitVec 32 := Scalar.addi c0_i32_103_r1 v7
  let c79_i32_135_r1 : BitVec 32 := 79#32
  let v131_r1 : BitVec 32 := Scalar.muli v102_r1 c79_i32_135_r1
  let c0_i32_104_r1 : BitVec 32 := 0#32
  let v103_r1 : BitVec 32 := Scalar.addi arg12_r1 c0_i32_104_r1
  let v132_r1 : BitVec 32 := Scalar.addi v131_r1 v103_r1
  let c0_i32_123_r1 : BitVec 32 := 0#32
  let v120_r1 : BitVec 32 := Scalar.addi c0_i32_123_r1 v7
  let c79_i32_136_r1 : BitVec 32 := 79#32
  let v133_r1 : BitVec 32 := Scalar.muli v120_r1 c79_i32_136_r1
  let true_116_r1 : BitVec 1 := 1#1
  let c1_i32_115_r1 : BitVec 32 := 1#32
  let v113_r1 : BitVec 32 := Scalar.addi arg12_r1 c1_i32_115_r1
  let v114_r1 : BitVec 32 := Scalar.select true_116_r1 v113_r1 arg12_r1
  let c79_i32_117_r1 : BitVec 32 := 79#32
  let v115_r1 : BitVec 1 := Scalar.cmpi .eq v114_r1 c79_i32_117_r1
  let c0_i32_118_r1 : BitVec 32 := 0#32
  let v116_r1 : BitVec 32 := Scalar.select v115_r1 c0_i32_118_r1 v114_r1
  let c0_i32_124_r1 : BitVec 32 := 0#32
  let v121_r1 : BitVec 32 := Scalar.addi v116_r1 c0_i32_124_r1
  let v134_r1 : BitVec 32 := Scalar.addi v133_r1 v121_r1
  let v135_r1 : BitVec 1 := Scalar.cmpi .ne v132_r1 v134_r1
  let c0_i32_49_r1 : BitVec 32 := 0#32
  let c1_i32_51_r1 : BitVec 32 := 1#32
  let arg6_r1 : BitVec 32 := Scf.iv c0_i32_49_r1 c1_i32_51_r1 k1_t1
  let c78_i32_137_r1 : BitVec 32 := 78#32
  let v136_r1 : BitVec 1 := Scalar.cmpi .sge arg6_r1 c78_i32_137_r1
  let true_138_r1 : BitVec 1 := 1#1
  let v137_r1 : BitVec 1 := Scalar.xori v136_r1 true_138_r1
  let v138_r1 : BitVec 1 := Scalar.andi v135_r1 v137_r1
  let true_139_r1 : BitVec 1 := 1#1
  let v139_r1 : BitVec 1 := Scalar.andi v138_r1 true_139_r1
  let v140_r1 : BitVec 32 := Scalar.extui v139_r1
  let c0_i32_140_r1 : BitVec 32 := 0#32
  let v141_r1 : BitVec 1 := Scalar.cmpi .ne v140_r1 c0_i32_140_r1
  v141_r1

def k1_off5 (i : grid1.Coords) (arg12_r1 : BitVec 32) : Fin 2 → Nat :=
  let c0_i32_182_r1 : BitVec 32 := 0#32
  let c128_i32_179_r1 : BitVec 32 := 128#32
  let c0_i32_123_r1 : BitVec 32 := 0#32
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c1_i32_2 : BitVec 32 := 1#32
  let v7 : BitVec 32 := Scalar.muli v6 c1_i32_2
  let v120_r1 : BitVec 32 := Scalar.addi c0_i32_123_r1 v7
  let c79_i32_178_r1 : BitVec 32 := 79#32
  let v209_r1 : BitVec 32 := Scalar.muli v120_r1 c79_i32_178_r1
  let true_116_r1 : BitVec 1 := 1#1
  let c1_i32_115_r1 : BitVec 32 := 1#32
  let v113_r1 : BitVec 32 := Scalar.addi arg12_r1 c1_i32_115_r1
  let v114_r1 : BitVec 32 := Scalar.select true_116_r1 v113_r1 arg12_r1
  let c79_i32_117_r1 : BitVec 32 := 79#32
  let v115_r1 : BitVec 1 := Scalar.cmpi .eq v114_r1 c79_i32_117_r1
  let c0_i32_118_r1 : BitVec 32 := 0#32
  let v116_r1 : BitVec 32 := Scalar.select v115_r1 c0_i32_118_r1 v114_r1
  let c0_i32_124_r1 : BitVec 32 := 0#32
  let v121_r1 : BitVec 32 := Scalar.addi v116_r1 c0_i32_124_r1
  let v210_r1 : BitVec 32 := Scalar.addi v209_r1 v121_r1
  let v211_r1 : BitVec 32 := Scalar.muli c128_i32_179_r1 v210_r1
  ![0, v211_r1.toNat]
def k1_off6 (arg7_r1 : BitVec 32) : Fin 1 → Nat :=
  let c2_i32_177_r1 : BitVec 32 := 2#32
  let v208_r1 : BitVec 32 := Scalar.remui arg7_r1 c2_i32_177_r1
  ![v208_r1.toNat]
def k1_off7 (arg8_r1 : BitVec 32) : Fin 3 → Nat :=
  let c2_i32_179_r1 : BitVec 32 := 2#32
  let v211_r1 : BitVec 32 := Scalar.remui arg8_r1 c2_i32_179_r1
  let c0_i32_180_r1 : BitVec 32 := 0#32
  let c0_i32_181_r1 : BitVec 32 := 0#32
  ![v211_r1.toNat, 0, 0]
def k1_cond3 (i : grid1.Coords) (k1_t1 : Fin k1_t1_loop.trips) (arg12_r1 : BitVec 32) : BitVec 1 :=
  let c0_i32_103_r1 : BitVec 32 := 0#32
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c1_i32_2 : BitVec 32 := 1#32
  let v7 : BitVec 32 := Scalar.muli v6 c1_i32_2
  let v102_r1 : BitVec 32 := Scalar.addi c0_i32_103_r1 v7
  let c79_i32_135_r1 : BitVec 32 := 79#32
  let v131_r1 : BitVec 32 := Scalar.muli v102_r1 c79_i32_135_r1
  let c0_i32_104_r1 : BitVec 32 := 0#32
  let v103_r1 : BitVec 32 := Scalar.addi arg12_r1 c0_i32_104_r1
  let v132_r1 : BitVec 32 := Scalar.addi v131_r1 v103_r1
  let c0_i32_113_r1 : BitVec 32 := 0#32
  let v111_r1 : BitVec 32 := Scalar.addi c0_i32_113_r1 v7
  let c79_i32_147_r1 : BitVec 32 := 79#32
  let v153_r1 : BitVec 32 := Scalar.muli v111_r1 c79_i32_147_r1
  let true_106_r1 : BitVec 1 := 1#1
  let c1_i32_105_r1 : BitVec 32 := 1#32
  let v104_r1 : BitVec 32 := Scalar.subi arg12_r1 c1_i32_105_r1
  let v105_r1 : BitVec 32 := Scalar.select true_106_r1 v104_r1 arg12_r1
  let c_m1_i32_107_r1 : BitVec 32 := 4294967295#32
  let v106_r1 : BitVec 1 := Scalar.cmpi .eq v105_r1 c_m1_i32_107_r1
  let c78_i32_108_r1 : BitVec 32 := 78#32
  let v107_r1 : BitVec 32 := Scalar.select v106_r1 c78_i32_108_r1 v105_r1
  let c0_i32_114_r1 : BitVec 32 := 0#32
  let v112_r1 : BitVec 32 := Scalar.addi v107_r1 c0_i32_114_r1
  let v154_r1 : BitVec 32 := Scalar.addi v153_r1 v112_r1
  let v155_r1 : BitVec 1 := Scalar.cmpi .ne v132_r1 v154_r1
  let c0_i32_49_r1 : BitVec 32 := 0#32
  let c1_i32_51_r1 : BitVec 32 := 1#32
  let arg6_r1 : BitVec 32 := Scf.iv c0_i32_49_r1 c1_i32_51_r1 k1_t1
  let c0_i32_101_r1 : BitVec 32 := 0#32
  let v100_r1 : BitVec 1 := Scalar.cmpi .eq arg6_r1 c0_i32_101_r1
  let v156_r1 : BitVec 1 := Scalar.ori v155_r1 v100_r1
  let c0_i32_148_r1 : BitVec 32 := 0#32
  let v157_r1 : BitVec 1 := Scalar.cmpi .sge arg6_r1 c0_i32_148_r1
  let v158_r1 : BitVec 1 := Scalar.andi v156_r1 v157_r1
  let v159_r1 : BitVec 32 := Scalar.extui v158_r1
  let c0_i32_149_r1 : BitVec 32 := 0#32
  let v160_r1 : BitVec 1 := Scalar.cmpi .ne v159_r1 c0_i32_149_r1
  v160_r1

def k1_off8 (i : grid1.Coords) (arg12_r1 : BitVec 32) : Fin 2 → Nat :=
  let c0_i32_182_r1 : BitVec 32 := 0#32
  let c128_i32_178_r1 : BitVec 32 := 128#32
  let c0_i32_103_r1 : BitVec 32 := 0#32
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c1_i32_2 : BitVec 32 := 1#32
  let v7 : BitVec 32 := Scalar.muli v6 c1_i32_2
  let v102_r1 : BitVec 32 := Scalar.addi c0_i32_103_r1 v7
  let c79_i32_177_r1 : BitVec 32 := 79#32
  let v208_r1 : BitVec 32 := Scalar.muli v102_r1 c79_i32_177_r1
  let c0_i32_104_r1 : BitVec 32 := 0#32
  let v103_r1 : BitVec 32 := Scalar.addi arg12_r1 c0_i32_104_r1
  let v209_r1 : BitVec 32 := Scalar.addi v208_r1 v103_r1
  let v210_r1 : BitVec 32 := Scalar.muli c128_i32_178_r1 v209_r1
  ![0, v210_r1.toNat]
def k1_off9 (arg8_r1 : BitVec 32) : Fin 1 → Nat :=
  let c2_i32_179_r1 : BitVec 32 := 2#32
  let v211_r1 : BitVec 32 := Scalar.remui arg8_r1 c2_i32_179_r1
  ![v211_r1.toNat]
def k1_off10 (arg9_r1 : BitVec 32) : Fin 3 → Nat :=
  let c2_i32_154_r1 : BitVec 32 := 2#32
  let v170_r1 : BitVec 32 := Scalar.remui arg9_r1 c2_i32_154_r1
  let c0_i32_177_r2 : BitVec 32 := 0#32
  let c0_i32_178_r2 : BitVec 32 := 0#32
  ![v170_r1.toNat, 0, 0]

def k1_chk2 (arg9_r1 : BitVec 32) : Prop :=
  (∀ a, (k1_off10 arg9_r1) a + S1x128x128.size a ≤ S2x128x128.size a)
theorem k1_off10_inb : ∀ (arg9_r1 : BitVec 32) (k1_hw2 : k1_chk2 arg9_r1), ∀ a, (k1_off10 arg9_r1) a + S1x128x128.size a ≤ S2x128x128.size a := fun arg9_r1 k1_hw2 => k1_hw2

def k1_off11 (arg8_r1 : BitVec 32) : Fin 3 → Nat :=
  let c2_i32_153_r1 : BitVec 32 := 2#32
  let v169_r1 : BitVec 32 := Scalar.remui arg8_r1 c2_i32_153_r1
  let c0_i32_179_r2 : BitVec 32 := 0#32
  let c0_i32_180_r2 : BitVec 32 := 0#32
  ![v169_r1.toNat, 0, 0]

def k1_chk3 (arg8_r1 : BitVec 32) : Prop :=
  (∀ a, (k1_off11 arg8_r1) a + S1x1x128.size a ≤ S2x1x128.size a)
theorem k1_off11_inb : ∀ (arg8_r1 : BitVec 32) (k1_hw3 : k1_chk3 arg8_r1), ∀ a, (k1_off11 arg8_r1) a + S1x1x128.size a ≤ S2x1x128.size a := fun arg8_r1 k1_hw3 => k1_hw3

def k1_off12 (arg9_r1 : BitVec 32) : Fin 3 → Nat :=
  let c2_i32_177_r1 : BitVec 32 := 2#32
  let v208_r1 : BitVec 32 := Scalar.remui arg9_r1 c2_i32_177_r1
  let c0_i32_180_r1 : BitVec 32 := 0#32
  let c0_i32_181_r1 : BitVec 32 := 0#32
  ![v208_r1.toNat, 0, 0]
def k1_cond6 (i : grid1.Coords) (k1_t1 : Fin k1_t1_loop.trips) (arg12_r1 : BitVec 32) : BitVec 1 :=
  let c0_i32_103_r1 : BitVec 32 := 0#32
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c1_i32_2 : BitVec 32 := 1#32
  let v7 : BitVec 32 := Scalar.muli v6 c1_i32_2
  let v102_r1 : BitVec 32 := Scalar.addi c0_i32_103_r1 v7
  let c79_i32_143_r1 : BitVec 32 := 79#32
  let v145_r1 : BitVec 32 := Scalar.muli v102_r1 c79_i32_143_r1
  let c0_i32_104_r1 : BitVec 32 := 0#32
  let v103_r1 : BitVec 32 := Scalar.addi arg12_r1 c0_i32_104_r1
  let v146_r1 : BitVec 32 := Scalar.addi v145_r1 v103_r1
  let c0_i32_123_r1 : BitVec 32 := 0#32
  let v120_r1 : BitVec 32 := Scalar.addi c0_i32_123_r1 v7
  let c79_i32_144_r1 : BitVec 32 := 79#32
  let v147_r1 : BitVec 32 := Scalar.muli v120_r1 c79_i32_144_r1
  let true_116_r1 : BitVec 1 := 1#1
  let c1_i32_115_r1 : BitVec 32 := 1#32
  let v113_r1 : BitVec 32 := Scalar.addi arg12_r1 c1_i32_115_r1
  let v114_r1 : BitVec 32 := Scalar.select true_116_r1 v113_r1 arg12_r1
  let c79_i32_117_r1 : BitVec 32 := 79#32
  let v115_r1 : BitVec 1 := Scalar.cmpi .eq v114_r1 c79_i32_117_r1
  let c0_i32_118_r1 : BitVec 32 := 0#32
  let v116_r1 : BitVec 32 := Scalar.select v115_r1 c0_i32_118_r1 v114_r1
  let c0_i32_124_r1 : BitVec 32 := 0#32
  let v121_r1 : BitVec 32 := Scalar.addi v116_r1 c0_i32_124_r1
  let v148_r1 : BitVec 32 := Scalar.addi v147_r1 v121_r1
  let v176_r1 : BitVec 1 := Scalar.cmpi .ne v146_r1 v148_r1
  let c0_i32_49_r1 : BitVec 32 := 0#32
  let c1_i32_51_r1 : BitVec 32 := 1#32
  let arg6_r1 : BitVec 32 := Scf.iv c0_i32_49_r1 c1_i32_51_r1 k1_t1
  let c78_i32_102_r1 : BitVec 32 := 78#32
  let v101_r1 : BitVec 1 := Scalar.cmpi .eq arg6_r1 c78_i32_102_r1
  let v177_r1 : BitVec 1 := Scalar.ori v176_r1 v101_r1
  let v178_r1 : BitVec 32 := Scalar.extui v177_r1
  let c0_i32_157_r1 : BitVec 32 := 0#32
  let v179_r1 : BitVec 1 := Scalar.cmpi .ne v178_r1 c0_i32_157_r1
  v179_r1

def k1_off13 (i : grid1.Coords) (arg12_r1 : BitVec 32) : Fin 2 → Nat :=
  let c128_i32_179_r1 : BitVec 32 := 128#32
  let c0_i32_103_r1 : BitVec 32 := 0#32
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c1_i32_2 : BitVec 32 := 1#32
  let v7 : BitVec 32 := Scalar.muli v6 c1_i32_2
  let v102_r1 : BitVec 32 := Scalar.addi c0_i32_103_r1 v7
  let c79_i32_178_r1 : BitVec 32 := 79#32
  let v209_r1 : BitVec 32 := Scalar.muli v102_r1 c79_i32_178_r1
  let c0_i32_104_r1 : BitVec 32 := 0#32
  let v103_r1 : BitVec 32 := Scalar.addi arg12_r1 c0_i32_104_r1
  let v210_r1 : BitVec 32 := Scalar.addi v209_r1 v103_r1
  let v211_r1 : BitVec 32 := Scalar.muli c128_i32_179_r1 v210_r1
  let c0_i32_182_r1 : BitVec 32 := 0#32
  ![v211_r1.toNat, 0]
def k1_off14 (arg9_r1 : BitVec 32) : Fin 1 → Nat :=
  let c2_i32_177_r1 : BitVec 32 := 2#32
  let v208_r1 : BitVec 32 := Scalar.remui arg9_r1 c2_i32_177_r1
  ![v208_r1.toNat]
def k1_off15 (arg10_r1 : BitVec 32) : Fin 3 → Nat :=
  let c2_i32_177_r1 : BitVec 32 := 2#32
  let v208_r1 : BitVec 32 := Scalar.remui arg10_r1 c2_i32_177_r1
  let c0_i32_180_r1 : BitVec 32 := 0#32
  let c0_i32_181_r1 : BitVec 32 := 0#32
  ![v208_r1.toNat, 0, 0]
def k1_cond8 (i : grid1.Coords) (k1_t1 : Fin k1_t1_loop.trips) (arg12_r1 : BitVec 32) : BitVec 1 :=
  let c0_i32_103_r1 : BitVec 32 := 0#32
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c1_i32_2 : BitVec 32 := 1#32
  let v7 : BitVec 32 := Scalar.muli v6 c1_i32_2
  let v102_r1 : BitVec 32 := Scalar.addi c0_i32_103_r1 v7
  let c79_i32_143_r1 : BitVec 32 := 79#32
  let v145_r1 : BitVec 32 := Scalar.muli v102_r1 c79_i32_143_r1
  let c0_i32_104_r1 : BitVec 32 := 0#32
  let v103_r1 : BitVec 32 := Scalar.addi arg12_r1 c0_i32_104_r1
  let v146_r1 : BitVec 32 := Scalar.addi v145_r1 v103_r1
  let c0_i32_113_r1 : BitVec 32 := 0#32
  let v111_r1 : BitVec 32 := Scalar.addi c0_i32_113_r1 v7
  let c79_i32_150_r1 : BitVec 32 := 79#32
  let v161_r1 : BitVec 32 := Scalar.muli v111_r1 c79_i32_150_r1
  let true_106_r1 : BitVec 1 := 1#1
  let c1_i32_105_r1 : BitVec 32 := 1#32
  let v104_r1 : BitVec 32 := Scalar.subi arg12_r1 c1_i32_105_r1
  let v105_r1 : BitVec 32 := Scalar.select true_106_r1 v104_r1 arg12_r1
  let c_m1_i32_107_r1 : BitVec 32 := 4294967295#32
  let v106_r1 : BitVec 1 := Scalar.cmpi .eq v105_r1 c_m1_i32_107_r1
  let c78_i32_108_r1 : BitVec 32 := 78#32
  let v107_r1 : BitVec 32 := Scalar.select v106_r1 c78_i32_108_r1 v105_r1
  let c0_i32_114_r1 : BitVec 32 := 0#32
  let v112_r1 : BitVec 32 := Scalar.addi v107_r1 c0_i32_114_r1
  let v162_r1 : BitVec 32 := Scalar.addi v161_r1 v112_r1
  let v189_r1 : BitVec 1 := Scalar.cmpi .ne v146_r1 v162_r1
  let c0_i32_49_r1 : BitVec 32 := 0#32
  let c1_i32_51_r1 : BitVec 32 := 1#32
  let arg6_r1 : BitVec 32 := Scf.iv c0_i32_49_r1 c1_i32_51_r1 k1_t1
  let c0_i32_101_r1 : BitVec 32 := 0#32
  let v100_r1 : BitVec 1 := Scalar.cmpi .eq arg6_r1 c0_i32_101_r1
  let true_163_r1 : BitVec 1 := 1#1
  let v190_r1 : BitVec 1 := Scalar.xori v100_r1 true_163_r1
  let v191_r1 : BitVec 1 := Scalar.andi v189_r1 v190_r1
  let v192_r1 : BitVec 32 := Scalar.extui v191_r1
  let c0_i32_164_r1 : BitVec 32 := 0#32
  let v193_r1 : BitVec 1 := Scalar.cmpi .ne v192_r1 c0_i32_164_r1
  v193_r1

def k1_off16 (i : grid1.Coords) (arg12_r1 : BitVec 32) : Fin 2 → Nat :=
  let c128_i32_179_r1 : BitVec 32 := 128#32
  let c0_i32_113_r1 : BitVec 32 := 0#32
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c1_i32_2 : BitVec 32 := 1#32
  let v7 : BitVec 32 := Scalar.muli v6 c1_i32_2
  let v111_r1 : BitVec 32 := Scalar.addi c0_i32_113_r1 v7
  let c79_i32_178_r1 : BitVec 32 := 79#32
  let v209_r1 : BitVec 32 := Scalar.muli v111_r1 c79_i32_178_r1
  let true_106_r1 : BitVec 1 := 1#1
  let c1_i32_105_r1 : BitVec 32 := 1#32
  let v104_r1 : BitVec 32 := Scalar.subi arg12_r1 c1_i32_105_r1
  let v105_r1 : BitVec 32 := Scalar.select true_106_r1 v104_r1 arg12_r1
  let c_m1_i32_107_r1 : BitVec 32 := 4294967295#32
  let v106_r1 : BitVec 1 := Scalar.cmpi .eq v105_r1 c_m1_i32_107_r1
  let c78_i32_108_r1 : BitVec 32 := 78#32
  let v107_r1 : BitVec 32 := Scalar.select v106_r1 c78_i32_108_r1 v105_r1
  let c0_i32_114_r1 : BitVec 32 := 0#32
  let v112_r1 : BitVec 32 := Scalar.addi v107_r1 c0_i32_114_r1
  let v210_r1 : BitVec 32 := Scalar.addi v209_r1 v112_r1
  let v211_r1 : BitVec 32 := Scalar.muli c128_i32_179_r1 v210_r1
  let c0_i32_182_r1 : BitVec 32 := 0#32
  ![v211_r1.toNat, 0]
def k1_off17 (arg10_r1 : BitVec 32) : Fin 1 → Nat :=
  let c2_i32_177_r1 : BitVec 32 := 2#32
  let v208_r1 : BitVec 32 := Scalar.remui arg10_r1 c2_i32_177_r1
  ![v208_r1.toNat]

def k1_chk1 (i : grid1.Coords) (k1_t1 : Fin k1_t1_loop.trips) (arg7_r1 : BitVec 32) (arg8_r1 : BitVec 32) (arg9_r1 : BitVec 32) (arg10_r1 : BitVec 32) (arg12_r1 : BitVec 32) : Prop :=
  (∀ (k1_h2 : k1_cond2 i k1_t1 arg12_r1 = 1#1), ∀ a, (k1_off4 arg7_r1) a + S1x1x128.size a ≤ S2x1x128.size a) ∧
  (∀ (k1_h2 : k1_cond2 i k1_t1 arg12_r1 = 1#1), ∀ a, (k1_off5 i arg12_r1) a + S1x128.size a ≤ S1x323584.size a) ∧
  (∀ (k1_h2 : k1_cond2 i k1_t1 arg12_r1 = 1#1), ∀ a, (k1_off6 arg7_r1) a + S1.size a ≤ S2.size a) ∧
  (∀ (k1_h3 : k1_cond3 i k1_t1 arg12_r1 = 1#1), ∀ a, (k1_off7 arg8_r1) a + S1x1x128.size a ≤ S2x1x128.size a) ∧
  (∀ (k1_h3 : k1_cond3 i k1_t1 arg12_r1 = 1#1), ∀ a, (k1_off8 i arg12_r1) a + S1x128.size a ≤ S1x323584.size a) ∧
  (∀ (k1_h3 : k1_cond3 i k1_t1 arg12_r1 = 1#1), ∀ a, (k1_off9 arg8_r1) a + S1.size a ≤ S2.size a) ∧
  (∀ (k1_h6 : k1_cond6 i k1_t1 arg12_r1 = 1#1), ∀ a, (k1_off12 arg9_r1) a + S1x128x128.size a ≤ S2x128x128.size a) ∧
  (∀ (k1_h6 : k1_cond6 i k1_t1 arg12_r1 = 1#1), ∀ a, (k1_off13 i arg12_r1) a + S128x128.size a ≤ S323584x128.size a) ∧
  (∀ (k1_h6 : k1_cond6 i k1_t1 arg12_r1 = 1#1), ∀ a, (k1_off14 arg9_r1) a + S1.size a ≤ S2.size a) ∧
  (∀ (k1_h8 : k1_cond8 i k1_t1 arg12_r1 = 1#1), ∀ a, (k1_off15 arg10_r1) a + S1x128x128.size a ≤ S2x128x128.size a) ∧
  (∀ (k1_h8 : k1_cond8 i k1_t1 arg12_r1 = 1#1), ∀ a, (k1_off16 i arg12_r1) a + S128x128.size a ≤ S323584x128.size a) ∧
  (∀ (k1_h8 : k1_cond8 i k1_t1 arg12_r1 = 1#1), ∀ a, (k1_off17 arg10_r1) a + S1.size a ≤ S2.size a)
theorem k1_off4_inb : ∀ (i : grid1.Coords) (k1_t1 : Fin k1_t1_loop.trips) (arg7_r1 : BitVec 32) (arg8_r1 : BitVec 32) (arg9_r1 : BitVec 32) (arg10_r1 : BitVec 32) (arg12_r1 : BitVec 32) (k1_hw1 : k1_chk1 i k1_t1 arg7_r1 arg8_r1 arg9_r1 arg10_r1 arg12_r1), ∀ (k1_h2 : k1_cond2 i k1_t1 arg12_r1 = 1#1), ∀ a, (k1_off4 arg7_r1) a + S1x1x128.size a ≤ S2x1x128.size a := fun i k1_t1 arg7_r1 arg8_r1 arg9_r1 arg10_r1 arg12_r1 k1_hw1 k1_h2 => k1_hw1.1 k1_h2
theorem k1_off5_inb : ∀ (i : grid1.Coords) (k1_t1 : Fin k1_t1_loop.trips) (arg7_r1 : BitVec 32) (arg8_r1 : BitVec 32) (arg9_r1 : BitVec 32) (arg10_r1 : BitVec 32) (arg12_r1 : BitVec 32) (k1_hw1 : k1_chk1 i k1_t1 arg7_r1 arg8_r1 arg9_r1 arg10_r1 arg12_r1), ∀ (k1_h2 : k1_cond2 i k1_t1 arg12_r1 = 1#1), ∀ a, (k1_off5 i arg12_r1) a + S1x128.size a ≤ S1x323584.size a := fun i k1_t1 arg7_r1 arg8_r1 arg9_r1 arg10_r1 arg12_r1 k1_hw1 k1_h2 => k1_hw1.2.1 k1_h2
theorem k1_off6_inb : ∀ (i : grid1.Coords) (k1_t1 : Fin k1_t1_loop.trips) (arg7_r1 : BitVec 32) (arg8_r1 : BitVec 32) (arg9_r1 : BitVec 32) (arg10_r1 : BitVec 32) (arg12_r1 : BitVec 32) (k1_hw1 : k1_chk1 i k1_t1 arg7_r1 arg8_r1 arg9_r1 arg10_r1 arg12_r1), ∀ (k1_h2 : k1_cond2 i k1_t1 arg12_r1 = 1#1), ∀ a, (k1_off6 arg7_r1) a + S1.size a ≤ S2.size a := fun i k1_t1 arg7_r1 arg8_r1 arg9_r1 arg10_r1 arg12_r1 k1_hw1 k1_h2 => k1_hw1.2.2.1 k1_h2
theorem k1_off7_inb : ∀ (i : grid1.Coords) (k1_t1 : Fin k1_t1_loop.trips) (arg7_r1 : BitVec 32) (arg8_r1 : BitVec 32) (arg9_r1 : BitVec 32) (arg10_r1 : BitVec 32) (arg12_r1 : BitVec 32) (k1_hw1 : k1_chk1 i k1_t1 arg7_r1 arg8_r1 arg9_r1 arg10_r1 arg12_r1), ∀ (k1_h3 : k1_cond3 i k1_t1 arg12_r1 = 1#1), ∀ a, (k1_off7 arg8_r1) a + S1x1x128.size a ≤ S2x1x128.size a := fun i k1_t1 arg7_r1 arg8_r1 arg9_r1 arg10_r1 arg12_r1 k1_hw1 k1_h3 => k1_hw1.2.2.2.1 k1_h3
theorem k1_off8_inb : ∀ (i : grid1.Coords) (k1_t1 : Fin k1_t1_loop.trips) (arg7_r1 : BitVec 32) (arg8_r1 : BitVec 32) (arg9_r1 : BitVec 32) (arg10_r1 : BitVec 32) (arg12_r1 : BitVec 32) (k1_hw1 : k1_chk1 i k1_t1 arg7_r1 arg8_r1 arg9_r1 arg10_r1 arg12_r1), ∀ (k1_h3 : k1_cond3 i k1_t1 arg12_r1 = 1#1), ∀ a, (k1_off8 i arg12_r1) a + S1x128.size a ≤ S1x323584.size a := fun i k1_t1 arg7_r1 arg8_r1 arg9_r1 arg10_r1 arg12_r1 k1_hw1 k1_h3 => k1_hw1.2.2.2.2.1 k1_h3
theorem k1_off9_inb : ∀ (i : grid1.Coords) (k1_t1 : Fin k1_t1_loop.trips) (arg7_r1 : BitVec 32) (arg8_r1 : BitVec 32) (arg9_r1 : BitVec 32) (arg10_r1 : BitVec 32) (arg12_r1 : BitVec 32) (k1_hw1 : k1_chk1 i k1_t1 arg7_r1 arg8_r1 arg9_r1 arg10_r1 arg12_r1), ∀ (k1_h3 : k1_cond3 i k1_t1 arg12_r1 = 1#1), ∀ a, (k1_off9 arg8_r1) a + S1.size a ≤ S2.size a := fun i k1_t1 arg7_r1 arg8_r1 arg9_r1 arg10_r1 arg12_r1 k1_hw1 k1_h3 => k1_hw1.2.2.2.2.2.1 k1_h3
theorem k1_off12_inb : ∀ (i : grid1.Coords) (k1_t1 : Fin k1_t1_loop.trips) (arg7_r1 : BitVec 32) (arg8_r1 : BitVec 32) (arg9_r1 : BitVec 32) (arg10_r1 : BitVec 32) (arg12_r1 : BitVec 32) (k1_hw1 : k1_chk1 i k1_t1 arg7_r1 arg8_r1 arg9_r1 arg10_r1 arg12_r1), ∀ (k1_h6 : k1_cond6 i k1_t1 arg12_r1 = 1#1), ∀ a, (k1_off12 arg9_r1) a + S1x128x128.size a ≤ S2x128x128.size a := fun i k1_t1 arg7_r1 arg8_r1 arg9_r1 arg10_r1 arg12_r1 k1_hw1 k1_h6 => k1_hw1.2.2.2.2.2.2.1 k1_h6
theorem k1_off13_inb : ∀ (i : grid1.Coords) (k1_t1 : Fin k1_t1_loop.trips) (arg7_r1 : BitVec 32) (arg8_r1 : BitVec 32) (arg9_r1 : BitVec 32) (arg10_r1 : BitVec 32) (arg12_r1 : BitVec 32) (k1_hw1 : k1_chk1 i k1_t1 arg7_r1 arg8_r1 arg9_r1 arg10_r1 arg12_r1), ∀ (k1_h6 : k1_cond6 i k1_t1 arg12_r1 = 1#1), ∀ a, (k1_off13 i arg12_r1) a + S128x128.size a ≤ S323584x128.size a := fun i k1_t1 arg7_r1 arg8_r1 arg9_r1 arg10_r1 arg12_r1 k1_hw1 k1_h6 => k1_hw1.2.2.2.2.2.2.2.1 k1_h6
theorem k1_off14_inb : ∀ (i : grid1.Coords) (k1_t1 : Fin k1_t1_loop.trips) (arg7_r1 : BitVec 32) (arg8_r1 : BitVec 32) (arg9_r1 : BitVec 32) (arg10_r1 : BitVec 32) (arg12_r1 : BitVec 32) (k1_hw1 : k1_chk1 i k1_t1 arg7_r1 arg8_r1 arg9_r1 arg10_r1 arg12_r1), ∀ (k1_h6 : k1_cond6 i k1_t1 arg12_r1 = 1#1), ∀ a, (k1_off14 arg9_r1) a + S1.size a ≤ S2.size a := fun i k1_t1 arg7_r1 arg8_r1 arg9_r1 arg10_r1 arg12_r1 k1_hw1 k1_h6 => k1_hw1.2.2.2.2.2.2.2.2.1 k1_h6
theorem k1_off15_inb : ∀ (i : grid1.Coords) (k1_t1 : Fin k1_t1_loop.trips) (arg7_r1 : BitVec 32) (arg8_r1 : BitVec 32) (arg9_r1 : BitVec 32) (arg10_r1 : BitVec 32) (arg12_r1 : BitVec 32) (k1_hw1 : k1_chk1 i k1_t1 arg7_r1 arg8_r1 arg9_r1 arg10_r1 arg12_r1), ∀ (k1_h8 : k1_cond8 i k1_t1 arg12_r1 = 1#1), ∀ a, (k1_off15 arg10_r1) a + S1x128x128.size a ≤ S2x128x128.size a := fun i k1_t1 arg7_r1 arg8_r1 arg9_r1 arg10_r1 arg12_r1 k1_hw1 k1_h8 => k1_hw1.2.2.2.2.2.2.2.2.2.1 k1_h8
theorem k1_off16_inb : ∀ (i : grid1.Coords) (k1_t1 : Fin k1_t1_loop.trips) (arg7_r1 : BitVec 32) (arg8_r1 : BitVec 32) (arg9_r1 : BitVec 32) (arg10_r1 : BitVec 32) (arg12_r1 : BitVec 32) (k1_hw1 : k1_chk1 i k1_t1 arg7_r1 arg8_r1 arg9_r1 arg10_r1 arg12_r1), ∀ (k1_h8 : k1_cond8 i k1_t1 arg12_r1 = 1#1), ∀ a, (k1_off16 i arg12_r1) a + S128x128.size a ≤ S323584x128.size a := fun i k1_t1 arg7_r1 arg8_r1 arg9_r1 arg10_r1 arg12_r1 k1_hw1 k1_h8 => k1_hw1.2.2.2.2.2.2.2.2.2.2.1 k1_h8
theorem k1_off17_inb : ∀ (i : grid1.Coords) (k1_t1 : Fin k1_t1_loop.trips) (arg7_r1 : BitVec 32) (arg8_r1 : BitVec 32) (arg9_r1 : BitVec 32) (arg10_r1 : BitVec 32) (arg12_r1 : BitVec 32) (k1_hw1 : k1_chk1 i k1_t1 arg7_r1 arg8_r1 arg9_r1 arg10_r1 arg12_r1), ∀ (k1_h8 : k1_cond8 i k1_t1 arg12_r1 = 1#1), ∀ a, (k1_off17 arg10_r1) a + S1.size a ≤ S2.size a := fun i k1_t1 arg7_r1 arg8_r1 arg9_r1 arg10_r1 arg12_r1 k1_hw1 k1_h8 => k1_hw1.2.2.2.2.2.2.2.2.2.2.2 k1_h8

def k1_off18 (v50_3_r1 : BitVec 32) : Fin 3 → Nat :=
  let c2_i32_92_r1 : BitVec 32 := 2#32
  let v88_r1 : BitVec 32 := Scalar.remui v50_3_r1 c2_i32_92_r1
  let c0_i32_95_r1 : BitVec 32 := 0#32
  let c0_i32_96_r1 : BitVec 32 := 0#32
  ![v88_r1.toNat, 0, 0]

def k1_off19 (i : grid1.Coords) (v50_5_r1 : BitVec 32) : Fin 2 → Nat :=
  let c128_i32_94_r1 : BitVec 32 := 128#32
  let c0_i32_60_r1 : BitVec 32 := 0#32
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c1_i32_2 : BitVec 32 := 1#32
  let v7 : BitVec 32 := Scalar.muli v6 c1_i32_2
  let v59_r1 : BitVec 32 := Scalar.addi c0_i32_60_r1 v7
  let c79_i32_93_r1 : BitVec 32 := 79#32
  let v89_r1 : BitVec 32 := Scalar.muli v59_r1 c79_i32_93_r1
  let true_54_r1 : BitVec 1 := 1#1
  let c1_i32_53_r1 : BitVec 32 := 1#32
  let v51_r1 : BitVec 32 := Scalar.subi v50_5_r1 c1_i32_53_r1
  let v52_r1 : BitVec 32 := Scalar.select true_54_r1 v51_r1 v50_5_r1
  let c_m1_i32_55_r1 : BitVec 32 := 4294967295#32
  let v53_r1 : BitVec 1 := Scalar.cmpi .eq v52_r1 c_m1_i32_55_r1
  let c78_i32_56_r1 : BitVec 32 := 78#32
  let v54_r1 : BitVec 32 := Scalar.select v53_r1 c78_i32_56_r1 v52_r1
  let c0_i32_61_r1 : BitVec 32 := 0#32
  let v60_r1 : BitVec 32 := Scalar.addi v54_r1 c0_i32_61_r1
  let v90_r1 : BitVec 32 := Scalar.addi v89_r1 v60_r1
  let v91_r1 : BitVec 32 := Scalar.muli c128_i32_94_r1 v90_r1
  let c0_i32_97_r1 : BitVec 32 := 0#32
  ![v91_r1.toNat, 0]

def k1_chk5 (i : grid1.Coords) (v50_5_r1 : BitVec 32) : Prop :=
  (∀ a, (k1_off19 i v50_5_r1) a + S128x128.size a ≤ S323584x128.size a)
theorem k1_off19_inb : ∀ (i : grid1.Coords) (v50_5_r1 : BitVec 32) (k1_hw5 : k1_chk5 i v50_5_r1), ∀ a, (k1_off19 i v50_5_r1) a + S128x128.size a ≤ S323584x128.size a := fun i v50_5_r1 k1_hw5 => k1_hw5

def k1_off20 (v50_3_r1 : BitVec 32) : Fin 1 → Nat :=
  let c2_i32_92_r1 : BitVec 32 := 2#32
  let v88_r1 : BitVec 32 := Scalar.remui v50_3_r1 c2_i32_92_r1
  ![v88_r1.toNat]
def k1_off21 (v50_3_r1 : BitVec 32) : Fin 3 → Nat :=
  let c2_i32_92_r1 : BitVec 32 := 2#32
  let v88_r1 : BitVec 32 := Scalar.remui v50_3_r1 c2_i32_92_r1
  let c0_i32_99_r1 : BitVec 32 := 0#32
  let c0_i32_100_r1 : BitVec 32 := 0#32
  ![v88_r1.toNat, 0, 0]

def k1_chk4 (v50_3_r1 : BitVec 32) : Prop :=
  (∀ a, (k1_off18 v50_3_r1) a + S1x128x128.size a ≤ S2x128x128.size a) ∧
  (∀ a, (k1_off20 v50_3_r1) a + S1.size a ≤ S2.size a) ∧
  (∀ a, (k1_off21 v50_3_r1) a + S1x128x128.size a ≤ S2x128x128.size a)
theorem k1_off18_inb : ∀ (v50_3_r1 : BitVec 32) (k1_hw4 : k1_chk4 v50_3_r1), ∀ a, (k1_off18 v50_3_r1) a + S1x128x128.size a ≤ S2x128x128.size a := fun v50_3_r1 k1_hw4 => k1_hw4.1
theorem k1_off20_inb : ∀ (v50_3_r1 : BitVec 32) (k1_hw4 : k1_chk4 v50_3_r1), ∀ a, (k1_off20 v50_3_r1) a + S1.size a ≤ S2.size a := fun v50_3_r1 k1_hw4 => k1_hw4.2.1
theorem k1_off21_inb : ∀ (v50_3_r1 : BitVec 32) (k1_hw4 : k1_chk4 v50_3_r1), ∀ a, (k1_off21 v50_3_r1) a + S1x128x128.size a ≤ S2x128x128.size a := fun v50_3_r1 k1_hw4 => k1_hw4.2.2

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc2_transform_2 (i : grid2.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S6400x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6400x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S200x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S272x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S8x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc3_transform_2 (i : grid3.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S6400x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S6400x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S200x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S272x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S8x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S200x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 1 → Memref sig .tc .vmem S8x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S8x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S1000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S10000x128 : Shape := ⟨2, ![10000, 128]⟩
abbrev S10000x32x16 : Shape := ⟨3, ![10000, 32, 16]⟩
abbrev S10000x32 : Shape := ⟨2, ![10000, 32]⟩
abbrev S272x256 : Shape := ⟨2, ![272, 256]⟩
abbrev S256 : Shape := ⟨1, ![256]⟩
abbrev S128 : Shape := ⟨1, ![128]⟩
abbrev S320000 : Shape := ⟨1, ![320000]⟩
abbrev S_ : Shape := ⟨0, ![]⟩
abbrev S320000x1 : Shape := ⟨2, ![320000, 1]⟩
abbrev S1 : Shape := ⟨1, ![1]⟩
abbrev S1x1 : Shape := ⟨2, ![1, 1]⟩
abbrev S320000x128 : Shape := ⟨2, ![320000, 128]⟩
abbrev S10000x32x128 : Shape := ⟨3, ![10000, 32, 128]⟩
abbrev S10000x1x128 : Shape := ⟨3, ![10000, 1, 128]⟩
abbrev S10000x32x272 : Shape := ⟨3, ![10000, 32, 272]⟩
abbrev S10000x32x256 : Shape := ⟨3, ![10000, 32, 256]⟩
abbrev S1x1x256 : Shape := ⟨3, ![1, 1, 256]⟩
abbrev S320000x256 : Shape := ⟨2, ![320000, 256]⟩
abbrev S1x256 : Shape := ⟨2, ![1, 256]⟩
abbrev S1x128 : Shape := ⟨2, ![1, 128]⟩

abbrev nBuf : Space → Nat
  | .hbm => 145
  | .vmem => 0
  | .smem => 0
  | _ => 0

abbrev hbmTy0_0 (i : Nat) : BufTy := match i % 128 with
  | 0 => ⟨S10000x128, .f32⟩
  | 1 => ⟨S10000x32x16, .f32⟩
  | 2 => ⟨S10000x32, .i32⟩
  | 3 => ⟨S272x256, .f32⟩
  | 4 => ⟨S256, .f32⟩
  | 5 => ⟨S256, .f32⟩
  | 6 => ⟨S256, .f32⟩
  | 7 => ⟨S128, .f32⟩
  | 8 => ⟨S128, .f32⟩
  | 9 => ⟨S320000, .i32⟩
  | 10 => ⟨S_, .i32⟩
  | 11 => ⟨S320000, .i32⟩
  | 12 => ⟨S320000, .i1⟩
  | 13 => ⟨S_, .i32⟩
  | 14 => ⟨S320000, .i32⟩
  | 15 => ⟨S320000, .i32⟩
  | 16 => ⟨S320000, .i32⟩
  | 17 => ⟨S320000x1, .i32⟩
  | 18 => ⟨S1, .i32⟩
  | 19 => ⟨S_, .i32⟩
  | 20 => ⟨S320000x1, .i32⟩
  | 21 => ⟨S320000x1, .i1⟩
  | 22 => ⟨S1x1, .i32⟩
  | 23 => ⟨S320000x1, .i32⟩
  | 24 => ⟨S320000x1, .i1⟩
  | 25 => ⟨S320000x1, .i1⟩
  | 26 => ⟨S_, .i1⟩
  | 27 => ⟨S320000, .i1⟩
  | 28 => ⟨S320000x128, .f32⟩
  | 29 => ⟨S320000x128, .i1⟩
  | 30 => ⟨S_, .f32⟩
  | 31 => ⟨S320000x128, .f32⟩
  | 32 => ⟨S320000x128, .f32⟩
  | 33 => ⟨S10000x32x128, .f32⟩
  | 34 => ⟨S10000x1x128, .f32⟩
  | 35 => ⟨S10000x32x128, .f32⟩
  | 36 => ⟨S10000x32x272, .f32⟩
  | 37 => ⟨S10000x32x256, .f32⟩
  | 38 => ⟨S1x1x256, .f32⟩
  | 39 => ⟨S10000x32x256, .f32⟩
  | 40 => ⟨S10000x32x256, .f32⟩
  | 41 => ⟨S320000x256, .f32⟩
  | 42 => ⟨S_, .f32⟩
  | 43 => ⟨S256, .f32⟩
  | 44 => ⟨S_, .f32⟩
  | 45 => ⟨S256, .f32⟩
  | 46 => ⟨S256, .f32⟩
  | 47 => ⟨S1x256, .f32⟩
  | 48 => ⟨S320000x256, .f32⟩
  | 49 => ⟨S320000x256, .f32⟩
  | 50 => ⟨S320000x256, .f32⟩
  | 51 => ⟨S_, .f32⟩
  | 52 => ⟨S256, .f32⟩
  | 53 => ⟨S_, .f32⟩
  | 54 => ⟨S256, .f32⟩
  | 55 => ⟨S256, .f32⟩
  | 56 => ⟨S1x256, .f32⟩
  | 57 => ⟨S320000x256, .f32⟩
  | 58 => ⟨S320000x256, .f32⟩
  | 59 => ⟨S1x256, .f32⟩
  | 60 => ⟨S320000x256, .f32⟩
  | 61 => ⟨S320000x256, .f32⟩
  | 62 => ⟨S_, .f32⟩
  | 63 => ⟨S256, .f32⟩
  | 64 => ⟨S256, .f32⟩
  | 65 => ⟨S256, .f32⟩
  | 66 => ⟨S1x256, .f32⟩
  | 67 => ⟨S320000x256, .f32⟩
  | 68 => ⟨S320000x256, .f32⟩
  | 69 => ⟨S1x256, .f32⟩
  | 70 => ⟨S320000x256, .f32⟩
  | 71 => ⟨S320000x256, .f32⟩
  | 72 => ⟨S10000x32x256, .f32⟩
  | 73 => ⟨S10000x32x128, .f32⟩
  | 74 => ⟨S10000x32x128, .f32⟩
  | 75 => ⟨S10000x32x128, .f32⟩
  | 76 => ⟨S10000x32x128, .f32⟩
  | 77 => ⟨S_, .f32⟩
  | 78 => ⟨S10000x32x128, .f32⟩
  | 79 => ⟨S10000x32x128, .f32⟩
  | 80 => ⟨S_, .f32⟩
  | 81 => ⟨S10000x32x128, .f32⟩
  | 82 => ⟨S10000x32x128, .f32⟩
  | 83 => ⟨S_, .f32⟩
  | 84 => ⟨S10000x32x128, .f32⟩
  | 85 => ⟨S10000x32x128, .f32⟩
  | 86 => ⟨S10000x32x128, .f32⟩
  | 87 => ⟨S10000x32x128, .f32⟩
  | 88 => ⟨S10000x32x128, .i1⟩
  | 89 => ⟨S10000x32x128, .f32⟩
  | 90 => ⟨S10000x32x128, .f32⟩
  | 91 => ⟨S10000x32x128, .f32⟩
  | 92 => ⟨S10000x32x128, .f32⟩
  | 93 => ⟨S10000x32x128, .f32⟩
  | 94 => ⟨S10000x32x128, .f32⟩
  | 95 => ⟨S10000x32x128, .f32⟩
  | 96 => ⟨S10000x32x128, .f32⟩
  | 97 => ⟨S10000x32x128, .f32⟩
  | 98 => ⟨S_, .f32⟩
  | 99 => ⟨S10000x128, .f32⟩
  | 100 => ⟨S_, .f32⟩
  | 101 => ⟨S128, .f32⟩
  | 102 => ⟨S_, .f32⟩
  | 103 => ⟨S128, .f32⟩
  | 104 => ⟨S128, .f32⟩
  | 105 => ⟨S1x128, .f32⟩
  | 106 => ⟨S10000x128, .f32⟩
  | 107 => ⟨S10000x128, .f32⟩
  | 108 => ⟨S10000x128, .f32⟩
  | 109 => ⟨S_, .f32⟩
  | 110 => ⟨S128, .f32⟩
  | 111 => ⟨S_, .f32⟩
  | 112 => ⟨S128, .f32⟩
  | 113 => ⟨S128, .f32⟩
  | 114 => ⟨S1x128, .f32⟩
  | 115 => ⟨S10000x128, .f32⟩
  | 116 => ⟨S10000x128, .f32⟩
  | 117 => ⟨S1x128, .f32⟩
  | 118 => ⟨S10000x128, .f32⟩
  | 119 => ⟨S10000x128, .f32⟩
  | 120 => ⟨S_, .f32⟩
  | 121 => ⟨S128, .f32⟩
  | 122 => ⟨S128, .f32⟩
  | 123 => ⟨S128, .f32⟩
  | 124 => ⟨S1x128, .f32⟩
  | 125 => ⟨S10000x128, .f32⟩
  | 126 => ⟨S10000x128, .f32⟩
  | 127 => ⟨S1x128, .f32⟩
  | _ => ⟨S10000x128, .f32⟩

abbrev hbmTy0_1 (i : Nat) : BufTy := match i % 128 with
  | 0 => ⟨S10000x128, .f32⟩
  | 1 => ⟨S10000x128, .f32⟩
  | 2 => ⟨S10000x128, .f32⟩
  | 3 => ⟨S_, .f32⟩
  | 4 => ⟨S10000x128, .f32⟩
  | 5 => ⟨S10000x128, .f32⟩
  | 6 => ⟨S10000x128, .f32⟩
  | 7 => ⟨S10000x128, .f32⟩
  | 8 => ⟨S10000x128, .i1⟩
  | 9 => ⟨S10000x128, .f32⟩
  | 10 => ⟨S10000x128, .f32⟩
  | 11 => ⟨S10000x128, .f32⟩
  | 12 => ⟨S10000x128, .f32⟩
  | 13 => ⟨S10000x128, .f32⟩
  | 14 => ⟨S10000x128, .f32⟩
  | 15 => ⟨S10000x128, .f32⟩
  | 16 => ⟨S10000x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_cst : Ref sig .tc := ⟨.hbm, 42, rfl⟩
abbrev main_v11 : Ref sig .tc := ⟨.hbm, 43, rfl⟩
abbrev main_cst_0 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_cst_1 : Ref sig .tc := ⟨.hbm, 51, rfl⟩
abbrev main_v18 : Ref sig .tc := ⟨.hbm, 52, rfl⟩
abbrev main_cst_2 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_cst_3 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_cst_4 : Ref sig .tc := ⟨.hbm, 77, rfl⟩
abbrev main_v41 : Ref sig .tc := ⟨.hbm, 78, rfl⟩
abbrev main_v42 : Ref sig .tc := ⟨.hbm, 79, rfl⟩
abbrev main_cst_5 : Ref sig .tc := ⟨.hbm, 80, rfl⟩
abbrev main_v43 : Ref sig .tc := ⟨.hbm, 81, rfl⟩
abbrev main_v44 : Ref sig .tc := ⟨.hbm, 82, rfl⟩
abbrev main_call1_cst : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_call1_v5 : Ref sig .tc := ⟨.hbm, 89, rfl⟩
abbrev main_call1_v6 : Ref sig .tc := ⟨.hbm, 90, rfl⟩
abbrev main_call1_v7 : Ref sig .tc := ⟨.hbm, 91, rfl⟩
abbrev main_call1_v8 : Ref sig .tc := ⟨.hbm, 92, rfl⟩
abbrev main_call1_v9 : Ref sig .tc := ⟨.hbm, 93, rfl⟩
abbrev main_call1_v10 : Ref sig .tc := ⟨.hbm, 94, rfl⟩
abbrev main_call1_v11 : Ref sig .tc := ⟨.hbm, 95, rfl⟩
abbrev main_v45 : Ref sig .tc := ⟨.hbm, 96, rfl⟩
abbrev main_v46 : Ref sig .tc := ⟨.hbm, 97, rfl⟩
abbrev main_cst_6 : Ref sig .tc := ⟨.hbm, 98, rfl⟩
abbrev main_v47 : Ref sig .tc := ⟨.hbm, 99, rfl⟩
abbrev main_cst_7 : Ref sig .tc := ⟨.hbm, 100, rfl⟩
abbrev main_v48 : Ref sig .tc := ⟨.hbm, 101, rfl⟩
abbrev main_cst_8 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_cst_9 : Ref sig .tc := ⟨.hbm, 109, rfl⟩
abbrev main_v55 : Ref sig .tc := ⟨.hbm, 110, rfl⟩
abbrev main_cst_10 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_cst_11 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_call2_cst : Ref sig .tc := ⟨.hbm, 131, rfl⟩
abbrev main_call2_v0 : Ref sig .tc := ⟨.hbm, 132, rfl⟩
abbrev main_call2_v1 : Ref sig .tc := ⟨.hbm, 133, rfl⟩
abbrev main_call2_v2 : Ref sig .tc := ⟨.hbm, 134, rfl⟩
abbrev main_call2_v3 : Ref sig .tc := ⟨.hbm, 135, rfl⟩
abbrev main_call2_v4 : Ref sig .tc := ⟨.hbm, 136, rfl⟩
abbrev main_call2_v5 : Ref sig .tc := ⟨.hbm, 137, rfl⟩
abbrev main_call2_v6 : Ref sig .tc := ⟨.hbm, 138, rfl⟩
abbrev main_call2_v7 : Ref sig .tc := ⟨.hbm, 139, rfl⟩
abbrev main_call2_v8 : Ref sig .tc := ⟨.hbm, 140, rfl⟩
abbrev main_call2_v9 : Ref sig .tc := ⟨.hbm, 141, rfl⟩
abbrev main_call2_v10 : Ref sig .tc := ⟨.hbm, 142, rfl⟩
abbrev main_call2_v11 : Ref sig .tc := ⟨.hbm, 143, rfl⟩
abbrev main_v74 : Ref sig .tc := ⟨.hbm, 144, rfl⟩

abbrev nD : Nat := 1
abbrev τ : Topo := Topo.v7x

variable {F : FTy → Type} [FloatOps F]
-- ==== Proof.Rows.lean ====
/-
  The index words. The reference's `take` read as the rows they name: its
  wrap of negative words and its mask of words out of range both do nothing to words in range. All at any float values:
  no float is computed, only moved.
-/
module

public import proofs.«01_k».proof.Proof.Gen.ReferenceIdeal.Run
public import Idealize.ShloMosaic.Lib.ReduceAll
public import Idealize.ShloMosaic.Lib.Routing.Ops
public import Idealize.ShloMosaic.Lib.ValueLayout
public import Idealize.ShloMosaic.Lib.Pointwise.Reshape
public import Idealize.ShloMosaic.Lib.Pipeline.Value

@[expose] public section

noncomputable section

namespace Cert.Proof.Rows

open Idealize.ShloMosaic hiding ix0 ix1 ix2 eq_ix2 eq_ix1
open Idealize.ShloMosaic.ValueIdx

variable {F : FTy → Type} [FloatOps F]

/-! ## The index words -/

/-- Every index word names a row of the table. -/
def InRange (N : IVec (⟨2, ![10000, 32]⟩ : Shape) 32) : Prop := ∀ i, 0 ≤ (N i).toInt ∧ (N i).toInt < 10000

theorem toNat_of_range {w : BitVec 32} (h0 : 0 ≤ w.toInt) (h1 : w.toInt < 10000) : w.toNat < 10000 := by
  rw [BitVec.toInt_eq_toNat_cond] at h0 h1
  have := w.isLt
  split at h1 <;> simp_all <;> omega

/-- The index words laid flat. -/
def flat (N : IVec (⟨2, ![10000, 32]⟩ : Shape) 32) : IVec (⟨1, ![320000]⟩ : Shape) 32 :=
  shapeCast _ N Cert.ReferenceIdeal.Gen.shapeCasts_S10000x32_S320000

theorem flat_range {N : IVec (⟨2, ![10000, 32]⟩ : Shape) 32} (h : InRange N) (i : (⟨1, ![320000]⟩ : Shape).Idx) :
    0 ≤ (flat N i).toInt ∧ (flat N i).toInt < 10000 := h _

theorem flat_lt {N : IVec (⟨2, ![10000, 32]⟩ : Shape) 32} (h : InRange N) (i : (⟨1, ![320000]⟩ : Shape).Idx) : (flat N i).toNat < 10000 :=
  toNat_of_range (flat_range h i).1 (flat_range h i).2

/-- The rows named by the index words: row `r` is the table's row at flat word `r`. -/
def rows {α : Type} (X : (⟨2, ![10000, 128]⟩ : Shape).Idx → α) (N : IVec (⟨2, ![10000, 32]⟩ : Shape) 32) (h : InRange N) : (⟨2, ![320000, 128]⟩ : Shape).Idx → α :=
  fun x => X (ix2 ⟨(flat N (ix1 (x 0))).toNat, flat_lt h _⟩ (x 1))

/-! ## The reference -/

section Ref

open Cert.ReferenceIdeal Cert.ReferenceIdeal.Gen

/-- The reference's wrap: 10000 added to a negative word. -/
def wrap (v : IVec S320000 32) : IVec S320000 32 :=
  select (cmpi .slt v (broadcastInDim S320000 ![] bcast_S_S320000 (constantI S_ 32 0#32))) (addi v (broadcastInDim S320000 ![] bcast_S_S320000 (constantI S_ 32 10000#32))) v

theorem wrap_eq (v : IVec S320000 32) (h : ∀ i, 0 ≤ (v i).toInt) : wrap v = v := by
  funext i
  have e : IntOp.cmpi .slt (v i) 0#32 ≠ 1#1 := fun e => by
    have := IntOp.cmpi_slt.1 e
    have h0 : (0#32 : BitVec 32).toInt = 0 := by decide
    have := h i
    omega
  show Scalar.select (IntOp.cmpi .slt (v i) 0#32) (IntOp.addi (v i) 10000#32) (v i) = v i
  rw [eq_zero_of_ne_one e, select_zero]

/-- The column of start words. -/
def col (v : IVec S320000 32) : IVec S320000x1 32 := broadcastInDim S320000x1 ![0] bcast_S320000_S320000x1_0 v

theorem col_apply (v : IVec S320000 32) (r : Fin 320000) (u : Fin 1) : col v (ix2 r u) = v (ix1 r) := by
  show v _ = v _
  refine congrArg v (funext fun a => Fin.ext ?_)
  obtain rfl : a = 0 := Subsingleton.elim _ _
  rfl

/-- The reference's mask: the start word is between 0 and 9999. -/
def mask (v : IVec S320000 32) : IVec S320000x1 1 :=
  andi (cmpi .sge (col v) (broadcastInDim S320000x1 ![] bcast_S_S320000x1 (constantI S_ 32 0#32)))
    (cmpi .sle (col v) (broadcastInDim S320000x1 ![0, 1] bcast_S1x1_S320000x1_0_1 (broadcastInDim S1x1 ![1] bcast_S1_S1x1_1 (constantI S1 32 9999#32))))

theorem mask_eq (v : IVec S320000 32) (h : ∀ i, 0 ≤ (v i).toInt ∧ (v i).toInt < 10000) (i : S320000x1.Idx) : mask v i = 1#1 := by
  obtain ⟨r, u, rfl⟩ : ∃ r u, i = ix2 r u := ⟨_, _, eq_ix2 i⟩
  refine IntOp.andi_eq_one.2 ⟨IntOp.cmpi_sge.2 ?_, IntOp.cmpi_sle.2 ?_⟩
  · rw [col_apply]
    exact (h _).1
  · rw [col_apply]
    have h1 : (9999#32 : BitVec 32).toInt = 9999 := by decide
    have := (h (ix1 r)).2
    show (v (ix1 r)).toInt ≤ (9999#32 : BitVec 32).toInt
    omega

/-- The reference's take: the gathered rows where the mask holds, a fill value elsewhere. -/
def take (X : FVec F S10000x128 .f32) (v : IVec S320000 32) : FVec F S320000x128 .f32 :=
  select (broadcastInDim S320000x128 ![0] bcast_S320000_S320000x128_0 (Host.reduce IntOp.andi (mask v) (constantI S_ 1 1#1) reducesTo_S320000x1_S320000_d1 h_S_))
    (Host.gather gather_S10000x128_S320000x1_S320000x128_1_0_n_n_0_1_1128 X (col v))
    (broadcastInDim S320000x128 ![] bcast_S_S320000x128 (constant S_ .f32 0x7FC00000#32))

theorem take_eq (X : FVec F S10000x128 .f32) (N : IVec S10000x32 32) (h : InRange N) : take X (wrap (flat N)) = rows X N h := by
  rw [wrap_eq _ fun i => (flat_range h i).1]
  funext x
  obtain ⟨r, k, rfl⟩ : ∃ r k, x = ix2 r k := ⟨_, _, eq_ix2 x⟩
  have hm : ∀ j, Host.reduce IntOp.andi (mask (flat N)) (constantI S_ 1 1#1) reducesTo_S320000x1_S320000_d1 h_S_ j = 1#1 := fun j =>
    Host.reduce_andi_one _ _ _ _ j rfl (mask_eq _ fun i => flat_range h i)
  unfold take
  rw [select_apply]
  unfold broadcastInDim
  rw [hm, select_one]
  exact Routing.gather_row gather_S10000x128_S320000x1_S320000x128_1_0_n_n_0_1_1128 rfl rfl rfl rfl rfl X (col (flat N)) r k ⟨(flat N (ix1 r)).toNat, flat_lt h _⟩
    ((col_apply _ r 0).trans (by simp)) (by decide)

end Ref

end Cert.Proof.Rows

end
-- ==== Proof.Pay.lean ====
/-
  The payloads of the four TensorCore calls read at an index, at the ideal float values.
-/
module

public import proofs.«01_k».proof.Proof.Gen.KernelIdeal.Skeleton
public import Idealize.ShloMosaic.Lib.Pointwise

@[expose] public section

noncomputable section

namespace Cert.Proof.Pay

open Cert.KernelIdeal Cert.KernelIdeal.Gen
open Idealize.ShloMosaic

set_option maxRecDepth 16384

/-- A sum over two leading axes, read at an index of the axis that stays. -/
theorem red_lead {n0 n1 n2 : Nat} (h : (⟨3, ![n0, n1, n2]⟩ : Shape).Reduces [0, 1] ⟨1, ![n2]⟩) (v : (⟨3, ![n0, n1, n2]⟩ : Shape).Idx → EReal) (c : Fin n2) :
    Ideal.reduceAdd h v (ix1 c) = ∑ a : Fin n0, ∑ j : Fin n1, v (ix3 a j c) := by
  have key : ∀ i : (⟨3, ![n0, n1, n2]⟩ : Shape).Idx, h.drop i = ix1 c ↔ ∃ k : Fin n0 × Fin n1, ix3 k.1 k.2 c = i := by
    intro i
    constructor
    · intro e
      refine ⟨(i 0, i 1), funext fun a => Fin.ext ?_⟩
      match a with
      | ⟨0, _⟩ => rfl
      | ⟨1, _⟩ => rfl
      | ⟨2, _⟩ => exact (congrArg Fin.val (congrFun e ⟨0, Nat.one_pos⟩)).symm
    · rintro ⟨k, rfl⟩
      funext b
      apply Fin.ext
      match b with
      | ⟨0, _⟩ => rfl
  refine (Finset.sum_filter_eq_sum_of_fiber _ (fun k : Fin n0 × Fin n1 => ix3 k.1 k.2 c)
    (fun _ _ e => Prod.ext (congrFun e 0) (congrFun e 1)) key v).trans ?_
  exact Fintype.sum_prod_type _

theorem k0_at (w : Vec Ideal S128x256 .f32) (x : Vec Ideal S1000x128 .f32) (b : Vec Ideal S1x256 .f32) (r : Fin 1000) (c : Fin 256) :
    k0_pay1 w x b (ix2 r c) = (∑ k : Fin 128, x (ix2 r k) * w (ix2 k c)) + b (ix2 0 c) := by
  pointwise [k0_pay1]

theorem k2_z (w : Vec Ideal S128x256 .f32) (u : Vec Ideal S16x256 .f32) (g : Vec Ideal S6400x128 .f32) (n : Vec Ideal S6400x16 .f32) (p : Vec Ideal S200x256 .f32)
    (a : Fin 200) (j : Fin 32) (c : Fin 256) :
    k2_pay1 w u g n p (ix3 a j c) = (∑ x : Fin 128, g (ix2 ⟨a.val * 32 + j.val, by omega⟩ x) * w (ix2 x c) + ∑ x : Fin 16, n (ix2 ⟨a.val * 32 + j.val, by omega⟩ x) * u (ix2 x c)) + p (ix2 a c) := by
  pointwise [k2_pay1]

theorem k2_s (w : Vec Ideal S128x256 .f32) (u : Vec Ideal S16x256 .f32) (g : Vec Ideal S6400x128 .f32) (n : Vec Ideal S6400x16 .f32) (p : Vec Ideal S200x256 .f32)
    (v : Vec Ideal S1x256 .f32) (c : Fin 256) :
    k2_pay3 w u g n p v (ix2 0 c) = v (ix2 0 c) + ∑ a : Fin 200, ∑ j : Fin 32, k2_pay1 w u g n p (ix3 a j c) := by
  pointwise [k2_pay3]
  exact congrArg (_ + ·) (red_lead _ _ _)

theorem k2_q (w : Vec Ideal S128x256 .f32) (u : Vec Ideal S16x256 .f32) (g : Vec Ideal S6400x128 .f32) (n : Vec Ideal S6400x16 .f32) (p : Vec Ideal S200x256 .f32)
    (v : Vec Ideal S1x256 .f32) (c : Fin 256) :
    k2_pay4 w u g n p v (ix2 0 c) = v (ix2 0 c) + ∑ a : Fin 200, ∑ j : Fin 32, k2_pay1 w u g n p (ix3 a j c) * k2_pay1 w u g n p (ix3 a j c) := by
  pointwise [k2_pay4]
  refine congrArg (_ + ·) ((red_lead _ _ _).trans ?_)
  rfl

theorem k3_sc (v0 : Vec Ideal S8x256 .f32) (g : Vec Ideal S1x256 .f32) (c : Fin 256) : k3_pay4 v0 g (ix2 0 c) = g (ix2 0 c) * Ideal.rsqrt (Ideal.div (v0 (ix2 1 c)) (Ideal.ofBits .f32 1218199552#32) - Ideal.div (v0 (ix2 0 c)) (Ideal.ofBits .f32 1218199552#32) * Ideal.div (v0 (ix2 0 c)) (Ideal.ofBits .f32 1218199552#32) + Ideal.ofBits .f32 925353388#32) := by
  pointwise [k3_pay4, k3_pay3, k3_pay2]
  simp only [Fin.sum_univ_one]

theorem k3_sh (v0 : Vec Ideal S8x256 .f32) (g b : Vec Ideal S1x256 .f32) (c : Fin 256) : k3_pay5 v0 g b (ix2 0 c) = b (ix2 0 c) - Ideal.div (v0 (ix2 0 c)) (Ideal.ofBits .f32 1218199552#32) * k3_pay4 v0 g (ix2 0 c) := by
  pointwise [k3_pay5, k3_pay3, k3_pay2]
  simp only [Fin.sum_univ_one]

theorem k3_pr (w : Vec Ideal S128x256 .f32) (u : Vec Ideal S16x256 .f32) (g : Vec Ideal S6400x128 .f32) (n : Vec Ideal S6400x16 .f32)
    (a : Fin 200) (j : Fin 32) (c : Fin 256) :
    k3_pay6 w u g n (ix3 a j c) = ∑ x : Fin 128, g (ix2 ⟨a.val * 32 + j.val, by omega⟩ x) * w (ix2 x c) + ∑ x : Fin 16, n (ix2 ⟨a.val * 32 + j.val, by omega⟩ x) * u (ix2 x c) := by
  pointwise [k3_pay6]

/-- The softplus that both kernels write, at the ideal values. -/
def spE (y : EReal) : EReal := max y 0 + Ideal.log1p (Ideal.exp (0 - max y (-y)))

theorem k3_out (sc sh : FVec Ideal S1x256 .f32) (v : FVec Ideal S200x32x256 .f32) (p : Vec Ideal S200x256 .f32) (a : Fin 200) (c : Fin 128) :
    k3_pay7 sc sh v p (ix2 a c) = ∑ x : Fin 32, Ideal.logistic ((v (ix3 a x ⟨c.val, by omega⟩) + p (ix2 a ⟨c.val, by omega⟩)) * sc (ix2 0 ⟨c.val, by omega⟩) + sh (ix2 0 ⟨c.val, by omega⟩))
      * spE ((v (ix3 a x ⟨128 + c.val, by omega⟩) + p (ix2 a ⟨128 + c.val, by omega⟩)) * sc (ix2 0 ⟨128 + c.val, by omega⟩) + sh (ix2 0 ⟨128 + c.val, by omega⟩)) := by
  pointwise [k3_pay7]
  simp only [ne_eq, not_true_eq_false, if_false]
  rfl

theorem k3_s (sc sh : FVec Ideal S1x256 .f32) (v : FVec Ideal S200x32x256 .f32) (p : Vec Ideal S200x256 .f32) (o : Vec Ideal S1x128 .f32) (c : Fin 128) :
    k3_pay9 sc sh v p o (ix2 0 c) = o (ix2 0 c) + ∑ a : Fin 200, k3_pay7 sc sh v p (ix2 a c) := by
  pointwise [k3_pay9]

theorem k3_q (sc sh : FVec Ideal S1x256 .f32) (v : FVec Ideal S200x32x256 .f32) (p : Vec Ideal S200x256 .f32) (o : Vec Ideal S1x128 .f32) (c : Fin 128) :
    k3_pay1 (k3_pay10 o) (k3_pay11 sc sh v p) (ix2 0 c) = o (ix2 0 c) + ∑ a : Fin 200, k3_pay7 sc sh v p (ix2 a c) * k3_pay7 sc sh v p (ix2 a c) := by
  pointwise [k3_pay1, k3_pay10, k3_pay11]

theorem k4_y (v0 : Vec Ideal S8x128 .f32) (g b : Vec Ideal S1x128 .f32) (x s : Vec Ideal S1000x128 .f32) (r : Fin 1000) (c : Fin 128) :
    k4_pay2 v0 g b x s (ix2 r c) = x (ix2 r c) + s (ix2 r c) * (g (ix2 0 c) * Ideal.rsqrt (Ideal.div (v0 (ix2 1 c)) (Ideal.ofBits .f32 1176256512#32) - Ideal.div (v0 (ix2 0 c)) (Ideal.ofBits .f32 1176256512#32) * Ideal.div (v0 (ix2 0 c)) (Ideal.ofBits .f32 1176256512#32) + Ideal.ofBits .f32 925353388#32))
      + (b (ix2 0 c) - Ideal.div (v0 (ix2 0 c)) (Ideal.ofBits .f32 1176256512#32) * (g (ix2 0 c) * Ideal.rsqrt (Ideal.div (v0 (ix2 1 c)) (Ideal.ofBits .f32 1176256512#32) - Ideal.div (v0 (ix2 0 c)) (Ideal.ofBits .f32 1176256512#32) * Ideal.div (v0 (ix2 0 c)) (Ideal.ofBits .f32 1176256512#32) + Ideal.ofBits .f32 925353388#32))) := by
  pointwise [k4_pay2]
  simp only [Fin.sum_univ_one]

theorem k4_out (v0 : Vec Ideal S8x128 .f32) (g b : Vec Ideal S1x128 .f32) (x s : Vec Ideal S1000x128 .f32) (r : Fin 1000) (c : Fin 128) :
    k4_pay1 (k4_pay4 v0 g b x s) (k4_pay5 v0 g b x s) (k4_pay6 v0 g b x s) (ix2 r c) = spE (k4_pay2 v0 g b x s (ix2 r c)) := by
  pointwise [k4_pay1, k4_pay4, k4_pay5, k4_pay6, k4_pay3]
  simp only [ne_eq, not_true_eq_false, if_false]
  rfl

end Cert.Proof.Pay
-- ==== Proof.Spec.lean ====
/-
  The layer over the reals: batch normalization in its two forms, the gates, and the constants of both programs.
-/
module

public import proofs.«01_k».proof.Proof.Pay

@[expose] public section

noncomputable section

namespace Cert.Proof.Spec

open Idealize.ShloMosaic Cert.Proof.Pay

/-! ## The constants -/

/-- The small number both programs add to a variance. -/
def eps : ℝ := 10995116 / 1099511627776

theorem cN : Ideal.ofBits .f32 1218199552#32 = ((320000 : ℝ) : EReal) := by
  simp [Ideal.ofBits, Ideal.ieee, -EReal.coe_mul]; norm_num

theorem cM : Ideal.ofBits .f32 1176256512#32 = ((10000 : ℝ) : EReal) := by
  simp [Ideal.ofBits, Ideal.ieee, -EReal.coe_mul]; norm_num

theorem cE : Ideal.ofBits .f32 925353388#32 = ((eps : ℝ) : EReal) := by
  simp [Ideal.ofBits, Ideal.ieee, -EReal.coe_mul]; norm_num [eps]

theorem eps_pos : 0 < eps := by unfold eps; norm_num

/-! ## Sums, quotients, roots and the gates at real values -/

theorem sum_coe {ι : Type} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

theorem div_real (x y : ℝ) (h : y ≠ 0) : Ideal.div (x : EReal) (y : EReal) = ((x / y : ℝ) : EReal) := by
  rw [Ideal.div_coe h, ← EReal.coe_mul, mul_one_div]

theorem rsqrt_real (x : ℝ) (h : 0 < x) : Ideal.rsqrt (x : EReal) = (((Real.sqrt x)⁻¹ : ℝ) : EReal) := by
  rw [Ideal.rsqrt_coe, if_neg (not_lt.2 h.le), if_neg h.ne']

theorem sqrt_real (x : ℝ) (h : 0 < x) : Ideal.sqrt (x : EReal) = ((Real.sqrt x : ℝ) : EReal) := by
  rw [Ideal.sqrt_coe, if_neg (not_lt.2 h.le)]

/-- Softplus and the logistic function. -/
def sp (y : ℝ) : ℝ := max y 0 + Real.log (1 + Real.exp (-|y|))
def lg (y : ℝ) : ℝ := (1 + Real.exp (-y))⁻¹

theorem max_coe (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

theorem spE_coe (y : ℝ) : spE (y : EReal) = ((sp y : ℝ) : EReal) := by
  have h1 : ¬ 1 + Real.exp (-|y|) ≤ 0 := not_le.2 (by positivity)
  unfold spE sp
  rw [← EReal.coe_neg, max_coe, ← EReal.coe_zero, max_coe, ← EReal.coe_sub, zero_sub, Ideal.exp_coe, Ideal.log1p, ← EReal.coe_one, ← EReal.coe_add,
    show max y (-y) = |y| from rfl, Ideal.log_coe, if_neg h1, ← EReal.coe_add]

/-! ## Batch normalization -/

/-- The mean of the squares less the squared mean is the mean of the squared deviations. -/
theorem var_eq {ι : Type} [Fintype ι] (f : ι → ℝ) (n : ℝ) (hn : n = Fintype.card ι) (h0 : n ≠ 0) :
    (∑ i, f i * f i) / n - (∑ i, f i) / n * ((∑ i, f i) / n) = (∑ i, (f i - (∑ i, f i) / n) * (f i - (∑ i, f i) / n)) / n := by
  generalize hS : ∑ i, f i = S
  have e : ∑ i, (f i - S / n) * (f i - S / n) = ∑ i, f i * f i - 2 * (S / n) * S + n * (S / n * (S / n)) := by
    have : ∀ i, (f i - S / n) * (f i - S / n) = f i * f i - 2 * (S / n) * f i + S / n * (S / n) := fun i => by ring
    simp only [this]
    rw [Finset.sum_add_distrib, Finset.sum_sub_distrib, ← Finset.mul_sum, hS, Finset.sum_const, Finset.card_univ, nsmul_eq_mul, ← hn]
  rw [e]
  field_simp
  ring

theorem var_nonneg {ι : Type} [Fintype ι] (f : ι → ℝ) (m n : ℝ) (h0 : 0 < n) : 0 ≤ (∑ i, (f i - m) * (f i - m)) / n :=
  div_nonneg (Finset.sum_nonneg fun i _ => mul_self_nonneg _) h0.le

/-- Scale and shift, as the kernel takes them from the sum and the sum of squares, normalize. -/
theorem norm_eq (z m v g b : ℝ) (hv : 0 < v) :
    z * (g * (Real.sqrt v)⁻¹) + (b - m * (g * (Real.sqrt v)⁻¹)) = g * (z - m) / Real.sqrt v + b := by
  have := (Real.sqrt_pos.2 hv).ne'
  field_simp
  ring

/-! ## The layer -/

/-- The arguments at real values. -/
structure Inp where
  x : Fin 10000 → Fin 128 → ℝ
  nb : Fin 10000 → Fin 32 → Fin 16 → ℝ
  ix : Fin 10000 → Fin 32 → Fin 10000
  W : Fin 272 → Fin 256 → ℝ
  b : Fin 256 → ℝ
  g1 : Fin 256 → ℝ
  b1 : Fin 256 → ℝ
  g2 : Fin 128 → ℝ
  b2 : Fin 128 → EReal

/-- The arrays an argument list holds are those reals. -/
structure Reads (I : Inp) (aX : (⟨2, ![10000, 128]⟩ : Shape).Idx → EReal) (aN : (⟨3, ![10000, 32, 16]⟩ : Shape).Idx → EReal)
    (aI : (⟨2, ![10000, 32]⟩ : Shape).Idx → BitVec 32) (aW : (⟨2, ![272, 256]⟩ : Shape).Idx → EReal)
    (aB aG1 aB1 : (⟨1, ![256]⟩ : Shape).Idx → EReal) (aG2 aB2 : (⟨1, ![128]⟩ : Shape).Idx → EReal) : Prop where
  hx : ∀ i k, aX (ix2 i k) = (I.x i k : EReal)
  hn : ∀ i j k, aN (ix3 i j k) = (I.nb i j k : EReal)
  hi : ∀ i j, (aI (ix2 i j)).toNat = (I.ix i j).val
  hW : ∀ k c, aW (ix2 k c) = (I.W k c : EReal)
  hb : ∀ c, aB (ix1 c) = (I.b c : EReal)
  hg1 : ∀ c, aG1 (ix1 c) = (I.g1 c : EReal)
  hb1 : ∀ c, aB1 (ix1 c) = (I.b1 c : EReal)
  hg2 : ∀ c, aG2 (ix1 c) = (I.g2 c : EReal)
  hb2 : ∀ c, aB2 (ix1 c) = I.b2 c

variable (I : Inp)

/-- The atom's own part of the product, and the edge's. -/
def own (i : Fin 10000) (c : Fin 256) : ℝ := ∑ k : Fin 128, I.x i k * I.W ⟨k.val, by omega⟩ c + I.b c
def edge (i : Fin 10000) (j : Fin 32) (c : Fin 256) : ℝ :=
  ∑ k : Fin 128, I.x (I.ix i j) k * I.W ⟨128 + k.val, by omega⟩ c + ∑ k : Fin 16, I.nb i j k * I.W ⟨256 + k.val, by omega⟩ c
def z (i : Fin 10000) (j : Fin 32) (c : Fin 256) : ℝ := edge I i j c + own I i c

def sum1 (c : Fin 256) : ℝ := ∑ i : Fin 10000, ∑ j : Fin 32, z I i j c
def sq1 (c : Fin 256) : ℝ := ∑ i : Fin 10000, ∑ j : Fin 32, z I i j c * z I i j c
def mean1 (c : Fin 256) : ℝ := sum1 I c / 320000
def var1 (c : Fin 256) : ℝ := (∑ i : Fin 10000, ∑ j : Fin 32, (z I i j c - mean1 I c) * (z I i j c - mean1 I c)) / 320000
def y1 (i : Fin 10000) (j : Fin 32) (c : Fin 256) : ℝ := I.g1 c * (z I i j c - mean1 I c) / Real.sqrt (var1 I c + eps) + I.b1 c

/-- The summed messages of an atom. -/
def msg (i : Fin 10000) (c : Fin 128) : ℝ := ∑ j : Fin 32, lg (y1 I i j ⟨c.val, by omega⟩) * sp (y1 I i j ⟨128 + c.val, by omega⟩)

def sum2 (c : Fin 128) : ℝ := ∑ i : Fin 10000, msg I i c
def sq2 (c : Fin 128) : ℝ := ∑ i : Fin 10000, msg I i c * msg I i c
def mean2 (c : Fin 128) : ℝ := sum2 I c / 10000
def var2 (c : Fin 128) : ℝ := (∑ i : Fin 10000, (msg I i c - mean2 I c) * (msg I i c - mean2 I c)) / 10000
def nrm2 (i : Fin 10000) (c : Fin 128) : ℝ := I.g2 c * (msg I i c - mean2 I c) / Real.sqrt (var2 I c + eps)
/-- The layer's value: the last shift may be infinite. -/
def out (i : Fin 10000) (c : Fin 128) : EReal := spE ((I.x i c : EReal) + ((nrm2 I i c : EReal) + I.b2 c))

theorem var1_pos (c : Fin 256) : 0 < var1 I c + eps :=
  add_pos_of_nonneg_of_pos (div_nonneg (Finset.sum_nonneg fun i _ => Finset.sum_nonneg fun j _ => mul_self_nonneg _) (by norm_num)) eps_pos

theorem var2_pos (c : Fin 128) : 0 < var2 I c + eps := add_pos_of_nonneg_of_pos (var_nonneg _ _ _ (by norm_num)) eps_pos

theorem var1_eq (c : Fin 256) : sq1 I c / 320000 - sum1 I c / 320000 * (sum1 I c / 320000) = var1 I c := by
  have := var_eq (fun k : Fin 10000 × Fin 32 => z I k.1 k.2 c) 320000 (by simp [Fintype.card_prod]) (by norm_num)
  simp only [Fintype.sum_prod_type] at this
  exact this

theorem var2_eq (c : Fin 128) : sq2 I c / 10000 - sum2 I c / 10000 * (sum2 I c / 10000) = var2 I c :=
  var_eq (fun k : Fin 10000 => msg I k c) 10000 (by simp) (by norm_num)

/-! ## The kernel's scale and shift -/

def scale1 (c : Fin 256) : ℝ := I.g1 c * (Real.sqrt (var1 I c + eps))⁻¹
def shift1 (c : Fin 256) : ℝ := I.b1 c - mean1 I c * scale1 I c
def scale2 (c : Fin 128) : ℝ := I.g2 c * (Real.sqrt (var2 I c + eps))⁻¹

theorem y1_eq (i : Fin 10000) (j : Fin 32) (c : Fin 256) : z I i j c * scale1 I c + shift1 I c = y1 I i j c :=
  norm_eq _ _ _ _ _ (var1_pos I c)
theorem nrm2_eq (i : Fin 10000) (c : Fin 128) : msg I i c * scale2 I c - mean2 I c * scale2 I c = nrm2 I i c := by
  have h := norm_eq (msg I i c) (mean2 I c) (var2 I c + eps) (I.g2 c) 0 (var2_pos I c)
  rw [add_zero, zero_sub, ← sub_eq_add_neg] at h
  exact h

theorem scale1_coe (c : Fin 256) :
    (I.g1 c : EReal) * Ideal.rsqrt (Ideal.div (sq1 I c : EReal) (Ideal.ofBits .f32 1218199552#32) - Ideal.div (sum1 I c : EReal) (Ideal.ofBits .f32 1218199552#32) * Ideal.div (sum1 I c : EReal) (Ideal.ofBits .f32 1218199552#32) + Ideal.ofBits .f32 925353388#32)
      = (scale1 I c : EReal) := by
  rw [cN, cE, div_real _ _ (by norm_num), div_real _ _ (by norm_num), ← EReal.coe_mul, ← EReal.coe_sub, var1_eq, ← EReal.coe_add, rsqrt_real _ (var1_pos I c), ← EReal.coe_mul]
  rfl

theorem shift1_coe (c : Fin 256) :
    (I.b1 c : EReal) - Ideal.div (sum1 I c : EReal) (Ideal.ofBits .f32 1218199552#32) * (scale1 I c : EReal) = (shift1 I c : EReal) := by
  rw [cN, div_real _ _ (by norm_num), ← EReal.coe_mul, ← EReal.coe_sub]
  rfl

theorem scale2_coe (c : Fin 128) :
    (I.g2 c : EReal) * Ideal.rsqrt (Ideal.div (sq2 I c : EReal) (Ideal.ofBits .f32 1176256512#32) - Ideal.div (sum2 I c : EReal) (Ideal.ofBits .f32 1176256512#32) * Ideal.div (sum2 I c : EReal) (Ideal.ofBits .f32 1176256512#32) + Ideal.ofBits .f32 925353388#32)
      = (scale2 I c : EReal) := by
  rw [cM, cE, div_real _ _ (by norm_num), div_real _ _ (by norm_num), ← EReal.coe_mul, ← EReal.coe_sub, var2_eq, ← EReal.coe_add, rsqrt_real _ (var2_pos I c), ← EReal.coe_mul]
  rfl

/-- The kernel's last sum is the layer's, whatever the last shift. -/
theorem last_eq (i : Fin 10000) (c : Fin 128) :
    (I.x i c : EReal) + (msg I i c : EReal) * (scale2 I c : EReal) + (I.b2 c - Ideal.div (sum2 I c : EReal) (Ideal.ofBits .f32 1176256512#32) * (scale2 I c : EReal))
      = (I.x i c : EReal) + ((nrm2 I i c : EReal) + I.b2 c) := by
  rw [cM, div_real _ _ (by norm_num), ← EReal.coe_mul, ← EReal.coe_mul, sub_eq_add_neg, ← EReal.coe_neg, add_assoc, add_comm (I.b2 c), ← add_assoc (_ : EReal) _ (I.b2 c),
    ← EReal.coe_add, ← sub_eq_add_neg, ← nrm2_eq]
  rfl

end Cert.Proof.Spec
-- ==== Proof.Pre.lean ====
/-
  The preconditions read: the index words name rows of the table, and the float arguments that must be real are.
-/
module

public import proofs.«01_k».proof.Proof.Rows
public import proofs.«01_k».proof.Proof.Spec
public import proofs.«01_k».proof.Proof.Gen.Pre_index_range
public import proofs.«01_k».proof.Proof.Gen.Pre_admissible
public import Idealize.ShloMosaic.Lib.ReduceAll

@[expose] public section

noncomputable section

namespace Cert.Proof.Pre

open Idealize.ShloMosaic Cert.Proof.Rows Cert.Proof.Spec

/-- Words between 0 and 9999, as both preconditions compare them. -/
theorem inRange_of_compare (N lo hi : IVec (⟨2, ![10000, 32]⟩ : Shape) 32) (hlo : ∀ i, lo i = 0#32) (hhi : ∀ i, hi i = 10000#32)
    (h : ∀ i, andi (cmpi .sge N lo) (cmpi .slt N hi) i = 1#1) : InRange N := by
  intro i
  have e := IntOp.andi_eq_one.1 (h i)
  have e0 := IntOp.cmpi_sge.1 e.1
  have e1 := IntOp.cmpi_slt.1 e.2
  rw [hlo] at e0
  rw [hhi] at e1
  exact ⟨e0, e1⟩

theorem inRange_of_index_range {F : FTy → Type} [FloatOps F] (a0 : FVec F (⟨2, ![10000, 128]⟩ : Shape) .f32) (a1 : FVec F (⟨3, ![10000, 32, 16]⟩ : Shape) .f32)
    (a2 : IVec (⟨2, ![10000, 32]⟩ : Shape) 32) (a3 : FVec F (⟨2, ![272, 256]⟩ : Shape) .f32) (a4 a5 a6 : FVec F (⟨1, ![256]⟩ : Shape) .f32) (a7 a8 : FVec F (⟨1, ![128]⟩ : Shape) .f32)
    (h : Cert.Pre_index_range.fn (F := F) a0 a1 a2 a3 a4 a5 a6 a7 a8 = fun _ => 1#1) : InRange a2 := by
  have e := congrFun h ix0
  dsimp only [Cert.Pre_index_range.fn] at e
  haveI : Subsingleton (Cert.Pre_index_range.S_).Idx := ⟨fun a b => (ValueIdx.eq_ix0 a).trans (ValueIdx.eq_ix0 b).symm⟩
  exact inRange_of_compare _ _ _ (fun _ => rfl) (fun _ => rfl) fun i => Host.reduce_andi_all _ _ _ _ _ e i

/-- A value whose magnitude is below infinity is real. -/
theorem real_of_abs_lt (x : EReal) (h : Ideal.cmp .olt (max x (-x)) (Ideal.ofBits .f32 0x7F800000#32) = 1#1) : x = ((x.toReal : ℝ) : EReal) := by
  have ht : Ideal.ofBits .f32 0x7F800000#32 = ⊤ := by simp [Ideal.ofBits, Ideal.ieee, -EReal.coe_mul]
  rw [ht] at h
  induction x using EReal.rec with
  | bot => exact absurd h (by simp [Ideal.cmp])
  | coe r => rfl
  | top => exact absurd h (by simp [Ideal.cmp])

/-- So is every entry of an array, if all its magnitudes compare below infinity. -/
theorem real_all {s u : Shape} {ax : List (Fin s.rank)} [Subsingleton u.Idx] (x : FVec Ideal s .f32) (f : s.Idx → EReal) (hf : ∀ i, f i = Ideal.ofBits .f32 0x7F800000#32) (v : IVec u 1)
    (hr : s.ReducesTo ax u) (hp : 0 < u.numel) (j : u.Idx) (h : Host.reduce IntOp.andi (cmpf .olt (Host.absf x) f) v hr hp j = 1#1) (i : s.Idx) :
    x i = ((x i).toReal : EReal) := by
  have e := Host.reduce_andi_all _ _ _ _ _ h i
  refine real_of_abs_lt (x i) ?_
  rw [← hf i]
  exact e

/-- What `admissible` says: there are reals that the arguments hold, and every index word names a row. -/
theorem reads_of_admissible (a0 : FVec Ideal (⟨2, ![10000, 128]⟩ : Shape) .f32) (a1 : FVec Ideal (⟨3, ![10000, 32, 16]⟩ : Shape) .f32)
    (a2 : IVec (⟨2, ![10000, 32]⟩ : Shape) 32) (a3 : FVec Ideal (⟨2, ![272, 256]⟩ : Shape) .f32) (a4 a5 a6 : FVec Ideal (⟨1, ![256]⟩ : Shape) .f32) (a7 a8 : FVec Ideal (⟨1, ![128]⟩ : Shape) .f32)
    (h : Cert.Pre_admissible.fn (F := Ideal) a0 a1 a2 a3 a4 a5 a6 a7 a8 = fun _ => 1#1) : InRange a2 ∧ ∃ I : Inp, Reads I a0 a1 a2 a3 a4 a5 a6 a7 a8 := by
  have e := congrFun h ix0
  dsimp only [Cert.Pre_admissible.fn, Cert.Pre_admissible.fn_part1, Cert.Pre_admissible.fn_part2] at e
  haveI : Subsingleton (Cert.Pre_admissible.S_).Idx := ⟨fun a b => (ValueIdx.eq_ix0 a).trans (ValueIdx.eq_ix0 b).symm⟩
  obtain ⟨e, hi⟩ := IntOp.andi_eq_one.1 e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨h0, h1⟩ := IntOp.andi_eq_one.1 e
  have hr : InRange a2 := inRange_of_compare _ _ _ (fun _ => rfl) (fun _ => rfl) fun i => Host.reduce_andi_all _ _ _ _ _ hi i
  refine ⟨hr, ⟨fun i k => (a0 (ix2 i k)).toReal, fun i j k => (a1 (ix3 i j k)).toReal, fun i j => ⟨(a2 (ix2 i j)).toNat, toNat_of_range (hr _).1 (hr _).2⟩,
    fun k c => (a3 (ix2 k c)).toReal, fun c => (a4 (ix1 c)).toReal, fun c => (a5 (ix1 c)).toReal, fun c => (a6 (ix1 c)).toReal, fun c => (a7 (ix1 c)).toReal, fun c => a8 (ix1 c)⟩, ?_⟩
  clear e h
  constructor
  · exact fun i k => real_all a0 _ (fun _ => rfl) _ _ _ _ h0 (ix2 i k)
  · exact fun i j k => real_all a1 _ (fun _ => rfl) _ _ _ _ h1 (ix3 i j k)
  · exact fun i j => rfl
  · exact fun k c => real_all a3 _ (fun _ => rfl) _ _ _ _ h3 (ix2 k c)
  · exact fun c => real_all a4 _ (fun _ => rfl) _ _ _ _ h4 (ix1 c)
  · exact fun c => real_all a5 _ (fun _ => rfl) _ _ _ _ h5 (ix1 c)
  · exact fun c => real_all a6 _ (fun _ => rfl) _ _ _ _ h6 (ix1 c)
  · exact fun c => real_all a7 _ (fun _ => rfl) _ _ _ _ h7 (ix1 c)
  · exact fun c => rfl

end Cert.Proof.Pre

end
-- ==== Proof.Same.lean ====
/-
  The two printed programs, at the machine's floats: the program printed for the ideal reading keeps every operation,
  so its bodies, its body table and its threads are the program's. A run of one is a run of the other.
-/
module

public import proofs.«01_k».proof.Defs
public import proofs.«01_k».proof.Proof.Gen.Kernel
public import proofs.«01_k».proof.Proof.Gen.KernelIdeal

@[expose] public section

set_option maxRecDepth 100000
set_option maxHeartbeats 1000000

noncomputable section

namespace Cert.Proof.Same

open Idealize.ShloMosaic Idealize.SL.Sem

theorem gather_eq : Cert.Kernel.cc1_gather_kernel (F := Bits) = Cert.KernelIdeal.cc1_gather_kernel (F := Bits) := rfl

section
open Cert.Kernel
/-- The tiles' entry of the table, the gather given. -/
def tileBody (k : type_of% (Cert.Kernel.cc1_gather_kernel (F := Bits))) (c : Fin τ.nSC) (s : Fin τ.nSub) := SparseCore.onTile Cert.Kernel.Facts₀.hcore1 Cert.Kernel.Facts₀.hsub1 (fun c s => k (fun | 0 => c | 1 => s | ⟨_ + 2, h⟩ => absurd h (Nat.not_lt.2 (Nat.le_add_left _ _))) (Memref.whole main_arg0_scv) (Memref.isWhole_whole _) (Memref.whole main_v9_scv) (Memref.isWhole_whole _) (Memref.whole main_v10_scv) (Memref.isWhole_whole _) (Memref.whole cc1_scratch0) (Memref.isWhole_whole _) cc1_scoped0 (Memref.whole cc1_scoped1) (Memref.isWhole_whole _) cc1_scoped2 (Memref.whole cc1_scoped3) (Memref.isWhole_whole _) cc1_scoped4 cc1_scoped5) ⟨⟩ c s
end

theorem tile_left (c : Fin Cert.Kernel.τ.nSC) (s : Fin Cert.Kernel.τ.nSub) (a : PUnit) :
    Cert.Kernel.defs₀ (F := Bits) (.scVector c s) (1 : Fin 5) a = tileBody (Cert.Kernel.cc1_gather_kernel (F := Bits)) c s := rfl

theorem tile_right (c : Fin Cert.Kernel.τ.nSC) (s : Fin Cert.Kernel.τ.nSub) (a : PUnit) :
    tileBody (Cert.KernelIdeal.cc1_gather_kernel (F := Bits)) c s = Cert.KernelIdeal.defs₀ (F := Bits) (.scVector c s) (1 : Fin 5) a := rfl

/-- The tiles' entries agree, -/
theorem tile_eq (c : Fin Cert.Kernel.τ.nSC) (s : Fin Cert.Kernel.τ.nSub) (a : PUnit) :
    Cert.Kernel.defs₀ (F := Bits) (.scVector c s) (1 : Fin 5) a = Cert.KernelIdeal.defs₀ (F := Bits) (.scVector c s) (1 : Fin 5) a :=
  (tile_left c s a).trans ((congrArg (fun k => tileBody k c s) gather_eq).trans (tile_right c s a))

/-- and the TensorCore's. -/
theorem tc_eq (ℓ) (a) :
    Cert.Kernel.defs₀ (F := Bits) .tc ℓ a = Cert.KernelIdeal.defs₀ (F := Bits) .tc ℓ a := by
  match ℓ, a with
  | 0, a => rfl
  | 1, a => rfl
  | 2, a => rfl
  | 3, a => rfl
  | 4, a => rfl

/-- So the kernels' tables are one table, -/
theorem bodies_eq : Cert.Kernel.defs₀ (F := Bits) = Cert.KernelIdeal.defs₀ (F := Bits) := by
  funext p ℓ a
  match p, ℓ, a with
  | .tc, ℓ, a => exact tc_eq ℓ a
  | .scScalar c, 0, a => rfl
  | .scScalar c, 1, a => rfl
  | .scScalar c, 2, a => rfl
  | .scScalar c, 3, a => rfl
  | .scScalar c, 4, a => rfl
  | .scVector c s, 0, a => rfl
  | .scVector c s, 1, a => exact tile_eq c s a
  | .scVector c s, 2, a => rfl
  | .scVector c s, 3, a => rfl
  | .scVector c s, 4, a => rfl

/-- the programs' tables are one table, -/
theorem defs_eq : Cert.Kernel.defs (F := Bits) = Cert.KernelIdeal.defs (F := Bits) :=
  (congrArg (fun b => (Cert.Kernel.sc (F := Bits)).defs (Pipeline.defs (Cert.Kernel.pcfgs (F := Bits)) b)) bodies_eq).trans rfl

/-- and their threads are the same. -/
theorem threads_eq : Cert.Kernel.threads (F := Bits) = Cert.KernelIdeal.threads (F := Bits) := rfl

end Cert.Proof.Same
-- ==== Proof.Words.lean ====
/-
  The integer words of the gather kernel, in closed form: the slice offsets, the branch conditions, the checks and the
  words a trip of the pipelined loop hands to the next, each at the words trip `t` has. Task `(i 0, i 1)` is worker
  `W i`; its block of trip `t` is block `79 * W i + t` of the 2528 blocks of 128 indices.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

namespace Cert.Proof.Words

open Cert.KernelIdeal Cert.KernelIdeal.Gen
open Idealize.ShloMosaic

/-- The coordinates of a task: SparseCore `a`, subcore `b`. -/
def co (a : Fin 2) (b : Fin 16) : grid1.Coords :=
  fun | 0 => a | 1 => b | ⟨_ + 2, h⟩ => absurd h (Nat.not_lt.2 (Nat.le_add_left _ _))

theorem co_eta (i : grid1.Coords) : co (i 0) (i 1) = i := by
  funext a
  match a with
  | 0 => rfl
  | 1 => rfl

/-- The number of the worker. -/
abbrev W (i : grid1.Coords) : ℕ := 16 * (i 0).val + (i 1).val

theorem W_lt (i : grid1.Coords) : W i < 32 := by
  have h0 : (i 0).val < 2 := (i 0).isLt
  have h1 : (i 1).val < 16 := (i 1).isLt
  unfold W; omega

theorem trips_eq : k1_t1_loop.trips = 79 := by decide +kernel

theorem trip_lt (t : Fin k1_t1_loop.trips) : t.val < 79 := lt_of_lt_of_eq t.isLt trips_eq

/-- The word of a number. -/
abbrev w (n : ℕ) : BitVec 32 := BitVec.ofNat 32 n

theorem all_trips {p : grid1.Coords → Fin k1_t1_loop.trips → Prop}
    (h : ∀ (a : Fin 2) (b : Fin 16) (t : Fin 79), p (co a b) (Fin.cast trips_eq.symm t)) (i : grid1.Coords) (t : Fin k1_t1_loop.trips) : p i t := by
  have := h (i 0) (i 1) (Fin.cast trips_eq t)
  rwa [co_eta] at this

theorem cond2_iff (i : grid1.Coords) (t : Fin k1_t1_loop.trips) : k1_cond2 i t (w t.val) = 1#1 ↔ t.val < 78 :=
  all_trips (p := fun i t => k1_cond2 i t (w t.val) = 1#1 ↔ t.val < 78) (by decide +kernel) i t
theorem cond3_pos (i : grid1.Coords) (t : Fin k1_t1_loop.trips) : k1_cond3 i t (w t.val) = 1#1 :=
  all_trips (p := fun i t => k1_cond3 i t (w t.val) = 1#1) (by decide +kernel) i t
theorem cond6_pos (i : grid1.Coords) (t : Fin k1_t1_loop.trips) : k1_cond6 i t (w t.val) = 1#1 :=
  all_trips (p := fun i t => k1_cond6 i t (w t.val) = 1#1) (by decide +kernel) i t
theorem cond8_iff (i : grid1.Coords) (t : Fin k1_t1_loop.trips) : k1_cond8 i t (w t.val) = 1#1 ↔ 0 < t.val :=
  all_trips (p := fun i t => k1_cond8 i t (w t.val) = 1#1 ↔ 0 < t.val) (by decide +kernel) i t

theorem off5_eq (i : grid1.Coords) (t : Fin k1_t1_loop.trips) : t.val < 78 → k1_off5 i (w t.val) = ![0, 128 * (79 * W i + (t.val + 1))] :=
  all_trips (p := fun i t => t.val < 78 → k1_off5 i (w t.val) = ![0, 128 * (79 * W i + (t.val + 1))]) (by decide +kernel) i t
theorem off8_eq (i : grid1.Coords) (t : Fin k1_t1_loop.trips) : k1_off8 i (w t.val) = ![0, 128 * (79 * W i + t.val)] :=
  all_trips (p := fun i t => k1_off8 i (w t.val) = ![0, 128 * (79 * W i + t.val)]) (by decide +kernel) i t
theorem off13_eq (i : grid1.Coords) (t : Fin k1_t1_loop.trips) : k1_off13 i (w t.val) = ![128 * (79 * W i + t.val), 0] :=
  all_trips (p := fun i t => k1_off13 i (w t.val) = ![128 * (79 * W i + t.val), 0]) (by decide +kernel) i t
theorem off16_eq (i : grid1.Coords) (t : Fin k1_t1_loop.trips) : 0 < t.val → k1_off16 i (w t.val) = ![128 * (79 * W i + (t.val - 1)), 0] :=
  all_trips (p := fun i t => 0 < t.val → k1_off16 i (w t.val) = ![128 * (79 * W i + (t.val - 1)), 0]) (by decide +kernel) i t
theorem off19_eq (i : grid1.Coords) : k1_off19 i (w 0) = ![128 * (79 * W i + 78), 0] := by
  rw [← co_eta i]
  exact (by decide +kernel : ∀ (a : Fin 2) (b : Fin 16), k1_off19 (co a b) (w 0) = ![128 * (79 * W (co a b) + 78), 0]) _ _
theorem off2_eq (i : grid1.Coords) : k1_off2 i = ![0, 128 * (79 * W i + 0)] := by
  rw [← co_eta i]
  exact (by decide +kernel : ∀ (a : Fin 2) (b : Fin 16), k1_off2 (co a b) = ![0, 128 * (79 * W (co a b) + 0)]) _ _

/-- The words of a slot: the parity of the block's number, for numbers below 80. -/
theorem off4_eq {n : ℕ} (h : n < 80) : k1_off4 (w n) = ![n % 2, 0, 0] :=
  (by decide +kernel : ∀ n : Fin 80, k1_off4 (w n.val) = ![n.val % 2, 0, 0]) ⟨n, h⟩
theorem off6_eq {n : ℕ} (h : n < 80) : k1_off6 (w n) = ![n % 2] :=
  (by decide +kernel : ∀ n : Fin 80, k1_off6 (w n.val) = ![n.val % 2]) ⟨n, h⟩
theorem off7_eq {n : ℕ} (h : n < 80) : k1_off7 (w n) = ![n % 2, 0, 0] :=
  (by decide +kernel : ∀ n : Fin 80, k1_off7 (w n.val) = ![n.val % 2, 0, 0]) ⟨n, h⟩
theorem off9_eq {n : ℕ} (h : n < 80) : k1_off9 (w n) = ![n % 2] :=
  (by decide +kernel : ∀ n : Fin 80, k1_off9 (w n.val) = ![n.val % 2]) ⟨n, h⟩
theorem off10_eq {n : ℕ} (h : n < 80) : k1_off10 (w n) = ![n % 2, 0, 0] :=
  (by decide +kernel : ∀ n : Fin 80, k1_off10 (w n.val) = ![n.val % 2, 0, 0]) ⟨n, h⟩
theorem off11_eq {n : ℕ} (h : n < 80) : k1_off11 (w n) = ![n % 2, 0, 0] :=
  (by decide +kernel : ∀ n : Fin 80, k1_off11 (w n.val) = ![n.val % 2, 0, 0]) ⟨n, h⟩
theorem off12_eq {n : ℕ} (h : n < 80) : k1_off12 (w n) = ![n % 2, 0, 0] :=
  (by decide +kernel : ∀ n : Fin 80, k1_off12 (w n.val) = ![n.val % 2, 0, 0]) ⟨n, h⟩
theorem off14_eq {n : ℕ} (h : n < 80) : k1_off14 (w n) = ![n % 2] :=
  (by decide +kernel : ∀ n : Fin 80, k1_off14 (w n.val) = ![n.val % 2]) ⟨n, h⟩
theorem off15_eq {n : ℕ} (h : n < 80) : k1_off15 (w n) = ![n % 2, 0, 0] :=
  (by decide +kernel : ∀ n : Fin 80, k1_off15 (w n.val) = ![n.val % 2, 0, 0]) ⟨n, h⟩
theorem off17_eq {n : ℕ} (h : n < 80) : k1_off17 (w n) = ![n % 2] :=
  (by decide +kernel : ∀ n : Fin 80, k1_off17 (w n.val) = ![n.val % 2]) ⟨n, h⟩
theorem off20_eq {n : ℕ} (h : n < 80) : k1_off20 (w n) = ![n % 2] :=
  (by decide +kernel : ∀ n : Fin 80, k1_off20 (w n.val) = ![n.val % 2]) ⟨n, h⟩
theorem off21_eq {n : ℕ} (h : n < 80) : k1_off21 (w n) = ![n % 2, 0, 0] :=
  (by decide +kernel : ∀ n : Fin 80, k1_off21 (w n.val) = ![n.val % 2, 0, 0]) ⟨n, h⟩

theorem chk3_ok {n : ℕ} (h : n < 80) : k1_chk3 (w n) :=
  (by decide +kernel : ∀ n : Fin 80, k1_chk3 (w n.val)) ⟨n, h⟩
theorem chk2_ok {n : ℕ} (h : n < 80) : k1_chk2 (w n) :=
  (by decide +kernel : ∀ n : Fin 80, k1_chk2 (w n.val)) ⟨n, h⟩
theorem chk4_ok {n : ℕ} (h : n < 80) : k1_chk4 (w n) :=
  (by decide +kernel : ∀ n : Fin 80, k1_chk4 (w n.val)) ⟨n, h⟩
theorem chk5_ok (i : grid1.Coords) : k1_chk5 i (w 0) := by
  rw [← co_eta i]
  exact (by decide +kernel : ∀ (a : Fin 2) (b : Fin 16), k1_chk5 (co a b) (w 0)) _ _
theorem chk1_ok (i : grid1.Coords) (t : Fin k1_t1_loop.trips) : k1_chk1 i t (w (min (t.val + 1) 79)) (w t.val) (w t.val) (w (t.val - 1)) (w t.val) :=
  all_trips (p := fun i t => k1_chk1 i t (w (min (t.val + 1) 79)) (w t.val) (w t.val) (w (t.val - 1)) (w t.val)) (by decide +kernel) i t

/-- The words carried into trip `n`: the block being fetched, the blocks of the two slots in use, the block awaited, a
    zero, and the trip's own number, zero again after the last. -/
abbrev accAt (n : ℕ) : BitVec 32 × BitVec 32 × BitVec 32 × BitVec 32 × BitVec 32 × BitVec 32 :=
  (w (min (n + 1) 79), w n, w n, w (n - 1), 0#32, w (if n = 79 then 0 else n))

end Cert.Proof.Words
-- ==== Proof.Setup.lean ====
/-
  The launch of the gather: the program as the launch theorem sees it, the resources, the blocks the index list and the
  result are cut into, what the barrier carries and what the call hands to each task.

  The table goes to tile 0 of each SparseCore, which copies it into the shared scratch; the barrier then carries a read
  share of the scratch from tile 0 to each of the sixteen tiles of the SparseCore. The index list and the result go out as
  2528 blocks of 128 rows, 79 to each of the 32 tasks.
-/
module

public import proofs.«01_k».proof.Proof.Words

@[expose] public section

noncomputable section

namespace Cert.Proof.Tiles

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

abbrev ΛP : Labels := Pipeline.Sig Λ₀ (Fin 4) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resources: the handshakes' rounds, the barrier's, the four TensorCore pipelines', the transfers' counters -/

abbrev UH : Type := URounds (GSem nD τ sig) ℕ
abbrev UB : Type := URounds (GSem nD τ sig) ℕ
abbrev UPl : Type := URounds (GSem nD τ sig) Unit
abbrev UU : Type := UH × (UB × (UPl × Counters))

local notation "𝕄" => MT nD τ sig (HIx 1) (Elt F) ℕ UU ℕ

abbrev EH : Emb UH (MT nD τ sig (HIx 1) (Elt F) ℕ UU ℕ) := embL
/-- The barrier's rounds: the left half of the right factor. -/
def EB : Emb UB (MT nD τ sig (HIx 1) (Elt F) ℕ UU ℕ) :=
  ((Emb.inl : Emb UB (UB × (UPl × Counters))).trans (Emb.inr : Emb (UB × (UPl × Counters)) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance
/-- The pipelines' rounds: the left half of what is then left. -/
def EP : Emb UPl (MT nD τ sig (HIx 1) (Elt F) ℕ UU ℕ) :=
  (((Emb.inl : Emb UPl (UPl × Counters)).trans (Emb.inr : Emb (UPl × Counters) (UB × (UPl × Counters)))).trans (Emb.inr : Emb (UB × (UPl × Counters)) UU)).trans
    (uEmb (nD := nD) (sig := sig) (Ix := HIx 1) (Val := Elt F) (Name := ℕ) (U := UU) (Lvl := ℕ)).toEmb
instance EP_landsIn : (EP : Emb UPl 𝕄).LandsIn (upEmb : UEmb _ 𝕄) := by unfold EP; infer_instance

/-! ## The buffers and their blocks -/

abbrev xLoc (d : Dev nD) : Loc nD τ sig := (SparseCore.T d).loc main_arg0
abbrev jLoc (d : Dev nD) : Loc nD τ sig := (SparseCore.T d).loc main_v9
abbrev oLoc (d : Dev nD) : Loc nD τ sig := (SparseCore.T d).loc main_v10

abbrev xW : Memref sig .scVector .hbm S10000x128 .f32 := Memref.whole main_arg0_scv
abbrev iW : Memref sig .scVector .hbm S1x323584 .i32 := Memref.whole main_v9_scv
abbrev oW : Memref sig .scVector .hbm S323584x128 .f32 := Memref.whole main_v10_scv
abbrev shW : Memref sig .scVector .shared S10000x128 .f32 := Memref.whole cc1_scratch0
abbrev aW : Memref sig .scVector .vmem S2x1x128 .i32 := Memref.whole cc1_scoped1
abbrev bW : Memref sig .scVector .vmem S2x128x128 .f32 := Memref.whole cc1_scoped3

theorem inb_iBlk (n : Fin 2528) : ∀ a, (![0, 128 * n.val] : Fin 2 → ℕ) a + S1x128.size a ≤ S1x323584.size a := by
  have := n.isLt
  intro a
  match a with
  | 0 => show 0 + 1 ≤ 1; omega
  | 1 => show 128 * n.val + 128 ≤ 323584; omega

theorem inb_oBlk (n : Fin 2528) : ∀ a, (![128 * n.val, 0] : Fin 2 → ℕ) a + S128x128.size a ≤ S323584x128.size a := by
  have := n.isLt
  intro a
  match a with
  | 0 => show 128 * n.val + 128 ≤ 323584; omega
  | 1 => show 0 + 128 ≤ 128; omega

theorem inb_aSlot (b : Fin 2) : ∀ a, (![b.val, 0, 0] : Fin 3 → ℕ) a + S1x1x128.size a ≤ S2x1x128.size a := by
  have := b.isLt
  intro a
  match a with
  | 0 => show b.val + 1 ≤ 2; omega
  | 1 => show 0 + 1 ≤ 1; omega
  | 2 => show 0 + 128 ≤ 128; omega

theorem inb_bSlot (b : Fin 2) : ∀ a, (![b.val, 0, 0] : Fin 3 → ℕ) a + S1x128x128.size a ≤ S2x128x128.size a := by
  have := b.isLt
  intro a
  match a with
  | 0 => show b.val + 1 ≤ 2; omega
  | 1 => show 0 + 128 ≤ 128; omega
  | 2 => show 0 + 128 ≤ 128; omega

theorem inb_sem (b : Fin 2) : ∀ a, (![b.val] : Fin 1 → ℕ) a + S1.size a ≤ S2.size a := by
  have := b.isLt
  intro a
  match a with
  | 0 => show b.val + 1 ≤ 2; omega

/-- Block `n` of the index list, and block `n` of the result's rows. -/
abbrev iBlk (n : Fin 2528) : Memref sig .scVector .hbm S1x128 .i32 :=
  iW.slice (Rect.unit (s := S1x323584) ![0, 128 * n.val] S1x128.size (inb_iBlk n)) (fun _ => rfl)
abbrev oBlk (n : Fin 2528) : Memref sig .scVector .hbm S128x128 .f32 :=
  oW.slice (Rect.unit (s := S323584x128) ![128 * n.val, 0] S128x128.size (inb_oBlk n)) (fun _ => rfl)
/-- The two slots of the index buffer and of the row buffer. -/
abbrev aSlot (b : Fin 2) : Memref sig .scVector .vmem S1x128 .i32 :=
  (aW.slice (Rect.unit (s := S2x1x128) ![b.val, 0, 0] S1x1x128.size (inb_aSlot b)) (fun _ => rfl)).squeeze S1x128 squeezes_S1x1x128_S1x128
abbrev bSlot (b : Fin 2) : Memref sig .scVector .vmem S128x128 .f32 :=
  (bW.slice (Rect.unit (s := S2x128x128) ![b.val, 0, 0] S1x128x128.size (inb_bSlot b)) (fun _ => rfl)).squeeze S128x128 squeezes_S1x128x128_S128x128
/-- Their semaphores. -/
abbrev aSem (b : Fin 2) : DmaSem sig := ((cc1_scoped2.slice (Rect.unit (s := S2) ![b.val] S1.size (inb_sem b))).squeeze S_ squeezes_S1_S_).sem
abbrev bSem (b : Fin 2) : DmaSem sig := ((cc1_scoped4.slice (Rect.unit (s := S2) ![b.val] S1.size (inb_sem b))).squeeze S_ squeezes_S1_S_).sem

/-- The positions of block `n` in the index list and in the result. -/
def iSet (n : Fin 2528) : Finset S1x323584.Idx := (iBlk n).view.set
def oSet (n : Fin 2528) : Finset S323584x128.Idx := (oBlk n).view.set

theorem mem_iSet (n : Fin 2528) (x : S1x323584.Idx) : x ∈ iSet n ↔ (x 1).val / 128 = n.val := by
  show x ∈ ((View.whole main_v9_scv).slice (Rect.unit (s := S1x323584) ![0, 128 * n.val] S1x128.size (inb_iBlk n))).set ↔ _
  rw [View.set_slice_whole, Rect.mem_set_unit]
  have hx0 : (x 0).val < 1 := (x 0).isLt
  have hx1 : (x 1).val < 323584 := (x 1).isLt
  constructor
  · intro h
    have h1 : 128 * n.val ≤ (x 1).val ∧ (x 1).val < 128 * n.val + 128 := h 1
    omega
  · intro h a
    match a with
    | 0 => show 0 ≤ (x 0).val ∧ (x 0).val < 0 + 1; omega
    | 1 => show 128 * n.val ≤ (x 1).val ∧ (x 1).val < 128 * n.val + 128; omega

theorem mem_oSet (n : Fin 2528) (x : S323584x128.Idx) : x ∈ oSet n ↔ (x 0).val / 128 = n.val := by
  show x ∈ ((View.whole main_v10_scv).slice (Rect.unit (s := S323584x128) ![128 * n.val, 0] S128x128.size (inb_oBlk n))).set ↔ _
  rw [View.set_slice_whole, Rect.mem_set_unit]
  have hx0 : (x 0).val < 323584 := (x 0).isLt
  have hx1 : (x 1).val < 128 := (x 1).isLt
  constructor
  · intro h
    have h1 : 128 * n.val ≤ (x 0).val ∧ (x 0).val < 128 * n.val + 128 := h 0
    omega
  · intro h a
    match a with
    | 0 => show 128 * n.val ≤ (x 0).val ∧ (x 0).val < 128 * n.val + 128; omega
    | 1 => show 0 ≤ (x 1).val ∧ (x 1).val < 0 + 128; omega

/-- Block `t` of task `(c, j)`. -/
def blk (c : Fin 2) (j : Fin 16) (t : Fin 79) : Fin 2528 := ⟨79 * (16 * c.val + j.val) + t.val, by omega⟩

theorem blk_inj {p q : Fin 2 × Fin 16 × Fin 79} (h : blk p.1 p.2.1 p.2.2 = blk q.1 q.2.1 q.2.2) : p = q := by
  obtain ⟨c, j, t⟩ := p
  obtain ⟨c', j', t'⟩ := q
  have h' : 79 * (16 * c.val + j.val) + t.val = 79 * (16 * c'.val + j'.val) + t'.val := congrArg Fin.val h
  have hc : c.val = c'.val := by omega
  have hj : j.val = j'.val := by omega
  have ht : t.val = t'.val := by omega
  rw [Fin.ext hc, Fin.ext hj, Fin.ext ht]

theorem blk_surj (n : Fin 2528) : ∃ c j t, blk c j t = n :=
  ⟨⟨n.val / 79 / 16, by omega⟩, ⟨n.val / 79 % 16, by omega⟩, ⟨n.val % 79, by omega⟩, Fin.ext (by show 79 * (16 * (n.val / 79 / 16) + n.val / 79 % 16) + n.val % 79 = n.val; omega)⟩

theorem nSub_eq : τ.nSub = 16 := rfl

abbrev shRef (c : Fin τ.nSC) : DevRef τ sig := ⟨.shared, ⟨0, by decide⟩, c⟩
abbrev shLoc (d : Dev nD) (c : Fin τ.nSC) : Loc nD τ sig := (d, shRef c)

/-! ## The values -/

/-- The table's position of row `r`, column `k`. -/
def xAt (r : ℕ) (hr : r < 10000) (k : Fin 128) : S10000x128.Idx :=
  fun | 0 => (⟨r, hr⟩ : Fin 10000) | 1 => k | ⟨_ + 2, h⟩ => absurd h (Nat.not_lt.2 (Nat.le_add_left _ _))
/-- The index list's position `n`. -/
def jAt (n : Fin 323584) : S1x323584.Idx :=
  fun | 0 => (0 : Fin 1) | 1 => n | ⟨_ + 2, h⟩ => absurd h (Nat.not_lt.2 (Nat.le_add_left _ _))

/-- The gathered rows: row `x 0` of the result is the table's row at the list's word `x 0`. -/
def gat {α : Type} (X : S10000x128.Idx → α) (J : S1x323584.Idx → BitVec 32) : S323584x128.Idx → α := fun x =>
  X (xAt ((J (jAt (x 0))).toNat % 10000) (Nat.mod_lt _ (by decide)) (x 1))

-- the table and the index list at the call, on each device
variable (X : Dev nD → S10000x128.Idx → Elt F .f32) (J : Dev nD → S1x323584.Idx → BitVec 32)

abbrev xq (c : Fin 2) : PosShare TreeShare := Transfers.shareTok fullShare 2 c
abbrev xPts (d : Dev nD) (q : PosShare TreeShare) : sProp 𝕄 := xLoc d ↦{q} (show Buf (Elt F) (xLoc d) from X d)
abbrev shPts (d : Dev nD) (c : Fin τ.nSC) (q : PosShare TreeShare) : sProp 𝕄 := shLoc d c ↦{q} (show Buf (Elt F) (shLoc d c) from X d)
abbrev jB (d : Dev nD) (n : Fin 2528) : sProp 𝕄 := jLoc d ↦[iSet n]{fullShare} (show Buf (Elt F) (jLoc d) from J d)
abbrev oAny (d : Dev nD) (n : Fin 2528) : sProp 𝕄 := iprop(∃ f : Buf (Elt F) (oLoc d), oLoc d ↦[oSet n]{fullShare} f)
abbrev oVal (d : Dev nD) (n : Fin 2528) : sProp 𝕄 := oLoc d ↦[oSet n]{fullShare} (show Buf (Elt F) (oLoc d) from gat (X d) (J d))

/-! ## The barrier -/

abbrev bcell (d : Dev nD) (c : Fin τ.nSC) (j : Fin τ.nSub) : GSem nD τ sig := (V d c j, .reg sc_bar0)

theorem sc_bar0_ne_go : (sc_bar0 : Sem sig) ≠ sc_go := by decide

def isBar (g : GSem nD τ sig) : Bool :=
  match g with
  | ((_, .scVector _ _), sm) => decide (sm = .reg sc_bar0)
  | _ => false

@[simp] theorem isBar_bcell (d : Dev nD) (c : Fin τ.nSC) (j : Fin τ.nSub) : isBar (bcell d c j) = true := by simp [isBar]

/-- What a duty in tile `j`'s round hands over: tile 0's, tile `j`'s read share of the shared table; the others', nothing. -/
def bPay (g : GSem nD τ sig) (n : ℕ) : sProp 𝕄 :=
  match g with
  | ((d, .scVector c j), _) => if n = 0 then shPts X d c (Transfers.shareTok fullShare 16 (Fin.cast nSub_eq j)) else iprop(emp)
  | _ => iprop(emp)

/-- One round on each barrier cell, of one unit duty per tile of the SparseCore, named by its number. -/
def bRd : Rounds.Schedule (GSem nD τ sig) ℕ 𝕄 where
  duties g r := if isBar g ∧ r = 0 then (Finset.univ : Finset (Fin τ.nSub)).image Fin.val else ∅
  amount _ _ _ := 1
  payload g _ n := bPay X g n
  amount_pos _ _ _ _ := Nat.one_pos

instance bRd_payload_storable (g : GSem nD τ sig) (r n : ℕ) : BI.Storable (upEmb : UEmb _ 𝕄) ((bRd X).payload g r n) := by
  show BI.Storable upEmb (bPay X g n)
  unfold bPay
  rcases g with ⟨⟨d, _ | c | ⟨c, i⟩⟩, sm⟩ <;> dsimp only <;> (repeat' split) <;> infer_instance

theorem bigSep_emp' {I : Type} (s : Finset I) : (bigSep s fun _ => iprop(emp)) = (iprop(emp) : sProp 𝕄) := bigSep_emp_const s

theorem bRd_duties₀ (d : Dev nD) (c : Fin τ.nSC) (j : Fin τ.nSub) : (bRd X).duties (bcell d c j) 0 = (Finset.univ : Finset (Fin τ.nSub)).image Fin.val := by
  simp [bRd, isBar]
theorem bRd_duties_succ (g : GSem nD τ sig) (r : ℕ) (hr : 1 ≤ r) : (bRd X).duties g r = ∅ :=
  if_neg fun h => absurd h.2 (Nat.ne_of_gt hr)
theorem bRd_mem₀ (d : Dev nD) (c : Fin τ.nSC) (j i : Fin τ.nSub) : i.val ∈ (bRd X).duties (bcell d c j) 0 := by
  rw [bRd_duties₀]; exact Finset.mem_image_of_mem _ (Finset.mem_univ i)
theorem bRd_expect (d : Dev nD) (c : Fin τ.nSC) (j : Fin τ.nSub) : 0 + grid1.bound 1 = (bRd X).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- A tile's arrivals: a unit owed to every tile's cell of its SparseCore. -/
def oxV (d : Dev nD) (c : Fin τ.nSC) : CellTallies nD τ sig (HIx 1) := ∑ j : Fin (grid1.bound 1), tallyAt (bcell d c (j.castLE hsub1)) (some 0) 1

theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

theorem oxV_apply_pos {d : Dev nD} {c : Fin τ.nSC} {g : GSem nD τ sig} {ι : HIx 1} (h : 0 < oxV d c g ι) : ∃ j : Fin (grid1.bound 1), g = bcell d c (j.castLE hsub1) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- Tile `(c, i)`'s kit: the cells' invariants and that each has reached round 0, its own position, its duty token in every
    tile's round, and the credit for the sixteen units of its own. -/
def bkit (d : Dev nD) (c : Fin τ.nSC) (i : Fin τ.nSub) : sProp 𝕄 :=
  iprop((∃ κ : GSem nD τ sig → ℕ, bigSep Finset.univ fun j : Fin (grid1.bound 1) =>
      cellInv EB (bRd X) (κ (bcell d c (j.castLE hsub1))) (bcell d c (j.castLE hsub1)))
    ∗ (bigSep Finset.univ fun j : Fin (grid1.bound 1) => dutyTok EB (bcell d c (j.castLE hsub1)) 0 i.val)
    ∗ (bigSep Finset.univ fun j : Fin (grid1.bound 1) => reached EB (bcell d c (j.castLE hsub1)) 0)
    ∗ atPos EB (bcell d c i) 0 ∅ 0
    ∗ cred (tallyAt (bcell d c i) (some 0) (grid1.bound 1)))

/-! ## What the call carries -/

/-- A task's blocks of the index list, of the result before and of the result after. -/
abbrev jBs (d : Dev nD) (c : Fin 2) (j : Fin 16) : sProp 𝕄 := bigSep Finset.univ fun t : Fin 79 => jB J d (blk c j t)
abbrev oAnys (d : Dev nD) (c : Fin 2) (j : Fin 16) : sProp 𝕄 := bigSep Finset.univ fun t : Fin 79 => oAny (F := F) d (blk c j t)
abbrev oVals (d : Dev nD) (c : Fin 2) (j : Fin 16) : sProp 𝕄 := bigSep Finset.univ fun t : Fin 79 => oVal X J d (blk c j t)

/-- What tile 0 gets besides: a read share of the table and the shared scratch; and what it gives back. -/
def goX (d : Dev nD) (c : Fin 2) (s : Fin τ.nSC) (j : Fin 16) : sProp 𝕄 :=
  if j.val = 0 then iprop(xPts X d (xq c) ∗ ∃ f : Buf (Elt F) (shLoc d s), shLoc d s ↦{fullShare} f) else iprop(emp)
def tdX (d : Dev nD) (c : Fin 2) (s : Fin τ.nSC) (j : Fin 16) : sProp 𝕄 :=
  if j.val = 0 then iprop(xPts X d (xq c) ∗ shPts X d s (Transfers.shareDrop fullShare 16)) else iprop(emp)

instance goX_storable (d : Dev nD) (c : Fin 2) (s : Fin τ.nSC) (j : Fin 16) : BI.Storable (upEmb : UEmb _ 𝕄) (goX X d c s j) := by
  unfold goX; split <;> infer_instance
instance tdX_storable (d : Dev nD) (c : Fin 2) (s : Fin τ.nSC) (j : Fin 16) : BI.Storable (upEmb : UEmb _ 𝕄) (tdX X d c s j) := by
  unfold tdX; split <;> infer_instance

abbrev core2 (c : Fin ((K (F := F)).nCore 0)) : Fin 2 := Fin.cast nCore_zero c
abbrev sub16 (i : Fin ((K (F := F)).nSub 0)) : Fin 16 := Fin.cast nSub_zero i

abbrev bars (d : Dev nD) (c : Fin ((K (F := F)).nCore 0)) : sProp 𝕄 :=
  bigSep Finset.univ fun i : Fin ((K (F := F)).nSub 0) => semVal (bcell d (coreOf c) ((K (F := F)).sub 0 i)) 0

abbrev stP (d : Dev nD) (c : Fin ((K (F := F)).nCore 0)) : sProp 𝕄 :=
  iprop(xPts X d (xq (core2 c)) ∗ (bigSep Finset.univ fun j : Fin 16 => jBs J d (core2 c) j) ∗ (bigSep Finset.univ fun j : Fin 16 => oAnys (F := F) d (core2 c) j))
abbrev dnP (d : Dev nD) (c : Fin ((K (F := F)).nCore 0)) : sProp 𝕄 :=
  iprop(xPts X d (xq (core2 c)) ∗ (bigSep Finset.univ fun j : Fin 16 => jBs J d (core2 c) j) ∗ (bigSep Finset.univ fun j : Fin 16 => oVals X J d (core2 c) j) ∗ bars d c)
abbrev goP (d : Dev nD) (c : Fin ((K (F := F)).nCore 0)) (i : Fin ((K (F := F)).nSub 0)) : sProp 𝕄 :=
  iprop(jBs J d (core2 c) (sub16 i) ∗ oAnys (F := F) d (core2 c) (sub16 i) ∗ goX X d (core2 c) (coreOf c) (sub16 i))
abbrev tdP (d : Dev nD) (c : Fin ((K (F := F)).nCore 0)) (i : Fin ((K (F := F)).nSub 0)) : sProp 𝕄 :=
  iprop(jBs J d (core2 c) (sub16 i) ∗ oVals X J d (core2 c) (sub16 i) ∗ shPts X d (coreOf c) (Transfers.shareTok fullShare 16 (sub16 i))
    ∗ tdX X d (core2 c) (coreOf c) (sub16 i) ∗ semVal (bcell d (coreOf c) ((K (F := F)).sub 0 i)) 0)

set_option backward.proofsInPublic true in
/-- The call takes the table, the list and the result; each task takes its blocks, tile 0 the table and the scratch, and
    brings back its blocks of the result at the gathered rows, its share of the scratch and its barrier semaphore at zero. -/
def P : (K (F := F)).Pay (nD := nD) (Val := Elt F) (Name := ℕ) (U := UU) where
  st := fun q d c => match q with | 0 => stP X J d c
  dn := fun q d c => match q with | 0 => dnP X J d c
  go := fun q d c i => match q with | 0 => goP X J d c i
  td := fun q d c i => match q with | 0 => tdP X J d c i
  x := fun _ thr => match thr with
    | (d, .scVector c i) => bkit X d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub1) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance P_storable : (P X J).IsStorable where
  st q d c := match q with
    | 0 => (inferInstance : BI.Storable (upEmb : UEmb _ 𝕄) (stP X J d c))
  dn q d c := match q with
    | 0 => (inferInstance : BI.Storable (upEmb : UEmb _ 𝕄) (dnP X J d c))
  go q d c i := match q with
    | 0 => (inferInstance : BI.Storable (upEmb : UEmb _ 𝕄) (goP X J d c i))
  td q d c i := match q with
    | 0 => (inferInstance : BI.Storable (upEmb : UEmb _ 𝕄) (tdP X J d c i))

end Cert.Proof.Tiles
-- ==== Proof.Steps.lean ====
/-
  The transfers of one task, each as one step of its program: the fetch of a block of the index list into a slot, the
  gather of the rows a slot names out of the shared table, the copy of the gathered rows out to the result, and the waits.
  A step is stated for any spelling of its memrefs that equals the canonical one.
-/
module

public import proofs.«01_k».proof.Proof.Setup

@[expose] public section

noncomputable section

namespace Cert.Proof.Tiles

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight Flight_mono)

variable {F : FTy → Type} [FloatOps F]

local notation "𝕄" => MT nD τ sig (HIx 1) (Elt F) ℕ UU ℕ

/-! ## Other spellings of the memrefs -/

theorem iBlk_of {o : Fin 2 → ℕ} (inb : ∀ a, o a + S1x128.size a ≤ S1x323584.size a) (n : Fin 2528) (h : o = ![0, 128 * n.val]) :
    iW.slice (Rect.unit (s := S1x323584) o S1x128.size inb) (fun _ => rfl) = iBlk n := by subst h; rfl
theorem oBlk_of {o : Fin 2 → ℕ} (inb : ∀ a, o a + S128x128.size a ≤ S323584x128.size a) (n : Fin 2528) (h : o = ![128 * n.val, 0]) :
    oW.slice (Rect.unit (s := S323584x128) o S128x128.size inb) (fun _ => rfl) = oBlk n := by subst h; rfl
theorem aSlot_of {o : Fin 3 → ℕ} (inb : ∀ a, o a + S1x1x128.size a ≤ S2x1x128.size a) (b : Fin 2) (h : o = ![b.val, 0, 0]) :
    (aW.slice (Rect.unit (s := S2x1x128) o S1x1x128.size inb) (fun _ => rfl)).squeeze S1x128 squeezes_S1x1x128_S1x128 = aSlot b := by subst h; rfl
theorem bSlot_of {o : Fin 3 → ℕ} (inb : ∀ a, o a + S1x128x128.size a ≤ S2x128x128.size a) (b : Fin 2) (h : o = ![b.val, 0, 0]) :
    (bW.slice (Rect.unit (s := S2x128x128) o S1x128x128.size inb) (fun _ => rfl)).squeeze S128x128 squeezes_S1x128x128_S128x128 = bSlot b := by subst h; rfl
theorem aSem_of {o : Fin 1 → ℕ} (inb : ∀ a, o a + S1.size a ≤ S2.size a) (b : Fin 2) (h : o = ![b.val]) :
    ((cc1_scoped2.slice (Rect.unit (s := S2) o S1.size inb)).squeeze S_ squeezes_S1_S_).sem = aSem b := by subst h; rfl
theorem bSem_of {o : Fin 1 → ℕ} (inb : ∀ a, o a + S1.size a ≤ S2.size a) (b : Fin 2) (h : o = ![b.val]) :
    ((cc1_scoped4.slice (Rect.unit (s := S2) o S1.size inb)).squeeze S_ squeezes_S1_S_).sem = bSem b := by subst h; rfl

/-- The list in a slot of the index buffer as the gather addresses it, and the shared table as it addresses it. -/
abbrev aList (b : Fin 2) : Memref sig .scVector .vmem S128 .i32 :=
  ((aSlot b).slice (Rect.unit (s := S1x128) ![0, 0] S1x128.size inb_S1x128_S1x128_0_0) (fun _ => rfl)).squeeze S128 squeezes_S1x128_S128
abbrev shAll : Memref sig .scVector .shared S10000x128 .f32 :=
  shW.slice (Rect.unit (s := S10000x128) ![0, 0] S10000x128.size inb_S10000x128_S10000x128_0_0) (fun _ => rfl)

theorem aList_of {o : Fin 3 → ℕ} (inb : ∀ a, o a + S1x1x128.size a ≤ S2x1x128.size a) (b : Fin 2) (h : o = ![b.val, 0, 0]) :
    (((aW.slice (Rect.unit (s := S2x1x128) o S1x1x128.size inb) (fun _ => rfl)).squeeze S1x128 squeezes_S1x1x128_S1x128).slice
      (Rect.unit (s := S1x128) ![0, 0] S1x128.size inb_S1x128_S1x128_0_0) (fun _ => rfl)).squeeze S128 squeezes_S1x128_S128 = aList b := by subst h; rfl

theorem all_in {s : Shape} {o : Fin s.rank → ℕ} (inb : ∀ a, o a + s.size a ≤ s.size a) : (Rect.unit (s := s) o s.size inb).set = Finset.univ := by
  ext i
  simp only [Finset.mem_univ, iff_true, Rect.mem_set_unit]
  intro a
  have h1 := inb a
  have h2 := (i a).isLt
  omega

theorem set_aList (b : Fin 2) : (aList b).view.set = (aSlot b).view.set := by
  show (((aSlot b).view.slice (Rect.unit (s := S1x128) ![0, 0] S1x128.size inb_S1x128_S1x128_0_0)).reshape S128 squeezes_S1x128_S128.numel_eq).set = _
  rw [View.set_reshape, View.set_slice, all_in]; rfl

theorem set_shAll : (shAll).view.set = Finset.univ := by
  show ((View.whole cc1_scratch0).slice (Rect.unit (s := S10000x128) ![0, 0] S10000x128.size inb_S10000x128_S10000x128_0_0)).set = _
  rw [View.set_slice_whole]; exact all_in _

/-! ## The values of a block -/

/-- Position `k` of a slot's list. -/
def uAt (k : Fin 128) : S1x128.Idx :=
  fun | 0 => (0 : Fin 1) | 1 => k | ⟨_ + 2, h⟩ => absurd h (Nat.not_lt.2 (Nat.le_add_left _ _))

/-- The rows a list names. -/
def gU {α : Type} (X : S10000x128.Idx → α) (u : S1x128.Idx → BitVec 32) : S128x128.Idx → α := fun x =>
  X (xAt ((u (uAt (x 0))).toNat % 10000) (Nat.mod_lt _ (by decide)) (x 1))

/-- The words of block `n`. -/
def idxU (J : S1x323584.Idx → BitVec 32) (n : Fin 2528) : S1x128.Idx → BitVec 32 := fun x => J ((iBlk n).view.emb x)

theorem iBlk_emb (n : Fin 2528) (k : Fin 128) : (iBlk n).view.emb (uAt k) = jAt ⟨128 * n.val + k.val, by omega⟩ := by
  funext a
  apply Fin.ext
  match a with
  | 0 => rfl
  | 1 => show 128 * n.val + 1 * k.val = 128 * n.val + k.val; omega

theorem oBlk_emb0 (n : Fin 2528) (x : S128x128.Idx) : ((oBlk n).view.emb x 0).val = 128 * n.val + (x 0).val := by
  show 128 * n.val + 1 * (x 0).val = _; omega
theorem oBlk_emb1 (n : Fin 2528) (x : S128x128.Idx) : ((oBlk n).view.emb x 1).val = (x 1).val := by
  show 0 + 1 * (x 1).val = _; omega

theorem xAt_congr {r r' : ℕ} (hr : r < 10000) (hr' : r' < 10000) (e : r = r') {k k' : Fin 128} (ek : k = k') : xAt r hr k = xAt r' hr' k' := by
  subst e ek; rfl

theorem gat_block {α : Type} (X : S10000x128.Idx → α) (J : S1x323584.Idx → BitVec 32) (n : Fin 2528) (x : S128x128.Idx) :
    gU X (idxU J n) x = gat X J ((oBlk n).view.emb x) := by
  have h0 : (iBlk n).view.emb (uAt (x 0)) = jAt ((oBlk n).view.emb x 0) :=
    (iBlk_emb n (x 0)).trans (congrArg jAt (Fin.ext (oBlk_emb0 n x).symm))
  have h1 : (x 1 : Fin 128) = ((oBlk n).view.emb x 1 : Fin 128) := Fin.ext (oBlk_emb1 n x).symm
  exact congrArg X (xAt_congr _ _ (congrArg (fun z => (J z).toNat % 10000) h0) h1)

/-- What the copy of a block's gathered rows leaves is the block of the gathered rows. -/
theorem put_congr (X : S10000x128.Idx → Elt F .f32) (J : S1x323584.Idx → BitVec 32) (n : Fin 2528) (fo : S323584x128.Idx → Elt F .f32)
    (u : S128x128.Idx → Elt F .f32) (hu : u = gU X (idxU J n)) :
    ∀ i ∈ oSet n, (oBlk n).view.write (Elt F) fo u Finset.univ i = gat X J i := by
  intro i hi
  obtain ⟨x, -, rfl⟩ := Finset.mem_map.mp hi
  refine (View.write_emb_of_mem (v := (oBlk n).view) fo u (Finset.mem_univ x)).trans ?_
  subst hu
  exact gat_block X J n x

/-! ## The task's thread and its resources -/

abbrev cV (L : grid1.Coords) : Fin τ.nSC := (L 0).castLE hcore1
abbrev jV (L : grid1.Coords) : Fin τ.nSub := (L 1).castLE hsub1
abbrev c2 (L : grid1.Coords) : Fin 2 := Fin.cast rfl (L 0)
abbrev j16 (L : grid1.Coords) : Fin 16 := Fin.cast rfl (L 1)

variable (X : Dev nD → S10000x128.Idx → Elt F .f32) (J : Dev nD → S1x323584.Idx → BitVec 32)
variable (d : Dev nD) (L : grid1.Coords)

abbrev th : Thread nD τ := V d (cV L) (jV L)

/-- A slot of the index buffer holding the words `u`; a slot at any contents. -/
def slotA (b : Fin 2) (u : S1x128.Idx → BitVec 32) : sProp 𝕄 :=
  iprop(∃ f, ⌜(aSlot b).view.read (Elt F) f = u⌝ ∗ ((aSlot b).view.loc (th d L) ↦[(aSlot b).view.set]{fullShare} f))
def anyA (b : Fin 2) : sProp 𝕄 := iprop(∃ f, ((aSlot b).view.loc (th d L) ↦[(aSlot b).view.set]{fullShare} f))
def slotB (b : Fin 2) (u : S128x128.Idx → Elt F .f32) : sProp 𝕄 :=
  iprop(∃ f, ⌜(bSlot b).view.read (Elt F) f = u⌝ ∗ ((bSlot b).view.loc (th d L) ↦[(bSlot b).view.set]{fullShare} f))
def anyB (b : Fin 2) : sProp 𝕄 := iprop(∃ f, ((bSlot b).view.loc (th d L) ↦[(bSlot b).view.set]{fullShare} f))

theorem slotA_any (b : Fin 2) (u : S1x128.Idx → BitVec 32) : (slotA d L b u : sProp 𝕄) ⊢ anyA d L b := by
  unfold slotA anyA; iintro ⟨%f, -, H⟩; iexists f; iexact H

abbrev NA : ℕ := (aSlot 0).view.dmaCredit
abbrev NB : ℕ := (bSlot 0).view.dmaCredit
abbrev NO : ℕ := (oBlk 0).view.dmaCredit
abbrev NS : ℕ := (shW).view.dmaCredit
theorem NA_pos : 0 < NA := View.dmaCredit_pos _ (by decide)
theorem NO_pos : 0 < NO := View.dmaCredit_pos _ (by decide)
theorem NS_pos : 0 < NS := View.dmaCredit_pos _ (by decide)
theorem NA_eq (b : Fin 2) : (aSlot b).view.dmaCredit = NA := rfl
theorem NB_eq (b : Fin 2) : (bSlot b).view.dmaCredit = NB := rfl
theorem NO_eq (n : Fin 2528) : (oBlk n).view.dmaCredit = NO := rfl

/-- A fetch, a gather, a copy out and the table's copy, in flight. -/
def inFl (b : Fin 2) (n : Fin 2528) : sProp 𝕄 :=
  Flight countersEmb (th d L) (.dma (aSem b)) (default : HIx 1) NA iprop(slotA d L b (idxU (J d) n) ∗ jB J d n)
def gaFl (b b' : Fin 2) (u : S1x128.Idx → BitVec 32) (q : PosShare TreeShare) : sProp 𝕄 :=
  Flight countersEmb (th d L) (.dma cc1_scoped5.sem) (default : HIx 1) NB
    iprop(slotB d L b' (gU (X d) u) ∗ shPts X d (cV L) q ∗ anyA d L b)
def ouFl (b : Fin 2) (n : Fin 2528) : sProp 𝕄 :=
  Flight countersEmb (th d L) (.dma (bSem b)) (default : HIx 1) NO iprop(oVal X J d n ∗ anyB d L b)
def tbFl (q : PosShare TreeShare) : sProp 𝕄 :=
  Flight countersEmb (th d L) (.dma cc1_scoped0.sem) (default : HIx 1) NS iprop(shPts X d (cV L) fullShare ∗ xPts X d q)

/-! ## The fetch -/

theorem wp_fetch {α : Type} {Q : α → sProp 𝕄} (b : Fin 2) (n : Fin 2528)
    {src : Memref sig .scVector .hbm S1x128 .i32} {dst : Memref sig .scVector .vmem S1x128 .i32} {sm : DmaSem sig}
    (hs : src = iBlk n) (hd : dst = aSlot b) (hm : sm = aSem b)
    {h1 : src.view.WordExact} {h2 : dst.view.WordExact} {h3 : DmaTarget.Typed (nD := nD) .hbm (.dma sm) (.here (p := Proc.scVector (cV L) (jV L)) dst)}
    {k : PUnit → Prog (TpuEff nD τ sig (Elt F) Λ₀ (.scVector (cV L) (jV L))) α} :
    iprop(jB J d n ∗ anyA d L b ∗ semVal (th d L, .dma (aSem b)) 0)
      ⊢ iprop((inFl J d L b n -∗ wp frame (wpE (defs₀ (F := F)) 𝒱₀ (th d L) none) Set.univ (k ⟨⟩) Q) -∗ wp frame (wpE (defs₀ (F := F)) 𝒱₀ (th d L) none) Set.univ (.op (.enqueueDma src (.here dst) (.dma sm) h1 h2 h3) k) Q) := by
  subst hs hd hm
  unfold anyA inFl
  iintro ⟨Hj, ⟨%f, Ha⟩, Hv⟩ Hk
  iapply (Transfers.wp_dmaLocal countersEmb 𝒱₀ (th d L) none (default : HIx 1) NA rfl NA_pos (Finset.Subset.refl _)) $$ [Hj Ha Hv]
  · isplitl [Hj]; · iexact Hj
    isplitl [Ha]; · iexact Ha
    iexact Hv
  iintro Hf
  iapply Hk
  iapply (Flight_mono countersEmb (th d L) (D' := iprop(slotA d L b (idxU (J d) n) ∗ jB J d n)) ?_) $$ Hf
  unfold slotA
  iintro ⟨Ha, Hj⟩
  isplitl [Ha]
  · iexists _; isplitr; swap; · iexact Ha
    ipureintro
    exact View.read_write_univ _ _
  · iexact Hj

theorem wp_fetched {α : Type} {Q : α → sProp 𝕄} (b : Fin 2) (n : Fin 2528) (O : CellTallies nD τ sig (HIx 1)) (W : Waits sig (HIx 1))
    {src : Memref sig .scVector .hbm S1x128 .i32} {dst : Memref sig .scVector .vmem S1x128 .i32} {sm : DmaSem sig}
    (hd : dst = aSlot b) (hm : sm = aSem b)
    {h1 : src.view.WordExact} {h2 : dst.view.WordExact}
    {k : PUnit → Prog (TpuEff nD τ sig (Elt F) Λ₀ (.scVector (cV L) (jV L))) α} :
    iprop(inFl J d L b n ∗ owes (th d L) O W ∗ Transfers.MayWaits (th d L) (default : HIx 1) O)
      ⊢ iprop((iprop(slotA d L b (idxU (J d) n) ∗ jB J d n ∗ semVal (th d L, .dma (aSem b)) 0 ∗ owes (th d L) O (insert (SemLoc.dma (aSem b), default) W))
          -∗ wp frame (wpE (defs₀ (F := F)) 𝒱₀ (th d L) none) Set.univ (k ⟨⟩) Q) -∗ wp frame (wpE (defs₀ (F := F)) 𝒱₀ (th d L) none) Set.univ (.op (.waitDma2 sm src dst h1 h2) k) Q) := by
  subst hd hm
  unfold inFl
  iintro ⟨Hf, HO, Hmw⟩ Hk
  iapply (Transfers.wp_waitLocalO countersEmb 𝒱₀ (th d L) none (default : HIx 1) (N := NA) (NA_eq b)) $$ [Hf HO Hmw]
  · isplitl [Hf]; · iexact Hf
    isplitl [HO]; · iexact HO
    iapply (Transfers.MayWaits.elim (SemLoc.dma (aSem b))) $$ Hmw
  iintro ⟨⟨Ha, Hj⟩, Hv, HO⟩
  iapply Hk
  isplitl [Ha]; · iexact Ha
  isplitl [Hj]; · iexact Hj
  isplitl [Hv]; · iexact Hv
  iexact HO

/-! ## The copy out -/

theorem wp_put {α : Type} {Q : α → sProp 𝕄} (b : Fin 2) (n : Fin 2528)
    {src : Memref sig .scVector .vmem S128x128 .f32} {dst : Memref sig .scVector .hbm S128x128 .f32} {sm : DmaSem sig}
    (hs : src = bSlot b) (hd : dst = oBlk n) (hm : sm = bSem b)
    {h1 : src.view.WordExact} {h2 : dst.view.WordExact} {h3 : DmaTarget.Typed (nD := nD) .vmem (.dma sm) (.here (p := Proc.scVector (cV L) (jV L)) dst)}
    {k : PUnit → Prog (TpuEff nD τ sig (Elt F) Λ₀ (.scVector (cV L) (jV L))) α} :
    iprop(slotB d L b (gU (X d) (idxU (J d) n)) ∗ oAny d n ∗ semVal (th d L, .dma (bSem b)) 0)
      ⊢ iprop((ouFl X J d L b n -∗ wp frame (wpE (defs₀ (F := F)) 𝒱₀ (th d L) none) Set.univ (k ⟨⟩) Q) -∗ wp frame (wpE (defs₀ (F := F)) 𝒱₀ (th d L) none) Set.univ (.op (.enqueueDma src (.here dst) (.dma sm) h1 h2 h3) k) Q) := by
  subst hs hd hm
  unfold slotB ouFl
  iintro ⟨⟨%fb, %hfb, Hb⟩, ⟨%fo, Ho⟩, Hv⟩ Hk
  iapply (Transfers.wp_dmaLocal countersEmb 𝒱₀ (th d L) none (default : HIx 1) NO rfl NO_pos (Finset.Subset.refl _)) $$ [Hb Ho Hv]
  · isplitl [Hb]; · iexact Hb
    isplitl [Ho]; · iexact Ho
    iexact Hv
  iintro Hf
  iapply Hk
  iapply (Flight_mono countersEmb (th d L) (D' := iprop(oVal X J d n ∗ anyB d L b)) ?_) $$ Hf
  unfold anyB
  iintro ⟨Ho, Hb⟩
  isplitl [Ho]
  · iapply (Entails.of_eq (pointsTo_congr (ℓ := oLoc d) (I := oSet n) (q := fullShare) (put_congr (X d) (J d) n fo _ hfb)))
    iexact Ho
  · iexists _; iexact Hb

theorem wp_putDone {α : Type} {Q : α → sProp 𝕄} (b : Fin 2) (n : Fin 2528) (O : CellTallies nD τ sig (HIx 1)) (W : Waits sig (HIx 1))
    {src : Memref sig .scVector .vmem S128x128 .f32} {dst : Memref sig .scVector .hbm S128x128 .f32} {sm : DmaSem sig}
    (hd : dst = oBlk n) (hm : sm = bSem b)
    {h1 : src.view.WordExact} {h2 : dst.view.WordExact}
    {k : PUnit → Prog (TpuEff nD τ sig (Elt F) Λ₀ (.scVector (cV L) (jV L))) α} :
    iprop(ouFl X J d L b n ∗ owes (th d L) O W ∗ Transfers.MayWaits (th d L) (default : HIx 1) O)
      ⊢ iprop((iprop(oVal X J d n ∗ anyB d L b ∗ semVal (th d L, .dma (bSem b)) 0 ∗ owes (th d L) O (insert (SemLoc.dma (bSem b), default) W))
          -∗ wp frame (wpE (defs₀ (F := F)) 𝒱₀ (th d L) none) Set.univ (k ⟨⟩) Q) -∗ wp frame (wpE (defs₀ (F := F)) 𝒱₀ (th d L) none) Set.univ (.op (.waitDma2 sm src dst h1 h2) k) Q) := by
  subst hd hm
  unfold ouFl
  iintro ⟨Hf, HO, Hmw⟩ Hk
  iapply (Transfers.wp_waitLocalO countersEmb 𝒱₀ (th d L) none (default : HIx 1) (N := NO) (NO_eq n)) $$ [Hf HO Hmw]
  · isplitl [Hf]; · iexact Hf
    isplitl [HO]; · iexact HO
    iapply (Transfers.MayWaits.elim (SemLoc.dma (bSem b))) $$ Hmw
  iintro ⟨⟨Ho, Hb⟩, Hv, HO⟩
  iapply Hk
  isplitl [Ho]; · iexact Ho
  isplitl [Hb]; · iexact Hb
  isplitl [Hv]; · iexact Hv
  iexact HO

/-! ## The table's copy into the shared scratch -/

theorem wp_table {α : Type} {Q : α → sProp 𝕄} (q : PosShare TreeShare)
    {h1 : (xW).view.WordExact} {h2 : (shW).view.WordExact}
    {h3 : DmaTarget.Typed (nD := nD) .hbm (.dma cc1_scoped0.sem) (.here (p := Proc.scVector (cV L) (jV L)) shW)}
    {k : PUnit → Prog (TpuEff nD τ sig (Elt F) Λ₀ (.scVector (cV L) (jV L))) α} :
    iprop(xPts X d q ∗ (∃ f : Buf (Elt F) (shLoc d (cV L)), shLoc d (cV L) ↦{fullShare} f) ∗ semVal (th d L, .dma cc1_scoped0.sem) 0)
      ⊢ iprop((tbFl X d L q -∗ wp frame (wpE (defs₀ (F := F)) 𝒱₀ (th d L) none) Set.univ (k ⟨⟩) Q) -∗ wp frame (wpE (defs₀ (F := F)) 𝒱₀ (th d L) none) Set.univ (.op (.enqueueDma xW (.here shW) (.dma cc1_scoped0.sem) h1 h2 h3) k) Q) := by
  unfold tbFl
  iintro ⟨Hx, ⟨%f, Hs⟩, Hv⟩ Hk
  have hx : (xW).view.set = Finset.univ := View.set_whole _
  ihave Hx' := (Entails.of_eq (show (xPts X d q : sProp 𝕄) = ((xW).view.loc (th d L) ↦[(xW).view.set]{q} (show Buf (Elt F) (xLoc d) from X d)) by rw [hx])) $$ Hx
  iapply (Transfers.wp_dmaLocal countersEmb 𝒱₀ (th d L) none (default : HIx 1) (src := xW) (dst := shW) (Sd := Finset.univ) (fd := f) NS rfl NS_pos (Finset.subset_univ _)) $$ [Hx' Hs Hv]
  · isplitl [Hx']; · iexact Hx'
    isplitl [Hs]; · iexact Hs
    iexact Hv
  iintro Hf
  iapply Hk
  iapply (Flight_mono countersEmb (th d L) (D' := iprop(shPts X d (cV L) fullShare ∗ xPts X d q)) ?_) $$ Hf
  iintro ⟨Hs, Hx⟩
  isplitl [Hs]
  · iapply (Entails.of_eq (show (((shW).view.loc (th d L) ↦[Finset.univ]{fullShare} (shW).view.write (Elt F) f ((xW).view.read (Elt F) (show Buf (Elt F) (xLoc d) from X d)) Finset.univ) : sProp 𝕄)
      = shPts X d (cV L) fullShare by rw [View.write_whole_univ]; rfl))
    iexact Hs
  · iapply (Entails.of_eq (show (((xW).view.loc (th d L) ↦[(xW).view.set]{q} (show Buf (Elt F) (xLoc d) from X d)) : sProp 𝕄) = xPts X d q by rw [hx]))
    iexact Hx

theorem wp_tableDone {α : Type} {Q : α → sProp 𝕄} (q : PosShare TreeShare) (O : CellTallies nD τ sig (HIx 1)) (W : Waits sig (HIx 1))
    {h1 : (xW).view.WordExact} {h2 : (shW).view.WordExact}
    {k : PUnit → Prog (TpuEff nD τ sig (Elt F) Λ₀ (.scVector (cV L) (jV L))) α} :
    iprop(tbFl X d L q ∗ owes (th d L) O W ∗ Transfers.MayWaits (th d L) (default : HIx 1) O)
      ⊢ iprop((iprop(shPts X d (cV L) fullShare ∗ xPts X d q ∗ semVal (th d L, .dma cc1_scoped0.sem) 0 ∗ owes (th d L) O (insert (SemLoc.dma cc1_scoped0.sem, default) W))
          -∗ wp frame (wpE (defs₀ (F := F)) 𝒱₀ (th d L) none) Set.univ (k ⟨⟩) Q) -∗ wp frame (wpE (defs₀ (F := F)) 𝒱₀ (th d L) none) Set.univ (.op (.waitDma2 cc1_scoped0.sem xW shW h1 h2) k) Q) := by
  unfold tbFl
  iintro ⟨Hf, HO, Hmw⟩ Hk
  iapply (Transfers.wp_waitLocalO countersEmb 𝒱₀ (th d L) none (default : HIx 1) (N := NS) rfl) $$ [Hf HO Hmw]
  · isplitl [Hf]; · iexact Hf
    isplitl [HO]; · iexact HO
    iapply (Transfers.MayWaits.elim (SemLoc.dma cc1_scoped0.sem)) $$ Hmw
  iintro ⟨⟨Hs, Hx⟩, Hv, HO⟩
  iapply Hk
  isplitl [Hs]; · iexact Hs
  isplitl [Hx]; · iexact Hx
  isplitl [Hv]; · iexact Hv
  iexact HO

/-! ## The gather -/

theorem aList_emb (b : Fin 2) (k : Fin 128) :
    (Rect.unit (s := S1x128) ![0, 0] S1x128.size inb_S1x128_S1x128_0_0).emb
      (Shape.reshapeEquiv (squeezes_S1x128_S128).numel_eq (S128.rowMajor.symm (Fin.cast (by decide) k))) = uAt k := by
  have h : Shape.reshapeEquiv (squeezes_S1x128_S128).numel_eq (S128.rowMajor.symm (Fin.cast (by decide) k)) = uAt k := by
    apply Shape.reshapeEquiv_eq_of_rowMajor
    rw [Equiv.apply_symm_apply]
    refine (Shape.rowMajor_val_two (uAt k)).trans ?_
    show 0 * 128 + k.val = k.val
    omega
  rw [h]
  funext a
  apply Fin.ext
  match a with
  | 0 => rfl
  | 1 => show 0 + 1 * k.val = k.val; omega

theorem aList_read (b : Fin 2) (f : Buf (Elt F) ((aSlot b).view.loc (th d L))) (k : Fin 128) :
    (aList b).view.read (Elt F) f (S128.rowMajor.symm (Fin.cast (by decide) k)) = (aSlot b).view.read (Elt F) f (uAt k) := by
  show (aSlot b).view.read (Elt F) f ((Rect.unit (s := S1x128) ![0, 0] S1x128.size inb_S1x128_S1x128_0_0).emb
      (Shape.reshapeEquiv (squeezes_S1x128_S128).numel_eq (S128.rowMajor.symm (Fin.cast (by decide) k)))) = _
  rw [aList_emb b k]

theorem aList_in (b : Fin 2) (f : Buf (Elt F) ((aSlot b).view.loc (th d L))) (hu : ∀ k, ((aSlot b).view.read (Elt F) f (uAt k)).toNat < 10000)
    (x : S128.Idx) : ((aList b).view.read (Elt F) f x).toNat < S10000x128.size (gathers_S10000x128_S128x128).axis := by
  have h := aList_read d L b f (Fin.cast (by decide) (S128.rowMajor x))
  have e : S128.rowMajor.symm (Fin.cast (by decide) (Fin.cast (by decide : S128.numel = 128) (S128.rowMajor x))) = x :=
    (Equiv.symm_apply_eq _).mpr (Fin.ext rfl)
  rw [e] at h
  rw [h]
  exact hu _

/-- What the stream leaves in the slot: the rows the list names. -/
theorem gather_val (b : Fin 2) (f : Buf (Elt F) ((aSlot b).view.loc (th d L))) (fx : S10000x128.Idx → Elt F .f32)
    (u : S1x128.Idx → BitVec 32) (hu : (aSlot b).view.read (Elt F) f = u) (hr : ∀ k, (u (uAt k)).toNat < 10000)
    (hin : ∀ x : S128.Idx, ((aList b).view.read (Elt F) f x).toNat < S10000x128.size (gathers_S10000x128_S128x128).axis) :
    SparseCore.gatherPayload gathers_S10000x128_S128x128 ((shAll).view.read (Elt F) fx)
      (SparseCore.rows ((aList b).view.read (Elt F) f) rfl hin) = gU fx u := by
  funext x
  have hx : (SparseCore.rows ((aList b).view.read (Elt F) f) (rfl : S128.numel = S128x128.size (gathers_S10000x128_S128x128).axis') hin (x 0)).val
      = (u (uAt (x 0))).toNat % 10000 := by
    refine Eq.trans ?_ (Nat.mod_eq_of_lt (hr (x 0))).symm
    subst hu
    have e := congrArg (fun z : Elt F .i32 => BitVec.toNat z) (aList_read d L b f (x 0))
    exact e
  show fx ((Rect.unit (s := S10000x128) ![0, 0] S10000x128.size inb_S10000x128_S10000x128_0_0).emb _) = fx (xAt _ _ _)
  refine congrArg fx ?_
  funext a
  apply Fin.ext
  match a with
  | 0 =>
    show 0 + 1 * ((gathers_S10000x128_S128x128).idx _ x (gathers_S10000x128_S128x128).axis).val = _
    rw [Shape.Gathers.idx_axis]
    refine Eq.trans ?_ hx
    rw [Nat.zero_add, Nat.one_mul]; rfl
  | 1 =>
    show 0 + 1 * ((gathers_S10000x128_S128x128).idx _ x (1 : Fin 2)).val = (x 1).val
    rw [Shape.Gathers.idx_of_ne _ _ _ _ (by decide)]
    rw [Nat.zero_add, Nat.one_mul]; rfl

theorem gather_credit0 (h : S10000x128.Gathers 0 S128x128) :
    ∑ j, ((bSlot 0).slice (S128x128.rowRect h.axis' j) (S128x128.stride_rowRect h.axis' j)).view.dmaCredit = NB := by
  revert h; decide +kernel

theorem gather_credit (b : Fin 2) (h : S10000x128.Gathers 0 S128x128) :
    ∑ j, ((bSlot b).slice (S128x128.rowRect h.axis' j) (S128x128.stride_rowRect h.axis' j)).view.dmaCredit = NB := gather_credit0 h

theorem wp_gather {Q : PUnit → sProp 𝕄} (b b' : Fin 2) (u : S1x128.Idx → BitVec 32) (q : PosShare TreeShare)
    (hr : ∀ k, (u (uAt k)).toNat < 10000)
    {dst : Memref sig .scVector .vmem S128x128 .f32} {offs : Memref sig .scVector .vmem S128 .i32}
    (hd : dst = bSlot b') (ho : offs = aList b)
    {h0 : (Proc.scVector (τ := τ) (cV L) (jV L)).kind = .scVector} {h1 : S128.numel = S128x128.size (gathers_S10000x128_S128x128).axis'}
    {h2 : (shAll).view.WordExact} {h3 : EltTy.f32.bits = 32} {h4 : Space.shared = .hbm ∨ Space.shared = .shared} {h5 : S10000x128.StreamRows 0} :
    iprop(shPts X d (cV L) q ∗ anyB d L b' ∗ slotA d L b u ∗ semVal (th d L, .dma cc1_scoped5.sem) 0)
      ⊢ iprop((gaFl X d L b b' u q -∗ Q ⟨⟩) -∗ wp frame (wpE (defs₀ (F := F)) 𝒱₀ (th d L) none) Set.univ (SparseCore.enqueueIndirectGather (nD := nD) (τ := τ) (Λ := Λ₀) (p := .scVector (cV L) (jV L)) h0 shAll dst gathers_S10000x128_S128x128 offs h1 cc1_scoped5.sem h2 h3 h4 h5) Q) := by
  subst hd ho
  unfold anyB slotA gaFl
  iintro ⟨Hs, ⟨%fb, Hb⟩, ⟨%fa, %hfa, Ha⟩, Hv⟩ Hk
  have hin := aList_in d L b fa (fun k => by rw [hfa]; exact hr k)
  ihave Hs' := (Entails.of_eq (show (shPts X d (cV L) q : sProp 𝕄) = ((shAll).view.loc (th d L) ↦[(shAll).view.set]{q} (show Buf (Elt F) (shLoc d (cV L)) from X d)) by rw [set_shAll]; rfl)) $$ Hs
  ihave Ha' := (Entails.of_eq (show (((aSlot b).view.loc (th d L) ↦[(aSlot b).view.set]{fullShare} fa) : sProp 𝕄) = ((aList b).view.loc (th d L) ↦[(aList b).view.set]{fullShare} fa) by rw [set_aList])) $$ Ha
  have key : iprop(((shAll).view.loc (th d L) ↦[(shAll).view.set]{q} (show Buf (Elt F) (shLoc d (cV L)) from X d))
      ∗ ((bSlot b').view.loc (th d L) ↦[(bSlot b').view.set]{fullShare} fb)
      ∗ ((aList b).view.loc (th d L) ↦[(aList b).view.set]{fullShare} fa) ∗ semVal (th d L, .dma cc1_scoped5.sem) 0)
    ⊢ iprop((_ -∗ wp frame (wpE (defs₀ (F := F)) 𝒱₀ (th d L) none) Set.univ (Prog.ret ⟨⟩) Q) -∗ wp frame (wpE (defs₀ (F := F)) 𝒱₀ (th d L) none) Set.univ (SparseCore.enqueueIndirectGather (nD := nD) (τ := τ) (Λ := Λ₀) (p := .scVector (cV L) (jV L)) h0 shAll (bSlot b') gathers_S10000x128_S128x128 (aList b) h1 cc1_scoped5.sem h2 h3 h4 h5) Q) :=
    SparseCore.wp_indirectGatherLocal (defs := defs₀ (F := F)) (Q := Q) countersEmb 𝒱₀ (th d L) none (src := shAll) (dst := bSlot b') (hg := gathers_S10000x128_S128x128) (offs := aList b)
    (hn := h1) (sem := cc1_scoped5.sem) (hp := h0) (hsrc := h2) (he := h3) (hsp := h4) (hr := h5) (k := fun x => Prog.ret x) (q := q) (qo := fullShare)
    (fs := (show Buf (Elt F) (shLoc d (cV L)) from X d)) (fd := fb) (fo := fa) (default : HIx 1) NB (gather_credit b' _) (by decide) hin
  iapply key $$ [Hs' Hb Ha' Hv]
  · isplitl [Hs']; · iexact Hs'
    isplitl [Hb]; · iexact Hb
    isplitl [Ha']; · iexact Ha'
    iexact Hv
  iintro Hf
  rw [wp_ret]
  imodintro
  iapply Hk
  iapply (Flight_mono countersEmb (th d L) (D' := iprop(slotB d L b' (gU (X d) u) ∗ shPts X d (cV L) q ∗ anyA d L b)) ?_) $$ Hf
  unfold slotB anyA
  iintro ⟨Hb, Hs, Ha⟩
  isplitl [Hb]
  · iexists _; isplitr; swap; · iexact Hb
    ipureintro
    exact (View.read_write_univ _ _).trans (gather_val d L b fa (X d) u hfa hr hin)
  isplitl [Hs]
  · iapply (Entails.of_eq (show ((shAll).view.loc (th d L) ↦[(shAll).view.set]{q} (show Buf (Elt F) (shLoc d (cV L)) from X d) : sProp 𝕄) = shPts X d (cV L) q by rw [set_shAll]; rfl))
    iexact Hs
  · iexists fa
    iapply (Entails.of_eq (show (((aList b).view.loc (th d L) ↦[(aList b).view.set]{fullShare} fa) : sProp 𝕄) = ((aSlot b).view.loc (th d L) ↦[(aSlot b).view.set]{fullShare} fa) by rw [set_aList]))
    iexact Ha

theorem wp_gathered {Q : PUnit → sProp 𝕄} (b b' : Fin 2) (u : S1x128.Idx → BitVec 32) (q : PosShare TreeShare)
    (O : CellTallies nD τ sig (HIx 1)) (W : Waits sig (HIx 1))
    {dst : Memref sig .scVector .vmem S128x128 .f32} (hd : dst = bSlot b')
    {h2 : (shAll).view.WordExact} {h3 : dst.view.WordExact} :
    iprop(gaFl X d L b b' u q ∗ owes (th d L) O W ∗ Transfers.MayWaits (th d L) (default : HIx 1) O)
      ⊢ iprop((iprop(slotB d L b' (gU (X d) u) ∗ shPts X d (cV L) q ∗ anyA d L b ∗ semVal (th d L, .dma cc1_scoped5.sem) 0
          ∗ owes (th d L) O (insert (SemLoc.dma cc1_scoped5.sem, default) W)) -∗ Q ⟨⟩)
        -∗ wp frame (wpE (defs₀ (F := F)) 𝒱₀ (th d L) none) Set.univ (SparseCore.waitIndirectGather (nD := nD) (τ := τ) (Λ := Λ₀) (p := .scVector (cV L) (jV L)) (F := F) cc1_scoped5.sem shAll dst h2 h3) Q) := by
  subst hd
  unfold gaFl SparseCore.waitIndirectGather
  iintro ⟨Hf, HO, Hmw⟩ Hk
  iapply (Transfers.wp_waitLocalO countersEmb 𝒱₀ (th d L) none (default : HIx 1) (N := NB) (NB_eq b')) $$ [Hf HO Hmw]
  · isplitl [Hf]; · iexact Hf
    isplitl [HO]; · iexact HO
    iapply (Transfers.MayWaits.elim (SemLoc.dma cc1_scoped5.sem)) $$ Hmw
  iintro ⟨⟨Hb, Hs, Ha⟩, Hv, HO⟩
  rw [wp_ret]
  imodintro
  iapply Hk
  isplitl [Hb]; · iexact Hb
  isplitl [Hs]; · iexact Hs
  isplitl [Ha]; · iexact Ha
  isplitl [Hv]; · iexact Hv
  iexact HO

end Cert.Proof.Tiles
-- ==== Proof.Trip.lean ====
/-
  One trip of a task's pipelined loop, and the loop. Before trip `t` the block `t` of the index list is being fetched into
  slot `t % 2` and block `t - 1` of the rows is being copied out of the other slot of the row buffer; the blocks before
  are done, those after untouched.
-/
module

public import proofs.«01_k».proof.Proof.Steps

@[expose] public section

noncomputable section

namespace Cert.Proof.Tiles

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The blocks ahead and behind -/

def ahead (t : ℕ) : Finset (Fin 79) := Finset.univ.filter fun s => t ≤ s.val
def behind (t : ℕ) : Finset (Fin 79) := Finset.univ.filter fun s => s.val < t

theorem ahead_zero : ahead 0 = Finset.univ := by ext s; simp [ahead]
theorem behind_zero : behind 0 = ∅ := by ext s; simp [behind]
theorem ahead_end {t : ℕ} (h : 79 ≤ t) : ahead t = ∅ := by
  ext s; have := s.isLt; simp only [ahead, Finset.mem_filter, Finset.mem_univ, true_and, Finset.notMem_empty, iff_false]; omega
theorem behind_end : behind 79 = Finset.univ := by
  ext s; have := s.isLt; simp only [behind, Finset.mem_filter, Finset.mem_univ, true_and, iff_true]; omega

theorem ahead_take (Φ : Fin 79 → sProp 𝕄) (t : ℕ) (h : t < 79) :
    bigSep (ahead t) Φ = iprop(Φ ⟨t, h⟩ ∗ bigSep (ahead (t + 1)) Φ) := by
  have e : ahead (t + 1) = (ahead t).erase ⟨t, h⟩ := by
    ext s; simp only [ahead, Finset.mem_filter, Finset.mem_univ, true_and, Finset.mem_erase, Ne, Fin.ext_iff]; omega
  rw [e]
  exact SparseCore.bigSep_erase' (by simp [ahead])
theorem behind_put (Φ : Fin 79 → sProp 𝕄) (t : ℕ) (h : t < 79) :
    bigSep (behind (t + 1)) Φ = iprop(Φ ⟨t, h⟩ ∗ bigSep (behind t) Φ) := by
  have e : behind t = (behind (t + 1)).erase ⟨t, h⟩ := by
    ext s; simp only [behind, Finset.mem_filter, Finset.mem_univ, true_and, Finset.mem_erase, Ne, Fin.ext_iff]; omega
  rw [e]
  exact SparseCore.bigSep_erase' (by simp [behind])

/-- The slot of block `t`. -/
abbrev sl (t : ℕ) : Fin 2 := ⟨t % 2, Nat.mod_lt _ (by decide)⟩
theorem sl_two (t : ℕ) : sl (t + 1 + 1) = sl t := Fin.ext (by show (t + 1 + 1) % 2 = t % 2; omega)

variable (X : Dev nD → S10000x128.Idx → Elt F .f32) (J : Dev nD → S1x323584.Idx → BitVec 32)
variable (d : Dev nD) (L : grid1.Coords)

/-- The number of the task's block `t`. -/
def nb (t : ℕ) : Fin 2528 := blk (c2 L) (j16 L) ⟨t % 79, Nat.mod_lt _ (by decide)⟩
theorem nb_eq (t : ℕ) (h : t < 79) : nb L t = blk (c2 L) (j16 L) ⟨t, h⟩ := by
  unfold nb; congr 1; exact Fin.ext (Nat.mod_eq_of_lt h)
theorem nb_val (t : ℕ) (h : t < 79) : (nb L t).val = 79 * W L + t := by rw [nb_eq L t h]; rfl

/-! ## The invariant's parts -/

abbrev freeA (b : Fin 2) : sProp 𝕄 := iprop(anyA d L b ∗ semVal (th d L, .dma (aSem b)) 0)
abbrev freeB (b : Fin 2) : sProp 𝕄 := iprop(anyB d L b ∗ semVal (th d L, .dma (bSem b)) 0)

/-- Slot `t % 2` of the index buffer before trip `t`: block `t` on its way, or past the last trip free. -/
def inS (t : ℕ) : sProp 𝕄 := if t < 79 then inFl J d L (sl t) (nb L t) else freeA d L (sl t)
/-- Slot `(t + 1) % 2` of the row buffer before trip `t`: block `t - 1` on its way out, or before the first trip free. -/
def outS (t : ℕ) : sProp 𝕄 := if 0 < t then ouFl X J d L (sl (t + 1)) (nb L (t - 1)) else freeB d L (sl (t + 1))
def jAhead (t : ℕ) : sProp 𝕄 := bigSep (ahead t) fun s => jB J d (blk (c2 L) (j16 L) s)
def jBehind (t : ℕ) : sProp 𝕄 := bigSep (behind t) fun s => jB J d (blk (c2 L) (j16 L) s)
def oAhead (t : ℕ) : sProp 𝕄 := bigSep (ahead t) fun s => oAny (F := F) d (blk (c2 L) (j16 L) s)
def oBehind (t : ℕ) : sProp 𝕄 := bigSep (behind t) fun s => oVal X J d (blk (c2 L) (j16 L) s)
/-- The task's debt, with waits recorded besides those in `W₀` at the handshakes' index only. -/
def owed (O : CellTallies nD τ sig (HIx 1)) (W₀ : Waits sig (HIx 1)) : sProp 𝕄 :=
  iprop(∃ W', ⌜∀ p ∈ W', p ∈ W₀ ∨ p.2 = none⌝ ∗ owes (th d L) O W')

theorem owed_insert {W₀ W' : Waits sig (HIx 1)} (h : ∀ p ∈ W', p ∈ W₀ ∨ p.2 = none) (sm : SemLoc sig) :
    ∀ p ∈ insert (sm, (default : HIx 1)) W', p ∈ W₀ ∨ p.2 = none := by
  intro p hp
  rcases Finset.mem_insert.mp hp with hp | hp
  · exact .inr (hp ▸ rfl)
  · exact h p hp

/-! ## The stages of a trip -/

/-- The fetch of the next block, if there is one. -/
theorem stage_fetch {α : Type} {Q : α → sProp 𝕄} {K : Prog (TpuEff nD τ sig (Elt F) Λ₀ (.scVector (cV L) (jV L))) α} (t : ℕ) (ht : t < 79) {c : Prop} [Decidable c] (hc : c ↔ t < 78)
    {src : c → Memref sig .scVector .hbm S1x128 .i32} {dst : c → Memref sig .scVector .vmem S1x128 .i32} {sm : c → DmaSem sig}
    (hs : ∀ h, src h = iBlk (nb L (t + 1))) (hd : ∀ h, dst h = aSlot (sl (t + 1))) (hm : ∀ h, sm h = aSem (sl (t + 1)))
    {h1 : ∀ h, (src h).view.WordExact} {h2 : ∀ h, (dst h).view.WordExact}
    {h3 : ∀ h, DmaTarget.Typed (nD := nD) .hbm (.dma (sm h)) (.here (p := Proc.scVector (cV L) (jV L)) (dst h))} :
    iprop(freeA d L (sl (t + 1)) ∗ jAhead J d L (t + 1))
      ⊢ iprop((iprop(inS J d L (t + 1) ∗ jAhead J d L (t + 2)) -∗ wp frame (wpE (defs₀ (F := F)) 𝒱₀ (th d L) none) Set.univ K Q)
        -∗ wp frame (wpE (defs₀ (F := F)) 𝒱₀ (th d L) none) Set.univ (if h : c then (.op (.enqueueDma (src h) (.here (dst h)) (.dma (sm h)) (h1 h) (h2 h) (h3 h)) fun _ => K) else K) Q) := by
  by_cases h : c
  · have h78 := hc.mp h
    rw [dif_pos h]
    iintro ⟨⟨Ha, Hv⟩, Hj⟩ Hk
    ihave Hj := (Entails.of_eq (show jAhead J d L (t + 1) = iprop(jB J d (nb L (t + 1)) ∗ jAhead J d L (t + 2)) by
      unfold jAhead; rw [ahead_take _ (t + 1) (by omega), nb_eq L (t + 1) (by omega)])) $$ Hj
    icases Hj with ⟨Hn, Hj⟩
    iapply (wp_fetch J d L (sl (t + 1)) (nb L (t + 1)) (hs h) (hd h) (hm h)) $$ [Hn Ha Hv]
    · isplitl [Hn]; · iexact Hn
      isplitl [Ha]; · iexact Ha
      iexact Hv
    iintro Hf
    iapply Hk
    isplitl [Hf]
    · unfold inS; rw [if_pos (by omega)]; iexact Hf
    · iexact Hj
  · have h78 : ¬ t < 78 := fun x => h (hc.mpr x)
    rw [dif_neg h]
    iintro ⟨Ha, Hj⟩ Hk
    iapply Hk
    isplitl [Ha]
    · unfold inS; rw [if_neg (by omega)]; iexact Ha
    · unfold jAhead; rw [ahead_end (by omega), ahead_end (by omega)]; iexact Hj

/-- The wait for the trip's block. -/
theorem stage_fetched {α : Type} {Q : α → sProp 𝕄} {k : PUnit → Prog (TpuEff nD τ sig (Elt F) Λ₀ (.scVector (cV L) (jV L))) α} (t : ℕ) (ht : t < 79) (O : CellTallies nD τ sig (HIx 1)) (W₀ : Waits sig (HIx 1))
    {src : Memref sig .scVector .hbm S1x128 .i32} {dst : Memref sig .scVector .vmem S1x128 .i32} {sm : DmaSem sig}
    (hd : dst = aSlot (sl t)) (hm : sm = aSem (sl t))
    {h1 : src.view.WordExact} {h2 : dst.view.WordExact} :
    iprop(inS J d L t ∗ jBehind J d L t ∗ owed d L O W₀ ∗ Transfers.MayWaits (th d L) (default : HIx 1) O)
      ⊢ iprop((iprop(slotA d L (sl t) (idxU (J d) (nb L t)) ∗ semVal (th d L, .dma (aSem (sl t))) 0 ∗ jBehind J d L (t + 1) ∗ owed d L O W₀) -∗ wp frame (wpE (defs₀ (F := F)) 𝒱₀ (th d L) none) Set.univ (k ⟨⟩) Q)
        -∗ wp frame (wpE (defs₀ (F := F)) 𝒱₀ (th d L) none) Set.univ (.op (.waitDma2 sm src dst h1 h2) k) Q) := by
  unfold inS owed
  rw [if_pos ht]
  iintro ⟨Hf, Hj, ⟨%W', %hW, HO⟩, Hmw⟩ Hk
  iapply (wp_fetched J d L (sl t) (nb L t) O W' hd hm) $$ [Hf HO Hmw]
  · isplitl [Hf]; · iexact Hf
    isplitl [HO]; · iexact HO
    iexact Hmw
  iintro ⟨Ha, Hn, Hv, HO⟩
  iapply Hk
  isplitl [Ha]; · iexact Ha
  isplitl [Hv]; · iexact Hv
  isplitl [Hj Hn]
  · iapply (Entails.of_eq (show iprop(jB J d (nb L t) ∗ jBehind J d L t) = jBehind J d L (t + 1) by
      unfold jBehind; rw [behind_put _ t ht, nb_eq L t ht]))
    isplitl [Hn]; · iexact Hn
    iexact Hj
  iexists _; isplitr; swap; · iexact HO
  ipureintro; exact owed_insert hW _

/-- The copy of the trip's rows out. -/
theorem stage_put {α : Type} {Q : α → sProp 𝕄} {k : PUnit → Prog (TpuEff nD τ sig (Elt F) Λ₀ (.scVector (cV L) (jV L))) α} (t : ℕ) (ht : t < 79)
    {src : Memref sig .scVector .vmem S128x128 .f32} {dst : Memref sig .scVector .hbm S128x128 .f32} {sm : DmaSem sig}
    (hs : src = bSlot (sl t)) (hd : dst = oBlk (nb L t)) (hm : sm = bSem (sl t))
    {h1 : src.view.WordExact} {h2 : dst.view.WordExact}
    {h3 : DmaTarget.Typed (nD := nD) .vmem (.dma sm) (.here (p := Proc.scVector (cV L) (jV L)) dst)} :
    iprop(slotB d L (sl t) (gU (X d) (idxU (J d) (nb L t))) ∗ semVal (th d L, .dma (bSem (sl t))) 0 ∗ oAhead d L t)
      ⊢ iprop((iprop(outS X J d L (t + 1) ∗ oAhead d L (t + 1)) -∗ wp frame (wpE (defs₀ (F := F)) 𝒱₀ (th d L) none) Set.univ (k ⟨⟩) Q)
        -∗ wp frame (wpE (defs₀ (F := F)) 𝒱₀ (th d L) none) Set.univ (.op (.enqueueDma src (.here dst) (.dma sm) h1 h2 h3) k) Q) := by
  iintro ⟨Hb, Hv, Ho⟩ Hk
  ihave Ho := (Entails.of_eq (show (oAhead d L t : sProp 𝕄) = iprop(oAny (F := F) d (nb L t) ∗ oAhead d L (t + 1)) by
    unfold oAhead; rw [ahead_take _ t ht, nb_eq L t ht])) $$ Ho
  icases Ho with ⟨Hn, Ho⟩
  iapply (wp_put X J d L (sl t) (nb L t) hs hd hm) $$ [Hb Hn Hv]
  · isplitl [Hb]; · iexact Hb
    isplitl [Hn]; · iexact Hn
    iexact Hv
  iintro Hf
  iapply Hk
  isplitl [Hf]
  · unfold outS; rw [if_pos (Nat.succ_pos t), sl_two]; iexact Hf
  · iexact Ho

/-- The wait for the copy of the rows of the trip before. -/
theorem stage_putDone {α : Type} {Q : α → sProp 𝕄} {K : Prog (TpuEff nD τ sig (Elt F) Λ₀ (.scVector (cV L) (jV L))) α} (t : ℕ) (ht : t < 79) (O : CellTallies nD τ sig (HIx 1)) (W₀ : Waits sig (HIx 1)) {c : Prop} [Decidable c] (hc : c ↔ 0 < t)
    {src : c → Memref sig .scVector .vmem S128x128 .f32} {dst : c → Memref sig .scVector .hbm S128x128 .f32} {sm : c → DmaSem sig}
    (hd : ∀ h, dst h = oBlk (nb L (t - 1))) (hm : ∀ h, sm h = bSem (sl (t + 1)))
    {h1 : ∀ h, (src h).view.WordExact} {h2 : ∀ h, (dst h).view.WordExact} :
    iprop(outS X J d L t ∗ oBehind X J d L (t - 1) ∗ owed d L O W₀ ∗ Transfers.MayWaits (th d L) (default : HIx 1) O)
      ⊢ iprop((iprop(freeB d L (sl (t + 1)) ∗ oBehind X J d L t ∗ owed d L O W₀) -∗ wp frame (wpE (defs₀ (F := F)) 𝒱₀ (th d L) none) Set.univ K Q)
        -∗ wp frame (wpE (defs₀ (F := F)) 𝒱₀ (th d L) none) Set.univ (if h : c then (.op (.waitDma2 (sm h) (src h) (dst h) (h1 h) (h2 h)) fun _ => K) else K) Q) := by
  by_cases h : c
  · have h0 := hc.mp h
    rw [dif_pos h]
    unfold outS owed
    rw [if_pos h0]
    iintro ⟨Hf, Ho, ⟨%W', %hW, HO⟩, Hmw⟩ Hk
    iapply (wp_putDone X J d L (sl (t + 1)) (nb L (t - 1)) O W' (hd h) (hm h)) $$ [Hf HO Hmw]
    · isplitl [Hf]; · iexact Hf
      isplitl [HO]; · iexact HO
      iexact Hmw
    iintro ⟨Hn, Hb, Hv, HO⟩
    iapply Hk
    isplitl [Hb Hv]
    · isplitl [Hb]; · iexact Hb
      iexact Hv
    isplitl [Ho Hn]
    · iapply (Entails.of_eq (show iprop(oVal X J d (nb L (t - 1)) ∗ oBehind X J d L (t - 1)) = oBehind X J d L t by
        obtain ⟨s, rfl⟩ : ∃ s, t = s + 1 := ⟨t - 1, by omega⟩
        show iprop(oVal X J d (nb L s) ∗ oBehind X J d L s) = _
        unfold oBehind; rw [behind_put _ s (by omega), nb_eq L s (by omega)]))
      isplitl [Hn]; · iexact Hn
      iexact Ho
    iexists _; isplitr; swap; · iexact HO
    ipureintro; exact owed_insert hW _
  · have h0 : ¬ 0 < t := fun x => h (hc.mpr x)
    obtain rfl : t = 0 := by omega
    rw [dif_neg h]
    unfold outS
    rw [if_neg h0]
    iintro ⟨Hb, Ho, HO, -⟩ Hk
    iapply Hk
    isplitl [Hb]; · iexact Hb
    isplitl [Ho]; · iexact Ho
    iexact HO

/-! ## The loop -/

variable (O : CellTallies nD τ sig (HIx 1)) (W₀ : Waits sig (HIx 1)) (q : PosShare TreeShare)

/-- Before trip `t`. -/
def inv (t : ℕ) (acc : BitVec 32 × BitVec 32 × BitVec 32 × BitVec 32 × BitVec 32 × BitVec 32) : sProp 𝕄 :=
  iprop(⌜acc = accAt t⌝ ∗ Transfers.MayWaits (th d L) (default : HIx 1) O
    ∗ inS J d L t ∗ freeA d L (sl (t + 1)) ∗ outS X J d L t ∗ freeB d L (sl t)
    ∗ semVal (th d L, .dma cc1_scoped5.sem) 0 ∗ shPts X d (cV L) q
    ∗ jAhead J d L (t + 1) ∗ jBehind J d L t ∗ oAhead d L t ∗ oBehind X J d L (t - 1) ∗ owed d L O W₀)

/-- The task's number as the program computes it. -/
abbrev v7w (i : grid1.Coords) : BitVec 32 :=
  Scalar.muli (Scalar.addi (Scalar.addi 0#32 (Scalar.muli (BitVec.ofNat 32 (i 1).val) 1#32)) (Scalar.muli (BitVec.ofNat 32 (i 0).val) 16#32)) 1#32

/-- What a trip yields, in the program's own words, is the next trip's words. -/
theorem yield_eq (L : grid1.Coords) (t : Fin k1_t1_loop.trips) :
    (Scalar.select
          (Scalar.andi
            (Scalar.andi
              (Scalar.cmpi .ne
                (Scalar.addi (Scalar.muli (Scalar.addi (0#32) (v7w L)) 79#32) (Scalar.addi (w t.val) 0#32))
                (Scalar.addi (Scalar.muli (Scalar.addi (0#32) (v7w L)) 79#32)
                  (Scalar.addi
                    (Scalar.select
                      (Scalar.cmpi .eq (Scalar.select (1#1) (Scalar.addi (w t.val) 1#32) (w t.val)) 79#32) (0#32)
                      (Scalar.select (1#1) (Scalar.addi (w t.val) 1#32) (w t.val)))
                    0#32)))
              (Scalar.xori (Scalar.cmpi .sge (Scf.iv 0#32 1#32 t.val) 78#32) 1#1))
            1#1)
          (Scalar.addi (w (min (t.val + 1) 79)) 1#32) (w (min (t.val + 1) 79)),
        Scalar.select
          (Scalar.ori
            (Scalar.cmpi .ne
              (Scalar.addi (Scalar.muli (Scalar.addi (0#32) (v7w L)) 79#32) (Scalar.addi (w t.val) 0#32))
              (Scalar.addi (Scalar.muli (Scalar.addi (0#32) (v7w L)) 79#32)
                (Scalar.addi
                  (Scalar.select
                    (Scalar.cmpi .eq (Scalar.select (1#1) (Scalar.addi (w t.val) 1#32) (w t.val)) 79#32) (0#32)
                    (Scalar.select (1#1) (Scalar.addi (w t.val) 1#32) (w t.val)))
                  0#32)))
            (Scalar.cmpi .eq (Scf.iv 0#32 1#32 t.val) 78#32))
          (Scalar.addi (w t.val) 1#32) (w t.val),
        Scalar.select
          (Scalar.andi
            (Scalar.ori
              (Scalar.cmpi .ne
                (Scalar.addi (Scalar.muli (Scalar.addi (0#32) (v7w L)) 79#32) (Scalar.addi (w t.val) 0#32))
                (Scalar.addi (Scalar.muli (Scalar.addi (0#32) (v7w L)) 79#32)
                  (Scalar.addi
                    (Scalar.select
                      (Scalar.cmpi .eq (Scalar.select (1#1) (Scalar.addi (w t.val) 1#32) (w t.val)) 79#32) (0#32)
                      (Scalar.select (1#1) (Scalar.addi (w t.val) 1#32) (w t.val)))
                    0#32)))
              (Scalar.cmpi .eq (Scf.iv 0#32 1#32 t.val) 78#32))
            1#1)
          (Scalar.addi (w t.val) 1#32) (w t.val),
        Scalar.select
          (Scalar.andi
            (Scalar.andi
              (Scalar.cmpi .ne
                (Scalar.addi (Scalar.muli (Scalar.addi (0#32) (v7w L)) 79#32) (Scalar.addi (w t.val) 0#32))
                (Scalar.addi (Scalar.muli (Scalar.addi (0#32) (v7w L)) 79#32)
                  (Scalar.addi
                    (Scalar.select
                      (Scalar.cmpi .eq (Scalar.select (1#1) (Scalar.subi (w t.val) 1#32) (w t.val)) 4294967295#32)
                      (78#32) (Scalar.select (1#1) (Scalar.subi (w t.val) 1#32) (w t.val)))
                    0#32)))
              (Scalar.xori (Scalar.cmpi .eq (Scf.iv 0#32 1#32 t.val) 0#32) 1#1))
            1#1)
          (Scalar.addi (w (t.val - 1)) 1#32) (w (t.val - 1)),
        0#32,
        Scalar.select (Scalar.cmpi .eq (Scalar.select (1#1) (Scalar.addi (w t.val) 1#32) (w t.val)) 79#32) (0#32)
          (Scalar.select (1#1) (Scalar.addi (w t.val) 1#32) (w t.val))) = accAt (t.val + 1) :=
  all_trips (p := fun L t =>
    (Scalar.select
          (Scalar.andi
            (Scalar.andi
              (Scalar.cmpi .ne
                (Scalar.addi (Scalar.muli (Scalar.addi (0#32) (v7w L)) 79#32) (Scalar.addi (w t.val) 0#32))
                (Scalar.addi (Scalar.muli (Scalar.addi (0#32) (v7w L)) 79#32)
                  (Scalar.addi
                    (Scalar.select
                      (Scalar.cmpi .eq (Scalar.select (1#1) (Scalar.addi (w t.val) 1#32) (w t.val)) 79#32) (0#32)
                      (Scalar.select (1#1) (Scalar.addi (w t.val) 1#32) (w t.val)))
                    0#32)))
              (Scalar.xori (Scalar.cmpi .sge (Scf.iv 0#32 1#32 t.val) 78#32) 1#1))
            1#1)
          (Scalar.addi (w (min (t.val + 1) 79)) 1#32) (w (min (t.val + 1) 79)),
        Scalar.select
          (Scalar.ori
            (Scalar.cmpi .ne
              (Scalar.addi (Scalar.muli (Scalar.addi (0#32) (v7w L)) 79#32) (Scalar.addi (w t.val) 0#32))
              (Scalar.addi (Scalar.muli (Scalar.addi (0#32) (v7w L)) 79#32)
                (Scalar.addi
                  (Scalar.select
                    (Scalar.cmpi .eq (Scalar.select (1#1) (Scalar.addi (w t.val) 1#32) (w t.val)) 79#32) (0#32)
                    (Scalar.select (1#1) (Scalar.addi (w t.val) 1#32) (w t.val)))
                  0#32)))
            (Scalar.cmpi .eq (Scf.iv 0#32 1#32 t.val) 78#32))
          (Scalar.addi (w t.val) 1#32) (w t.val),
        Scalar.select
          (Scalar.andi
            (Scalar.ori
              (Scalar.cmpi .ne
                (Scalar.addi (Scalar.muli (Scalar.addi (0#32) (v7w L)) 79#32) (Scalar.addi (w t.val) 0#32))
                (Scalar.addi (Scalar.muli (Scalar.addi (0#32) (v7w L)) 79#32)
                  (Scalar.addi
                    (Scalar.select
                      (Scalar.cmpi .eq (Scalar.select (1#1) (Scalar.addi (w t.val) 1#32) (w t.val)) 79#32) (0#32)
                      (Scalar.select (1#1) (Scalar.addi (w t.val) 1#32) (w t.val)))
                    0#32)))
              (Scalar.cmpi .eq (Scf.iv 0#32 1#32 t.val) 78#32))
            1#1)
          (Scalar.addi (w t.val) 1#32) (w t.val),
        Scalar.select
          (Scalar.andi
            (Scalar.andi
              (Scalar.cmpi .ne
                (Scalar.addi (Scalar.muli (Scalar.addi (0#32) (v7w L)) 79#32) (Scalar.addi (w t.val) 0#32))
                (Scalar.addi (Scalar.muli (Scalar.addi (0#32) (v7w L)) 79#32)
                  (Scalar.addi
                    (Scalar.select
                      (Scalar.cmpi .eq (Scalar.select (1#1) (Scalar.subi (w t.val) 1#32) (w t.val)) 4294967295#32)
                      (78#32) (Scalar.select (1#1) (Scalar.subi (w t.val) 1#32) (w t.val)))
                    0#32)))
              (Scalar.xori (Scalar.cmpi .eq (Scf.iv 0#32 1#32 t.val) 0#32) 1#1))
            1#1)
          (Scalar.addi (w (t.val - 1)) 1#32) (w (t.val - 1)),
        0#32,
        Scalar.select (Scalar.cmpi .eq (Scalar.select (1#1) (Scalar.addi (w t.val) 1#32) (w t.val)) 79#32) (0#32)
          (Scalar.select (1#1) (Scalar.addi (w t.val) 1#32) (w t.val))) = accAt (t.val + 1)) (by decide +kernel) L t

theorem trip (v10 v21 c1 : BitVec 32) (t : Fin k1_t1_loop.trips) (acc : BitVec 32 × BitVec 32 × BitVec 32 × BitVec 32 × BitVec 32 × BitVec 32)
    (hJ : ∀ x, (J d x).toNat < 10000) :
    inv X J d L O W₀ q t.val acc
      ⊢ wp frame (wpE (defs₀ (F := F)) 𝒱₀ (th d L) none) Set.univ (k1_t1_body L (Memref.whole main_arg0_scv) (Memref.isWhole_whole main_arg0_scv) (Memref.whole main_v9_scv) (Memref.isWhole_whole main_v9_scv) (Memref.whole main_v10_scv) (Memref.isWhole_whole main_v10_scv) (Memref.whole cc1_scratch0) (Memref.isWhole_whole cc1_scratch0) cc1_scoped0 (Memref.whole cc1_scoped1) (Memref.isWhole_whole cc1_scoped1) cc1_scoped2 (Memref.whole cc1_scoped3) (Memref.isWhole_whole cc1_scoped3) cc1_scoped4 cc1_scoped5 (v7w L) v10 v21 c1 t acc) (inv X J d L O W₀ q (t.val + 1)) := by
  have ht := trip_lt t
  unfold inv
  iintro ⟨%hacc, #Hmw, Hin, HfA, Hout, HfB, Hgs, Hx, HjA, HjB, HoA, HoB, HO⟩
  have hacc : acc = (w (min (t.val + 1) 79), w t.val, w t.val, w (t.val - 1), 0#32, w t.val) := by
    rw [hacc]; unfold accAt; rw [if_neg (by omega)]
  subst hacc
  sl_respell [k1_t1_body]
  simp only [k1_part1_eq_skeleton, k1_part2_eq_skeleton, k1_part3_eq_skeleton]
  unfold k1_part1_skel k1_part2_skel k1_part3_skel
  simp only [Prog.lift, Prog.bind_op, Prog.bind_ret, Prog.pure_eq_ret, Prog.bind_assoc, ite_self, dif_pos (cond3_pos L t), dif_pos (cond6_pos L t)]
  rw [wp_assume_of 𝒱₀ (th d L) none Set.univ (chk3_ok (by omega)), wp_assume_of 𝒱₀ (th d L) none Set.univ (chk2_ok (by omega)),
    wp_assume_of 𝒱₀ (th d L) none Set.univ (chk1_ok L t)]
  simp only [wp_bind]
  -- the fetch of the block after
  iapply (stage_fetch J d L t.val ht (cond2_iff L t) (fun h => iBlk_of _ _ (by
      have h78 := (cond2_iff L t).mp h
      rw [off5_eq L t h78, nb_val L _ (by omega)]))
    (fun h => aSlot_of _ _ (by rw [off4_eq (by omega)]; congr 1; have := (cond2_iff L t).mp h; show min (t.val + 1) 79 % 2 = (t.val + 1) % 2; rw [Nat.min_eq_left (by omega)]))
    (fun h => aSem_of _ _ (by rw [off6_eq (by omega)]; congr 1; have := (cond2_iff L t).mp h; show min (t.val + 1) 79 % 2 = (t.val + 1) % 2; rw [Nat.min_eq_left (by omega)]))) $$ [HfA HjA]
  · isplitl [HfA]; · iexact HfA
    iexact HjA
  iintro ⟨Hin', HjA⟩
  -- the wait for the trip's block
  iapply (stage_fetched J d L t.val ht O W₀ (aSlot_of _ _ (off7_eq (by omega))) (aSem_of _ _ (off9_eq (by omega)))) $$ [Hin HjB HO]
  · isplitl [Hin]; · iexact Hin
    isplitl [HjB]; · iexact HjB
    isplitl [HO]; · iexact HO
    iexact Hmw
  iintro ⟨Ha, Hav, HjB, HO⟩
  rw [wp_ret]; imodintro
  -- the gather of its rows, and its wait
  icases HfB with ⟨Hb, Hbv⟩
  iapply (wp_gather X d L (sl t.val) (sl t.val) (idxU (J d) (nb L t.val)) q (fun k => hJ _) (bSlot_of _ _ (off10_eq (by omega)))
    (aList_of _ _ (off11_eq (by omega)))) $$ [Hx Hb Ha Hgs]
  · isplitl [Hx]; · iexact Hx
    isplitl [Hb]; · iexact Hb
    isplitl [Ha]; · iexact Ha
    iexact Hgs
  iintro Hg
  unfold owed
  icases HO with ⟨%W', %hW', HO⟩
  iapply (wp_gathered X d L (sl t.val) (sl t.val) (idxU (J d) (nb L t.val)) q O W' (bSlot_of _ _ (off10_eq (by omega)))) $$ [Hg HO]
  · isplitl [Hg]; · iexact Hg
    isplitl [HO]; · iexact HO
    iexact Hmw
  iintro ⟨Hb, Hx, Ha, Hgs, HO⟩
  -- its rows go out
  iapply (stage_put X J d L t.val ht (bSlot_of _ _ (off12_eq (by omega))) (oBlk_of _ _ (by rw [off13_eq L t, nb_val L _ ht]))
    (bSem_of _ _ (off14_eq (by omega)))) $$ [Hb Hbv HoA]
  · isplitl [Hb]; · iexact Hb
    isplitl [Hbv]; · iexact Hbv
    iexact HoA
  iintro ⟨Hout', HoA⟩
  -- the wait for those of the trip before
  iapply (stage_putDone X J d L t.val ht O W₀ (cond8_iff L t)
    (fun h => oBlk_of _ _ (by have h0 := (cond8_iff L t).mp h; rw [off16_eq L t h0, nb_val L _ (by omega)]))
    (fun h => bSem_of _ _ (by have h0 := (cond8_iff L t).mp h; rw [off17_eq (by omega)]; congr 1; show (t.val - 1) % 2 = (t.val + 1) % 2; omega))) $$ [Hout HoB HO]
  · isplitl [Hout]; · iexact Hout
    isplitl [HoB]; · iexact HoB
    isplitl [HO]
    · unfold owed; iexists _; isplitr; swap; · iexact HO
      ipureintro; exact owed_insert hW' _
    iexact Hmw
  iintro ⟨HfB', HoB, HO⟩
  rw [wp_ret]; imodintro
  isplitr
  · ipureintro; exact yield_eq L t
  isplitr; · iexact Hmw
  isplitl [Hin']; · iexact Hin'
  isplitl [Ha Hav]
  · rw [sl_two]
    isplitl [Ha]; · iexact Ha
    iexact Hav
  isplitl [Hout']; · iexact Hout'
  isplitl [HfB']; · iexact HfB'
  isplitl [Hgs]; · iexact Hgs
  isplitl [Hx]; · iexact Hx
  isplitl [HjA]; · iexact HjA
  isplitl [HjB]; · iexact HjB
  isplitl [HoA]; · iexact HoA
  isplitl [HoB]; · iexact HoB
  unfold owed; iexact HO

end Cert.Proof.Tiles
-- ==== Proof.Tile.lean ====
/-
  A tile's task: tile 0 copies the table into the shared scratch, the tiles meet at the barrier, where each gets a read
  share of the table, and each runs its 79 trips and waits for its last rows.
-/
module

public import proofs.«01_k».proof.Proof.Trip

@[expose] public section

noncomputable section

namespace Cert.Proof.Tiles

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (X : Dev nD → S10000x128.Idx → Elt F .f32) (J : Dev nD → S1x323584.Idx → BitVec 32)
variable (d : Dev nD) (L : grid1.Coords)

/-! ## The tile's own buffers and semaphores -/

theorem mem_aSlot (b : Fin 2) (x : S2x1x128.Idx) : x ∈ (aSlot b).view.set ↔ (x 0).val = b.val := by
  have e : ((aSlot b).view.set : Finset S2x1x128.Idx) = (Rect.unit (s := S2x1x128) ![b.val, 0, 0] S1x1x128.size (inb_aSlot b)).set :=
    (View.set_reshape _ _).trans (View.set_slice_whole _ _)
  rw [e, Rect.mem_set_unit]
  have h1 : (x 1).val < 1 := (x 1).isLt
  have h2 : (x 2).val < 128 := (x 2).isLt
  constructor
  · intro h
    have h0 : b.val ≤ (x 0).val ∧ (x 0).val < b.val + 1 := h 0
    omega
  · intro h a
    match a with
    | 0 => show b.val ≤ (x 0).val ∧ (x 0).val < b.val + 1; omega
    | 1 => show 0 ≤ (x 1).val ∧ (x 1).val < 0 + 1; omega
    | 2 => show 0 ≤ (x 2).val ∧ (x 2).val < 0 + 128; omega

theorem mem_bSlot (b : Fin 2) (x : S2x128x128.Idx) : x ∈ (bSlot b).view.set ↔ (x 0).val = b.val := by
  have e : ((bSlot b).view.set : Finset S2x128x128.Idx) = (Rect.unit (s := S2x128x128) ![b.val, 0, 0] S1x128x128.size (inb_bSlot b)).set :=
    (View.set_reshape _ _).trans (View.set_slice_whole _ _)
  rw [e, Rect.mem_set_unit]
  have h1 : (x 1).val < 128 := (x 1).isLt
  have h2 : (x 2).val < 128 := (x 2).isLt
  constructor
  · intro h
    have h0 : b.val ≤ (x 0).val ∧ (x 0).val < b.val + 1 := h 0
    omega
  · intro h a
    match a with
    | 0 => show b.val ≤ (x 0).val ∧ (x 0).val < b.val + 1; omega
    | 1 => show 0 ≤ (x 1).val ∧ (x 1).val < 0 + 128; omega
    | 2 => show 0 ≤ (x 2).val ∧ (x 2).val < 0 + 128; omega

theorem aSlot_compl : Finset.univ \ ((aSlot 0).view.set : Finset S2x1x128.Idx) = (aSlot 1).view.set := by
  ext x
  have h0 : (x 0).val < 2 := (x 0).isLt
  rw [Finset.mem_sdiff, mem_aSlot, mem_aSlot]
  show x ∈ Finset.univ ∧ ¬ (x 0).val = 0 ↔ (x 0).val = 1
  simp only [Finset.mem_univ, true_and]
  omega
theorem bSlot_compl : Finset.univ \ ((bSlot 0).view.set : Finset S2x128x128.Idx) = (bSlot 1).view.set := by
  ext x
  have h0 : (x 0).val < 2 := (x 0).isLt
  rw [Finset.mem_sdiff, mem_bSlot, mem_bSlot]
  show x ∈ Finset.univ ∧ ¬ (x 0).val = 0 ↔ (x 0).val = 1
  simp only [Finset.mem_univ, true_and]
  omega

theorem slotsA : iprop(∃ f, (th d L).loc cc1_scoped1 ↦{fullShare} f) ⊢ (iprop(anyA d L 0 ∗ anyA d L 1) : sProp 𝕄) := by
  unfold anyA
  iintro ⟨%f, H⟩
  ihave H := (pointsTo_split_subset (ℓ := (th d L).loc cc1_scoped1) (f := f) (q := fullShare) (Finset.subset_univ ((aSlot 0).view.set : Finset S2x1x128.Idx))).1 $$ H
  icases H with ⟨H0, H1⟩
  isplitl [H0]
  · iexists f; iexact H0
  · iexists f
    iapply (Entails.of_eq (show ((th d L).loc cc1_scoped1 ↦[Finset.univ \ ((aSlot 0).view.set : Finset S2x1x128.Idx)]{fullShare} f : sProp 𝕄) = _ by rw [aSlot_compl])) $$ H1
theorem slotsA_back : (iprop(anyA d L 0 ∗ anyA d L 1) : sProp 𝕄) ⊢ iprop(∃ f, (th d L).loc cc1_scoped1 ↦{fullShare} f) := by
  unfold anyA
  iintro ⟨⟨%f, H0⟩, ⟨%g, H1⟩⟩
  iexists _
  iapply (pointsTo_join_subset (ℓ := (th d L).loc cc1_scoped1) (g := f) (f := g) (q := fullShare) (Finset.subset_univ ((aSlot 0).view.set : Finset S2x1x128.Idx)))
  isplitl [H0]
  · iexact H0
  · iapply (Entails.of_eq (show _ = ((th d L).loc cc1_scoped1 ↦[Finset.univ \ ((aSlot 0).view.set : Finset S2x1x128.Idx)]{fullShare} g : sProp 𝕄) by rw [aSlot_compl])) $$ H1
theorem slotsB : iprop(∃ f, (th d L).loc cc1_scoped3 ↦{fullShare} f) ⊢ (iprop(anyB d L 0 ∗ anyB d L 1) : sProp 𝕄) := by
  unfold anyB
  iintro ⟨%f, H⟩
  ihave H := (pointsTo_split_subset (ℓ := (th d L).loc cc1_scoped3) (f := f) (q := fullShare) (Finset.subset_univ ((bSlot 0).view.set : Finset S2x128x128.Idx))).1 $$ H
  icases H with ⟨H0, H1⟩
  isplitl [H0]
  · iexists f; iexact H0
  · iexists f
    iapply (Entails.of_eq (show ((th d L).loc cc1_scoped3 ↦[Finset.univ \ ((bSlot 0).view.set : Finset S2x128x128.Idx)]{fullShare} f : sProp 𝕄) = _ by rw [bSlot_compl])) $$ H1
theorem slotsB_back : (iprop(anyB d L 0 ∗ anyB d L 1) : sProp 𝕄) ⊢ iprop(∃ f, (th d L).loc cc1_scoped3 ↦{fullShare} f) := by
  unfold anyB
  iintro ⟨⟨%f, H0⟩, ⟨%g, H1⟩⟩
  iexists _
  iapply (pointsTo_join_subset (ℓ := (th d L).loc cc1_scoped3) (g := f) (f := g) (q := fullShare) (Finset.subset_univ ((bSlot 0).view.set : Finset S2x128x128.Idx)))
  isplitl [H0]
  · iexact H0
  · iapply (Entails.of_eq (show _ = ((th d L).loc cc1_scoped3 ↦[Finset.univ \ ((bSlot 0).view.set : Finset S2x128x128.Idx)]{fullShare} g : sProp 𝕄) by rw [bSlot_compl])) $$ H1

abbrev cel (s : DmaSem sig) : GSem nD τ sig := (th d L, .dma s)

theorem cel_ne {s t : DmaSem sig} (h : s ≠ t) : cel d L s ≠ cel d L t := fun e => h (by
  have e' : (SemLoc.dma s : SemLoc sig) = .dma t := congrArg Prod.snd e
  exact SemLoc.dma.inj e')

theorem cel_own (s : DmaSem sig) (h : (SemLoc.dma s : SemLoc sig).isScoped .scVector = true) : cel d L s ∈ ownCells (th d L) :=
  (mem_ownCells (g := cel d L s)).mpr ⟨rfl, h⟩

/-- The tile's other scoped semaphores. -/
abbrev restCells : Finset (GSem nD τ sig) :=
  ((((((ownCells (th d L)).erase (cel d L cc1_scoped0.sem)).erase (cel d L cc1_scoped5.sem)).erase (cel d L (aSem 0))).erase (cel d L (aSem 1))).erase
    (cel d L (bSem 0))).erase (cel d L (bSem 1))

theorem sems_own : (ownSems0 (th d L) : sProp 𝕄)
    = iprop(semVal (cel d L cc1_scoped0.sem) 0 ∗ semVal (cel d L cc1_scoped5.sem) 0 ∗ semVal (cel d L (aSem 0)) 0 ∗ semVal (cel d L (aSem 1)) 0
      ∗ semVal (cel d L (bSem 0)) 0 ∗ semVal (cel d L (bSem 1)) 0 ∗ bigSep (restCells d L) fun g => semVal g 0) := by
  unfold SparseCore.Cfg.ownSems0
  have n1 := cel_ne d L (show cc1_scoped5.sem ≠ cc1_scoped0.sem by decide)
  have a1 := cel_ne d L (show aSem 0 ≠ cc1_scoped0.sem by decide)
  have a2 := cel_ne d L (show aSem 0 ≠ cc1_scoped5.sem by decide)
  have b1 := cel_ne d L (show aSem 1 ≠ cc1_scoped0.sem by decide)
  have b2 := cel_ne d L (show aSem 1 ≠ cc1_scoped5.sem by decide)
  have b3 := cel_ne d L (show aSem 1 ≠ aSem 0 by decide)
  have c1 := cel_ne d L (show bSem 0 ≠ cc1_scoped0.sem by decide)
  have c2 := cel_ne d L (show bSem 0 ≠ cc1_scoped5.sem by decide)
  have c3 := cel_ne d L (show bSem 0 ≠ aSem 0 by decide)
  have c4 := cel_ne d L (show bSem 0 ≠ aSem 1 by decide)
  have e1 := cel_ne d L (show bSem 1 ≠ cc1_scoped0.sem by decide)
  have e2 := cel_ne d L (show bSem 1 ≠ cc1_scoped5.sem by decide)
  have e3 := cel_ne d L (show bSem 1 ≠ aSem 0 by decide)
  have e4 := cel_ne d L (show bSem 1 ≠ aSem 1 by decide)
  have e5 := cel_ne d L (show bSem 1 ≠ bSem 0 by decide)
  have m0 := cel_own d L cc1_scoped0.sem (by decide)
  have m5 := cel_own d L cc1_scoped5.sem (by decide)
  have ma := cel_own d L (aSem 0) (by decide)
  have mb := cel_own d L (aSem 1) (by decide)
  have mc := cel_own d L (bSem 0) (by decide)
  have me := cel_own d L (bSem 1) (by decide)
  rw [SparseCore.bigSep_erase' m0,
    SparseCore.bigSep_erase' (Finset.mem_erase.mpr ⟨n1, m5⟩),
    SparseCore.bigSep_erase' (Finset.mem_erase.mpr ⟨a2, Finset.mem_erase.mpr ⟨a1, ma⟩⟩),
    SparseCore.bigSep_erase' (Finset.mem_erase.mpr ⟨b3, Finset.mem_erase.mpr ⟨b2, Finset.mem_erase.mpr ⟨b1, mb⟩⟩⟩),
    SparseCore.bigSep_erase' (Finset.mem_erase.mpr ⟨c4, Finset.mem_erase.mpr ⟨c3, Finset.mem_erase.mpr ⟨c2, Finset.mem_erase.mpr ⟨c1, mc⟩⟩⟩⟩),
    SparseCore.bigSep_erase' (Finset.mem_erase.mpr ⟨e5, Finset.mem_erase.mpr ⟨e4, Finset.mem_erase.mpr ⟨e3, Finset.mem_erase.mpr ⟨e2, Finset.mem_erase.mpr ⟨e1, me⟩⟩⟩⟩⟩)]

abbrev restRefs : Finset (DevRef τ sig) :=
  ((ownRefs (τ := τ) (.scVector (cV L) (jV L))).erase ((Proc.scVector (cV L) (jV L)).devRef cc1_scoped1)).erase ((Proc.scVector (cV L) (jV L)).devRef cc1_scoped3)

theorem bufs_own : (ownBufs (th d L) : sProp 𝕄)
    = iprop((∃ f, (th d L).loc cc1_scoped1 ↦{fullShare} f) ∗ (∃ f, (th d L).loc cc1_scoped3 ↦{fullShare} f)
      ∗ bigSep (restRefs L) fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := (Proc.scVector (cV L) (jV L)).devRef cc1_scoped1) rfl),
    SparseCore.bigSep_erase' (Finset.mem_erase.mpr ⟨fun e => by
        have e' := congrArg (fun b : DevRef τ sig => b.idx.val) e
        revert e'; show (1 : ℕ) = 0 → False; decide,
      SparseCore.Cfg.mem_ownRefs_of_owner (p := Proc.scVector (cV L) (jV L)) (b := (Proc.scVector (cV L) (jV L)).devRef cc1_scoped3) rfl⟩)]

/-! ## The table, and the barrier -/

/-- What the tile's duties at the barrier hand over. -/
abbrev pays : sProp 𝕄 :=
  bigSep Finset.univ fun j : Fin (grid1.bound 1) => (bRd X).payload (bcell d (cV L) (j.castLE hsub1)) 0 (jV L).val

theorem pays_zero (h : (jV L).val = 0) :
    (bigSep Finset.univ fun i : Fin 16 => shPts X d (cV L) (Transfers.shareTok fullShare 16 i)) ⊢ (pays X d L : sProp 𝕄) := by
  refine Entails.of_eq (bigSep_congr fun j _ => ?_)
  show _ = bPay X (bcell d (cV L) (j.castLE hsub1)) (jV L).val
  unfold bPay; dsimp only
  rw [if_pos h]; rfl

theorem pays_pos (h : (jV L).val ≠ 0) : iprop(emp) ⊢ (pays X d L : sProp 𝕄) := by
  refine Entails.of_eq ((bigSep_emp' (F := F) (Finset.univ : Finset (Fin (grid1.bound 1)))).symm.trans (bigSep_congr fun j _ => ?_))
  show _ = bPay X (bcell d (cV L) (j.castLE hsub1)) (jV L).val
  unfold bPay; dsimp only
  rw [if_neg h]

/-- After the barrier the tile has its read share of the shared table. -/
theorem pays_share : (bigSep ((bRd X).duties (bcell d (cV L) (jV L)) 0 \ ∅) fun n => (bRd X).payload (bcell d (cV L) (jV L)) 0 n)
    ⊢ (shPts X d (cV L) (Transfers.shareTok fullShare 16 (j16 L)) : sProp 𝕄) := by
  rw [Finset.sdiff_empty, bRd_duties₀]
  refine (bigSep_elim (i := 0) (Finset.mem_image.mpr ⟨(0 : Fin 16), Finset.mem_univ _, rfl⟩)).trans ?_
  show bPay X (bcell d (cV L) (jV L)) 0 ⊢ _
  unfold bPay; dsimp only
  rw [if_pos rfl]; exact BI.Entails.refl _

/-- Tile 0 copies the table into the shared scratch and waits; the others go on. -/
theorem stage_table {α : Type} {Q : α → sProp 𝕄} {K : Prog (TpuEff nD τ sig (Elt F) Λ₀ (.scVector (cV L) (jV L))) α} {c : Prop} [Decidable c] (hc : c ↔ (L 1).val = 0)
    (O : CellTallies nD τ sig (HIx 1)) (W₀ : Waits sig (HIx 1))
    {h1 : c → (xW).view.WordExact} {h2 : c → (shW).view.WordExact}
    {h3 : c → DmaTarget.Typed (nD := nD) .hbm (.dma cc1_scoped0.sem) (.here (p := Proc.scVector (cV L) (jV L)) shW)}
    {h4 : c → (xW).view.WordExact} {h5 : c → (shW).view.WordExact} :
    iprop(goX X d (c2 L) (cV L) (j16 L) ∗ semVal (th d L, .dma cc1_scoped0.sem) 0 ∗ owed d L O W₀ ∗ Transfers.MayWaits (th d L) (default : HIx 1) O)
      ⊢ iprop((iprop(pays X d L ∗ tdX X d (c2 L) (cV L) (j16 L) ∗ semVal (th d L, .dma cc1_scoped0.sem) 0 ∗ owed d L O W₀) -∗ wp frame (wpE (defs₀ (F := F)) 𝒱₀ (th d L) none) Set.univ K Q)
        -∗ wp frame (wpE (defs₀ (F := F)) 𝒱₀ (th d L) none) Set.univ (if h : c then (.op (.enqueueDma xW (.here shW) (.dma cc1_scoped0.sem) (h1 h) (h2 h) (h3 h)) fun _ =>
            .op (.waitDma2 cc1_scoped0.sem xW shW (h4 h) (h5 h)) fun _ => K) else K) Q) := by
  by_cases h : c
  · have h0 : (j16 L).val = 0 := hc.mp h
    rw [dif_pos h]
    unfold goX tdX owed
    rw [if_pos h0, if_pos h0]
    iintro ⟨⟨Hx, Hs⟩, Hv, ⟨%W', %hW, HO⟩, Hmw⟩ Hk
    iapply (wp_table X d L (xq (c2 L))) $$ [Hx Hs Hv]
    · isplitl [Hx]; · iexact Hx
      isplitl [Hs]; · iexact Hs
      iexact Hv
    iintro Hf
    iapply (wp_tableDone X d L (xq (c2 L)) O W') $$ [Hf HO Hmw]
    · isplitl [Hf]; · iexact Hf
      isplitl [HO]; · iexact HO
      iexact Hmw
    iintro ⟨Hs, Hx, Hv, HO⟩
    ihave Hs := (Transfers.pointsTo_toks_split fullShare 16) $$ Hs
    icases Hs with ⟨Hd, Ht⟩
    iapply Hk
    isplitl [Ht]; · iapply (pays_zero X d L h0); iexact Ht
    isplitl [Hx Hd]
    · isplitl [Hx]; · iexact Hx
      iexact Hd
    isplitl [Hv]; · iexact Hv
    iexists _; isplitr; swap; · iexact HO
    ipureintro; exact owed_insert hW _
  · have h0 : ¬ (j16 L).val = 0 := fun x => h (hc.mpr x)
    rw [dif_neg h]
    unfold goX tdX
    rw [if_neg h0, if_neg h0]
    iintro ⟨-, Hv, HO, -⟩ Hk
    iapply Hk
    isplitr; · iapply (pays_pos X d L h0); iempintro
    isplitr; · iempintro
    isplitl [Hv]; · iexact Hv
    iexact HO

theorem first_iff (i : grid1.Coords) : Scalar.cmpi .ne (Scalar.extui (Scalar.cmpi .eq (BitVec.ofNat 32 (i 1).val) 0#32) : BitVec 32) 0#32 = 1#1 ↔ (i 1).val = 0 := by
  rw [← co_eta i]
  exact (by decide +kernel : ∀ (a : Fin 2) (b : Fin 16),
    Scalar.cmpi .ne (Scalar.extui (Scalar.cmpi .eq (BitVec.ofNat 32 (co a b 1).val) 0#32) : BitVec 32) 0#32 = 1#1 ↔ (co a b 1).val = 0) _ _

/-! ## The task -/

set_option maxHeartbeats 4000000 in
theorem tile_body (hF : (K (F := F)).Facts) (hJ : ∀ x, (J d x).toNat < 10000) (O : CellTallies nD τ sig (HIx 1)) (W₀ : Waits sig (HIx 1))
    (hO : ∀ g, O g none = 0) (hOlev : ∀ g ι, 0 < O g ι → 8 * (0 : Fin 1).val + 6 ≤ (K (F := F)).lev g ι) :
    iprop(levAts (K (F := F)).L (K (F := F)).lev ∗ bkit X d (cV L) (jV L)
        ∗ (jBs J d (c2 L) (j16 L) ∗ oAnys (F := F) d (c2 L) (j16 L) ∗ goX X d (c2 L) (cV L) (j16 L))
        ∗ scopedBufs (th d L) ∗ scopedSems0 (th d L) ∗ owes (th d L) (O + oxV d (cV L)) W₀)
      ⊢ wp frame (wpE (defs₀ (F := F)) 𝒱₀ (th d L) none) Set.univ
          (cc1_gather_kernel L (Memref.whole main_arg0_scv) (Memref.isWhole_whole main_arg0_scv) (Memref.whole main_v9_scv) (Memref.isWhole_whole main_v9_scv) (Memref.whole main_v10_scv) (Memref.isWhole_whole main_v10_scv) (Memref.whole cc1_scratch0) (Memref.isWhole_whole cc1_scratch0) cc1_scoped0 (Memref.whole cc1_scoped1) (Memref.isWhole_whole cc1_scoped1) cc1_scoped2 (Memref.whole cc1_scoped3) (Memref.isWhole_whole cc1_scoped3) cc1_scoped4 cc1_scoped5)
          fun _ => iprop((jBs J d (c2 L) (j16 L) ∗ oVals X J d (c2 L) (j16 L) ∗ shPts X d (cV L) (Transfers.shareTok fullShare 16 (j16 L))
              ∗ tdX X d (c2 L) (cV L) (j16 L) ∗ semVal (bcell d (cV L) (jV L)) 0)
            ∗ scopedBufs (th d L) ∗ scopedSems0 (th d L)
            ∗ ∃ W', ⌜∀ p ∈ W', p ∈ W₀ ∨ p.2 = none ∨ p.2 = some (0 : Fin 1)⌝ ∗ owes (th d L) O W') := by
  simp only [cc1_gather_kernel_eq_skeleton]; unfold cc1_gather_kernel_skel
  simp only [k1_part4_eq_skeleton, k1_part5_eq_skeleton, k1_part6_eq_skeleton]
  unfold k1_part4_skel k1_part5_skel k1_part6_skel
  rw [(K (F := F)).scopedBufs_V hF d (cV L) (jV L), SparseCore.Cfg.scopedSems0_V (Val := Elt F) d (cV L) (jV L), sems_own, bufs_own]
  unfold bkit
  iintro ⟨#Hlv, ⟨⟨%κ, #Hinv⟩, Htoks, #Hrch, Hat, Hcred⟩, ⟨Hj, Ho, Hgo⟩, ⟨Ha, Hb, Hbufs⟩, ⟨Hs0, Hs5, Ha0, Ha1, Hb0, Hb1, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (th d L) (default : HIx 1) (O + oxV d (cV L)) from
    (K (F := F)).mayWaits_none (thr := th d L) hO') $$ Hlv
  ihave Hmw2 := (show levAts (K (F := F)).L (K (F := F)).lev ⊢ Transfers.MayWaits (th d L) (default : HIx 1) O from
    (K (F := F)).mayWaits_none (thr := th d L) hO) $$ Hlv
  ihave Ha := (slotsA d L) $$ Ha
  ihave Hb := (slotsB d L) $$ Hb
  icases Ha with ⟨HA0, HA1⟩
  icases Hb with ⟨HB0, HB1⟩
  simp only [Prog.lift, Prog.bind_op, Prog.bind_ret, Prog.pure_eq_ret, Prog.bind_assoc]
  rw [wp_bind]
  -- the table
  iapply (stage_table X d L (first_iff L) (O + oxV d (cV L)) W₀) $$ [Hgo Hs0 HO Hmw1]
  · isplitl [Hgo]; · iexact Hgo
    isplitl [Hs0]; · iexact Hs0
    isplitl [HO]
    · unfold owed; iexists W₀; isplitr; swap; · iexact HO
      ipureintro; exact fun p hp => .inl hp
    iexact Hmw1
  iintro ⟨Hpays, Htd, Hs0, HO⟩
  unfold owed
  icases HO with ⟨%W₁, %hW₁, HO⟩
  -- the barrier
  iapply (SparseCore.wp_subcoreBarrier 𝒱₀ none EB (bRd X) d (sc := cV L) (i := jV L) sc_bar0 (grid1.bound 1) hsub1 (L 1) rfl κ (fun _ => 0) (jV L).val
      (fun j => bRd_mem₀ X d _ _ _) (fun _ => rfl) (bRd_expect X d _ _) (some 0) O W₁) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := th d L) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  imod (Rounds.cell_close EB (bRd X) (g := bcell d (cV L) (jV L)) (Set.mem_univ (κ _)) (fun h => h) (bRd_duties_succ X _)) $$ [Hat] with Hbar
  · isplitr
    · iapply (SparseCore.ent (bigSep_elim (Φ := fun j : Fin (grid1.bound 1) =>
        (cellInv EB (bRd X) (κ (bcell d (cV L) (j.castLE hsub1))) (bcell d (cV L) (j.castLE hsub1)) : sProp 𝕄)) (Finset.mem_univ (L 1)))); iexact Hinv
    · iexact Hat
  ihave Hsh := (pays_share X d L) $$ Hgot
  rw [wp_ret]; imodintro
  -- the first fetch
  ihave Hj := (Entails.of_eq (show (jBs J d (c2 L) (j16 L) : sProp 𝕄) = iprop(jB J d (nb L 0) ∗ jAhead J d L 1) by
    unfold jAhead; show bigSep Finset.univ _ = _; rw [← ahead_zero, ahead_take _ 0 (by omega), nb_eq L 0 (by omega)])) $$ Hj
  icases Hj with ⟨Hn, HjA⟩
  iapply (wp_fetch J d L 0 (nb L 0) (iBlk_of _ _ (by rw [off2_eq, nb_val L 0 (by omega)])) (aSlot_of _ _ k1_off1_eq) (aSem_of _ _ k1_off3_eq)) $$ [Hn HA0 Ha0]
  · isplitl [Hn]; · iexact Hn
    isplitl [HA0]; · iexact HA0
    iexact Ha0
  iintro Hf
  -- the trips
  rw [wp_bind]
  iapply (Scf.wp_for frame (wpE (defs₀ (F := F)) 𝒱₀ (th d L) none) Set.univ _ _ _ k1_t1_ok _ _
    (inv X J d L O (insert (SemLoc.reg sc_bar0, some (0 : Fin 1)) W₁) (Transfers.shareTok fullShare 16 (j16 L)))
    (fun t acc => trip X J d L O (insert (SemLoc.reg sc_bar0, some (0 : Fin 1)) W₁) (Transfers.shareTok fullShare 16 (j16 L)) _ _ _ t acc hJ))
  isplitl [Hf HA1 Ha1 HB0 Hb0 HB1 Hb1 Hs5 Hsh HjA Ho HO Hmw2]
  · unfold inv
    isplitr; · ipureintro; rfl
    isplitl [Hmw2]; · iexact Hmw2
    isplitl [Hf]; · unfold inS; rw [if_pos (by omega)]; iexact Hf
    isplitl [HA1 Ha1]
    · isplitl [HA1]; · iexact HA1
      iexact Ha1
    isplitl [HB1 Hb1]
    · unfold outS; rw [if_neg (by omega)]
      isplitl [HB1]; · iexact HB1
      iexact Hb1
    isplitl [HB0 Hb0]
    · isplitl [HB0]; · iexact HB0
      iexact Hb0
    isplitl [Hs5]; · iexact Hs5
    isplitl [Hsh]; · iexact Hsh
    isplitl [HjA]; · iexact HjA
    isplitr; · unfold jBehind; rw [behind_zero, bigSep_empty]; iempintro
    isplitl [Ho]; · unfold oAhead; rw [ahead_zero]; iexact Ho
    isplitr; · unfold oBehind; rw [show (0 - 1 : ℕ) = 0 from rfl, behind_zero, bigSep_empty]; iempintro
    unfold owed; iexists _; isplitr; swap; · iexact HO
    ipureintro; exact fun p hp => .inl hp
  iintro %acc HI
  ihave HI := (Entails.of_eq (show inv X J d L O (insert (SemLoc.reg sc_bar0, some (0 : Fin 1)) W₁) (Transfers.shareTok fullShare 16 (j16 L)) k1_t1_loop.trips acc
    = inv X J d L O (insert (SemLoc.reg sc_bar0, some (0 : Fin 1)) W₁) (Transfers.shareTok fullShare 16 (j16 L)) 79 acc by rw [trips_eq])) $$ HI
  unfold inv
  icases HI with ⟨%hacc, #Hmw, Hin, HfA, Hout, HfB, Hs5, Hsh, -, HjB, -, HoB, HO⟩
  subst hacc
  have h5 : k1_chk5 L (accAt 79).2.2.2.2.2 := chk5_ok L
  have h4 : k1_chk4 (accAt 79).2.2.2.1 := chk4_ok (n := 78) (by omega)
  rw [wp_assume_of 𝒱₀ (th d L) none Set.univ h5]
  rw [wp_assume_of 𝒱₀ (th d L) none Set.univ h4]
  -- the wait for the last rows
  have e1 : (inS J d L 79 : sProp 𝕄) = freeA d L 1 := by unfold inS; rw [if_neg (by omega)]; rfl
  have e2 : (outS X J d L 79 : sProp 𝕄) = ouFl X J d L 0 (nb L (79 - 1)) := by unfold outS; rw [if_pos (by omega)]; rfl
  ihave Hin := (Entails.of_eq e1) $$ Hin
  ihave Hout := (Entails.of_eq e2) $$ Hout
  ihave HfA := (Entails.of_eq (show (freeA d L (sl (79 + 1)) : sProp 𝕄) = freeA d L 0 from rfl)) $$ HfA
  ihave HfB := (Entails.of_eq (show (freeB d L (sl 79) : sProp 𝕄) = freeB d L 1 from rfl)) $$ HfB
  unfold owed
  icases HO with ⟨%W₂, %hW₂, HO⟩
  iapply (wp_putDone X J d L 0 (nb L (79 - 1)) O W₂ (oBlk_of _ _ (by rw [nb_val L (79 - 1) (by omega)]; exact off19_eq L))
    (bSem_of _ _ (off20_eq (n := 78) (by omega)))) $$ [Hout HO]
  · isplitl [Hout]; · iexact Hout
    isplitl [HO]; · iexact HO
    iexact Hmw
  iintro ⟨Hn, HB0, Hb0, HO⟩
  rw [wp_ret]; imodintro
  icases HfA with ⟨HA0, Ha0⟩
  icases Hin with ⟨HA1, Ha1⟩
  icases HfB with ⟨HB1, Hb1⟩
  isplitl [HjB HoB Hn Hsh Htd Hbar]
  · isplitl [HjB]
    · iapply (Entails.of_eq (show (jBehind J d L 79 : sProp 𝕄) = jBs J d (c2 L) (j16 L) by unfold jBehind; rw [behind_end])) $$ HjB
    isplitl [HoB Hn]
    · iapply (Entails.of_eq (show iprop(oVal X J d (nb L (79 - 1)) ∗ oBehind X J d L (79 - 1)) = (oVals X J d (c2 L) (j16 L) : sProp 𝕄) by
        show iprop(oVal X J d (nb L 78) ∗ oBehind X J d L 78) = bigSep Finset.univ _
        unfold oBehind; rw [← behind_end, behind_put _ 78 (by omega), nb_eq L 78 (by omega)]))
      isplitl [Hn]; · iexact Hn
      iexact HoB
    isplitl [Hsh]; · iexact Hsh
    isplitl [Htd]; · iexact Htd
    iexact Hbar
  isplitl [HA0 HA1 HB0 HB1 Hbufs]
  · isplitl [HA0 HA1]
    · iapply (slotsA_back d L)
      isplitl [HA0]; · iexact HA0
      iexact HA1
    isplitl [HB0 HB1]
    · iapply (slotsB_back d L)
      isplitl [HB0]; · iexact HB0
      iexact HB1
    iexact Hbufs
  isplitl [Hs0 Hs5 Ha0 Ha1 Hb0 Hb1 Hsems]
  · isplitl [Hs0]; · iexact Hs0
    isplitl [Hs5]; · iexact Hs5
    isplitl [Ha0]; · iexact Ha0
    isplitl [Ha1]; · iexact Ha1
    isplitl [Hb0]; · iexact Hb0
    isplitl [Hb1]; · iexact Hb1
    iexact Hsems
  iexists _; isplitr
  swap; · iexact HO
  ipureintro; intro p hp
  rcases Finset.mem_insert.mp hp with hp | hp; · exact .inr (.inl (hp ▸ rfl))
  rcases hW₂ p hp with hp | hp; swap; · exact .inr (.inl hp)
  rcases Finset.mem_insert.mp hp with hp | hp; · exact .inr (.inr (hp ▸ rfl))
  rcases hW₁ p hp with hp | hp; · exact .inl hp
  exact .inr (.inl hp)

/-! ## The obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_tile (c : Fin τ.nSC) (s : Fin τ.nSub) :
    defs₀ (F := F) (.scVector c s) 1 ()
      = SparseCore.onTile hcore1 hsub1 (fun c s => cc1_gather_kernel (coordsV c s)
          (Memref.whole main_arg0_scv) (Memref.isWhole_whole main_arg0_scv) (Memref.whole main_v9_scv) (Memref.isWhole_whole main_v9_scv) (Memref.whole main_v10_scv) (Memref.isWhole_whole main_v10_scv) (Memref.whole cc1_scratch0) (Memref.isWhole_whole cc1_scratch0) cc1_scoped0 (Memref.whole cc1_scoped1) (Memref.isWhole_whole cc1_scoped1) cc1_scoped2 (Memref.whole cc1_scoped3) (Memref.isWhole_whole cc1_scoped3) cc1_scoped4 cc1_scoped5) ⟨⟩ c s := rfl

set_option maxRecDepth 16384 in
theorem tileObl (hF : (K (F := F)).Facts) (hJ : ∀ d x, (J d x).toNat < 10000) : (K (F := F)).TileObl (D (F := F)) 𝒱 (P X J) v₀ 0 := by
  intro d c i O W hO hOlev _
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact tile_body X J d (coordsV ⟨_, hci.1⟩ ⟨_, hci.2⟩) hF (hJ d) O W hO hOlev

end Cert.Proof.Tiles
-- ==== Proof.Deal.lean ====
/-
  What passes between the call, the sequencers and the tiles: a sequencer's part of the call split over its sixteen tiles
  and put together again, and the barrier's ghost state made at the launch and dealt to the tiles.
-/
module

public import proofs.«01_k».proof.Proof.Tile
public import proofs.«01_k».proof.Proof.Gen.KernelIdeal.Launch
public import Idealize.ShloMosaic.Lib.SparseCore.Quiescent
public import Idealize.ShloMosaic.Lib.Pipeline.Cells

@[expose] public section

noncomputable section

namespace Cert.Proof.Tiles

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (X : Dev nD → S10000x128.Idx → Elt F .f32) (J : Dev nD → S1x323584.Idx → BitVec 32)

/-! ## A sequencer's part over its tiles -/

omit [FloatOps F] in
/-- What tile 0 alone has is all that the sixteen tiles have. -/
theorem bigSep_first (A : sProp 𝕄) : (bigSep Finset.univ fun j : Fin 16 => if j.val = 0 then A else iprop(emp)) = A := by
  rw [SparseCore.bigSep_erase' (Finset.mem_univ (0 : Fin 16)), if_pos (show ((0 : Fin 16)).val = 0 from rfl),
    bigSep_congr (s := Finset.univ.erase (0 : Fin 16)) (Φ := fun j : Fin 16 => if j.val = 0 then A else iprop(emp)) (Ψ := fun _ => iprop(emp))
      (fun j hj => if_neg fun h => Finset.ne_of_mem_erase hj (Fin.ext h)), bigSep_emp']
  exact equiv_iff.mp BI.sep_emp

omit [FloatOps F] in
theorem bigSep_sub16 (Φ : Fin 16 → sProp 𝕄) :
    (bigSep Finset.univ fun i : Fin ((K (F := F)).nSub 0) => Φ (sub16 i)) = bigSep Finset.univ Φ :=
  bigSep_congr fun _ _ => congrArg Φ (Fin.ext rfl)

omit [FloatOps F] in
/-- The shared scratch is among the sequencer's own buffers. -/
theorem seq_bufs (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  exact SparseCore.bigSep_erase' ((mem_ownRefs (p := Proc.scScalar c) (b := shRef c)).mpr rfl)

theorem go_all (d : Dev nD) (c : Fin ((K (F := F)).nCore 0)) :
    (bigSep Finset.univ fun i => goP X J d c i)
      = iprop((bigSep Finset.univ fun j : Fin 16 => jBs J d (core2 c) j) ∗ (bigSep Finset.univ fun j : Fin 16 => oAnys (F := F) d (core2 c) j)
        ∗ xPts X d (xq (core2 c)) ∗ ∃ f : Buf (Elt F) (shLoc d (coreOf c)), shLoc d (coreOf c) ↦{fullShare} f) := by
  unfold goP
  rw [bigSep_sep', bigSep_sep', bigSep_sub16 (fun j => jBs J d (core2 c) j), bigSep_sub16 (fun j => oAnys (F := F) d (core2 c) j),
    bigSep_sub16 (fun j => goX X d (core2 c) (coreOf c) j)]
  unfold goX
  rw [bigSep_first]

theorem td_all (d : Dev nD) (c : Fin ((K (F := F)).nCore 0)) :
    (bigSep Finset.univ fun i => tdP X J d c i)
      = iprop((bigSep Finset.univ fun j : Fin 16 => jBs J d (core2 c) j) ∗ (bigSep Finset.univ fun j : Fin 16 => oVals X J d (core2 c) j)
        ∗ (bigSep Finset.univ fun j : Fin 16 => shPts X d (coreOf c) (Transfers.shareTok fullShare 16 j))
        ∗ (xPts X d (xq (core2 c)) ∗ shPts X d (coreOf c) (Transfers.shareDrop fullShare 16)) ∗ bars d c) := by
  unfold tdP
  rw [bigSep_sep', bigSep_sep', bigSep_sep', bigSep_sep', bigSep_sub16 (fun j => jBs J d (core2 c) j), bigSep_sub16 (fun j => oVals X J d (core2 c) j),
    bigSep_sub16 (fun j => shPts X d (coreOf c) (Transfers.shareTok fullShare 16 j)), bigSep_sub16 (fun j => tdX X d (core2 c) (coreOf c) j)]
  unfold tdX
  rw [bigSep_first]

theorem vecSplit : (K (F := F)).VecSplit (P X J) 0 := by
  intro d c
  show iprop(stP X J d c ∗ ownBufs (S d (coreOf c))) ⊢ |={Set.univ}=> iprop((bigSep Finset.univ fun i => goP X J d c i)
      ∗ ((bigSep Finset.univ fun i => tdP X J d c i) -∗ iprop(dnP X J d c ∗ ownBufs (S d (coreOf c)))))
  rw [go_all, td_all, seq_bufs]
  iintro ⟨⟨Hx, Hj, Ho⟩, Hsh, Hrest⟩; imodintro
  isplitl [Hx Hj Ho Hsh]
  · isplitl [Hj]; · iexact Hj
    isplitl [Ho]; · iexact Ho
    isplitl [Hx]; · iexact Hx
    iexact Hsh
  iintro ⟨Hj, Ho, Htoks, ⟨Hx, Hdrop⟩, Hbars⟩
  isplitl [Hx Hj Ho Hbars]
  · isplitl [Hx]; · iexact Hx
    isplitl [Hj]; · iexact Hj
    isplitl [Ho]; · iexact Ho
    iexact Hbars
  isplitl [Htoks Hdrop]
  · iexists _
    iapply (Transfers.pointsTo_toks_join fullShare 16)
    isplitl [Hdrop]; · iexact Hdrop
    iexact Htoks
  iexact Hrest

/-! ## The barriers' ghost state at the launch -/

abbrev Tiles : Type := Dev nD × Fin τ.nSC × Fin τ.nSub
abbrev tcell (x : Tiles) : GSem nD τ sig := bcell x.1 x.2.1 x.2.2

omit [FloatOps F] in
theorem tcell_inj : Function.Injective (tcell : Tiles → GSem nD τ sig) := fun a b e => by
  obtain ⟨h1, h2⟩ := Prod.mk.inj (Prod.mk.inj e).1
  obtain ⟨h3, h4⟩ := Proc.scVector.inj h2
  exact Prod.ext h1 (Prod.ext h3 h4)

/-- The barrier cells of every tile: the free semaphores the certificate takes at the launch. -/
def bCells : Finset (GSem nD τ sig) := Finset.univ.image tcell
/-- Each tile's token in the cell of each tile of its SparseCore. -/
def bToks : Finset (GSem nD τ sig × ℕ × ℕ) :=
  Finset.univ.image fun x : Tiles × Fin (grid1.bound 1) => (bcell x.1.1 x.1.2.1 (x.2.castLE hsub1), 0, x.1.2.2.val)
/-- No pipeline prefetches a table. -/
abbrev adm : (p : Fin 4) → (pcfgs (F := F) p).Adm := fun p => (cfgs p).toPCfg_adm
abbrev pipes : Fin 4 → Pipeline.Cfg sig Λ₀ := Pipeline.pin (pcfgs (F := F)) adm
theorem pipes_inj : Function.Injective (Pipeline.cellOf (nD := nD) (τ := τ) (pipes (F := F))) :=
  (launch0.toP (Val := Elt F)).cellOf_inj adm
/-- The pipelines' launch element: a round state on each staging cell, a token for each transfer. -/
def pl₀ : UPl := initOf (Pipeline.cells (pipes (F := F)) pipes_inj) (Pipeline.launchToks (pipes (F := F)) pipes_inj)
def u₀ : UU := (initOf (K (F := F)).hsCells (K (F := F)).hsToks, (initOf bCells bToks, (pl₀ (F := F), 1)))

omit [FloatOps F] in
theorem ownU_split (a : UH) (b : UB) (p : UPl) : (ownU ((a, (b, (p, 1))) : UU) : sProp 𝕄) ⊢ iprop(BI.own (EH a) ∗ BI.own (EB b) ∗ BI.own (EP p)) :=
  BI.Entails.trans (BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (p, (1 : Counters)))))))
  (sep_mono (P := BI.own (EH a)) .rfl (BI.own_op_elim ((uEmb (nD := nD) (sig := sig) (Ix := HIx 1) (Val := Elt F) (Name := ℕ) (U := UU) (Lvl := ℕ)).toEmb.op_of_mem
    (Prod.mk_mem_op (URA.mem_op_one (1 : UH)) (Prod.mk_mem_op (URA.mem_op_one b) (URA.mem_one_op (p, (1 : Counters))))))))

omit [FloatOps F] in
theorem bCells_eq (Φ : GSem nD τ sig → sProp 𝕄) : bigSep bCells Φ = bigSep Finset.univ fun x : Tiles => Φ (tcell x) := by
  unfold bCells; exact SparseCore.bigSep_image_of_injOn (fun a _ b _ e => tcell_inj e) Φ

/-- The barrier semaphores at zero, out of the free semaphores. -/
theorem bar_sems : ((K (F := F)).freeOn (· ∈ bCells) : sProp 𝕄) ⊢ bigSep bCells fun g => semVal g 0 := by
  rw [bCells_eq]
  unfold SparseCore.Cfg.freeOn
  refine sep_elim_right.trans (bigSep_mono fun x _ => ?_)
  exact bigSep_elim (Φ := fun sm : SemLoc sig => (semVal (V x.1 x.2.1 x.2.2, sm) 0 : sProp 𝕄)) (Finset.mem_filter.mpr
    ⟨Finset.mem_erase.mpr ⟨fun h => sc_bar0_ne_go (SemLoc.reg.inj h), Finset.mem_filter.mpr ⟨Finset.mem_univ _, by decide⟩⟩,
      Finset.mem_image_of_mem tcell (Finset.mem_univ x)⟩)

/-- The barrier cells' invariants. -/
theorem bar_invs : iprop((bigSep bCells fun g => (semVal g 0 : sProp 𝕄)) ∗ bigSep bCells fun g => roundState EB (bRd X) g 0)
    ⊢ |={Set.univ}=> iprop(∃ κ : GSem nD τ sig → ℕ, bigSep bCells fun g => cellInv EB (bRd X) (κ g) g) := by
  refine (Rounds.bodies_intro EB (bRd X) bCells).trans ((inv_alloc_family bCells (Rounds.body EB (bRd X)) ∅ (E := Set.univ)).trans ?_)
  iintro H
  imod H with ⟨%κ, -, Hinv⟩
  imodintro; iexists κ; iexact Hinv

omit [FloatOps F] in
theorem tally_units (g : GSem nD τ sig) (ι : HIx 1) (n : ℕ) : ∑ _ : Fin n, tallyAt g ι 1 = (tallyAt g ι n : CellTallies nD τ sig (HIx 1)) := by
  induction n with
  | zero => rw [tallyAt_zero]; rfl
  | succ n ih => rw [Fin.sum_univ_castSucc, ih, tallyAt_add]

theorem oxFrom_tile (d : Dev nD) (c : Fin τ.nSC) (i : Fin τ.nSub) : (P X J).oxFrom 0 (V d c i) = oxV d c := by
  rw [show (0 : ℕ) = (0 : Fin 1).val from rfl, (P X J).oxFrom_step, (P X J).oxFrom_end _ (n := (0 : Fin 1).val + 1) le_rfl, add_zero]
  rfl

/-- The credit for the tiles' arrivals, regrouped: to each tile the sixteen units of its own cell. -/
theorem bar_creds : ((P X J).oxCred : sProp 𝕄) ⊢ bigSep Finset.univ fun x : Tiles => cred (tallyAt (tcell x) (some 0) (grid1.bound 1)) := by
  unfold SparseCore.Cfg.Pay.oxCred
  rw [SparseCore.Cfg.bigSep_threads (fun thr : Thread nD τ => (cred ((P X J).oxFrom 0 thr) : sProp 𝕄))]
  refine sep_elim_right.trans (sep_elim_right.trans ?_)
  rw [bigSep_univ_prod, bigSep_univ_prod (fun x : Tiles => (cred (tallyAt (tcell x) (some 0) (grid1.bound 1)) : sProp 𝕄))]
  refine bigSep_mono fun d _ => ?_
  rw [bigSep_univ_prod, bigSep_univ_prod (fun y : Fin τ.nSC × Fin τ.nSub => (cred (tallyAt (tcell (d, y)) (some 0) (grid1.bound 1)) : sProp 𝕄))]
  refine bigSep_mono fun c _ => ?_
  simp only [oxFrom_tile]
  unfold oxV
  rw [SparseCore.Cfg.cred_finsum, Pipeline.bigSep_univ_comm]
  refine bigSep_mono fun j _ => ?_
  rw [← SparseCore.Cfg.cred_finsum, tally_units]; rfl

omit [FloatOps F] in
/-- A persistent resource goes to each conjunct. -/
theorem bigSep_mono_with {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    iapply (ih fun i hi => h i (Finset.mem_insert_of_mem hi)); isplitr; · iexact HR
    iexact H2

omit [FloatOps F] in
/-- And makes each conjunct that it entails alone. -/
theorem bigSep_of_pers {I : Type} [DecidableEq I] {R : sProp 𝕄} [BI.Persistent R] (s : Finset I) {Ψ : I → sProp 𝕄} (h : ∀ i ∈ s, R ⊢ Ψ i) : R ⊢ bigSep s Ψ := by
  refine BI.Entails.trans ?_ (bigSep_mono_with (Φ := fun _ => iprop(emp)) fun i hi => sep_elim_left.trans (h i hi))
  rw [bigSep_emp']
  exact sep_emp_intro

omit [FloatOps F] in
theorem toks_eq : (bigSep bToks fun x => (dutyTok EB x.1 x.2.1 x.2.2 : sProp 𝕄))
    = bigSep Finset.univ fun x : Tiles => bigSep Finset.univ fun j : Fin (grid1.bound 1) => dutyTok EB (bcell x.1 x.2.1 (j.castLE hsub1)) 0 x.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  rw [Fin.ext e2, show j = j' from Fin.ext (congrArg Fin.val hj)]

theorem Px_T (d : Dev nD) : (bigSep Finset.univ fun q : Fin 1 => (P X J).x q (SparseCore.T d)) = iprop(emp) :=
  bigSep_univ_of_subsingleton (0 : Fin 1)
theorem Px_S (d : Dev nD) (c : Fin τ.nSC) : (bigSep Finset.univ fun q : Fin 1 => (P X J).x q (S d c)) = iprop(emp) :=
  bigSep_univ_of_subsingleton (0 : Fin 1)
theorem Px_V (d : Dev nD) (c : Fin τ.nSC) (i : Fin τ.nSub) : (bigSep Finset.univ fun q : Fin 1 => (P X J).x q (V d c i)) = bkit X d c i :=
  bigSep_univ_of_subsingleton (0 : Fin 1)

/-- What the tiles are handed alike. -/
abbrev alike : sProp 𝕄 :=
  iprop((∃ κ : GSem nD τ sig → ℕ, bigSep Finset.univ fun x : Tiles => cellInv EB (bRd X) (κ (tcell x)) (tcell x))
    ∗ bigSep Finset.univ fun x : Tiles => reached EB (tcell x) 0)
/-- What a tile is handed of its own. -/
abbrev own1 (x : Tiles) : sProp 𝕄 :=
  iprop(atPos EB (tcell x) 0 ∅ 0
    ∗ (bigSep Finset.univ fun j : Fin (grid1.bound 1) => dutyTok EB (bcell x.1 x.2.1 (j.castLE hsub1)) 0 x.2.2.val)
    ∗ cred (tallyAt (tcell x) (some 0) (grid1.bound 1)))

theorem kit_make (x : Tiles) : iprop(alike X ∗ own1 x) ⊢ (bkit X x.1 x.2.1 x.2.2 : sProp 𝕄) := by
  obtain ⟨d, c, i⟩ := x
  iintro ⟨⟨#Hinv, #Hr⟩, Hat, Htok, Hcred⟩
  unfold bkit
  isplitr
  · icases Hinv with ⟨%κ, Hinv⟩
    iexists κ
    iapply (bigSep_of_pers (R := bigSep Finset.univ fun x : Tiles => cellInv EB (bRd X) (κ (tcell x)) (tcell x)) Finset.univ
      (Ψ := fun j : Fin (grid1.bound 1) => cellInv EB (bRd X) (κ (bcell d c (j.castLE hsub1))) (bcell d c (j.castLE hsub1))) fun j _ =>
        bigSep_elim (Φ := fun x : Tiles => (cellInv EB (bRd X) (κ (tcell x)) (tcell x) : sProp 𝕄)) (Finset.mem_univ (d, c, j.castLE hsub1)))
    iexact Hinv
  isplitl [Htok]; · iexact Htok
  isplitr
  · iapply (bigSep_of_pers (R := bigSep Finset.univ fun x : Tiles => reached EB (tcell x) 0) Finset.univ
      (Ψ := fun j : Fin (grid1.bound 1) => reached EB (bcell d c (j.castLE hsub1)) 0) fun j _ =>
        bigSep_elim (Φ := fun x : Tiles => (reached EB (tcell x) 0 : sProp 𝕄)) (Finset.mem_univ (d, c, j.castLE hsub1)))
    iexact Hr
  isplitl [Hat]; · iexact Hat
  iexact Hcred

theorem kits_deal :
    iprop(alike X ∗ (bigSep Finset.univ fun x : Tiles => atPos EB (tcell x) 0 ∅ 0)
        ∗ (bigSep Finset.univ fun x : Tiles => bigSep Finset.univ fun j : Fin (grid1.bound 1) => dutyTok EB (bcell x.1 x.2.1 (j.castLE hsub1)) 0 x.2.2.val)
        ∗ (bigSep Finset.univ fun x : Tiles => cred (tallyAt (tcell x) (some 0) (grid1.bound 1))))
      ⊢ (bigSep Finset.univ fun thr : Thread nD τ => bigSep Finset.univ fun q : Fin 1 => (P X J).x q thr : sProp 𝕄) := by
  rw [SparseCore.Cfg.bigSep_threads (fun thr : Thread nD τ => bigSep Finset.univ fun q : Fin 1 => (P X J).x q thr)]
  simp only [Px_T, Px_S, Px_V, bigSep_emp']
  iintro ⟨#Hsh, Hat, Htok, Hcred⟩
  isplitr; · iempintro
  isplitr; · iempintro
  iapply (bigSep_mono_with (R := alike X) (Φ := own1 (F := F)) fun x _ => kit_make X x)
  isplitr; · iexact Hsh
  unfold own1
  rw [bigSep_sep', bigSep_sep']
  isplitl [Hat]; · iexact Hat
  isplitl [Htok]; · iexact Htok
  iexact Hcred

/-- What a device's TensorCore is given for its four pipelines: the staging cells' ghost state and the transfers' tokens. -/
def pGhost (d : Dev nD) : sProp 𝕄 :=
  iprop((bigSep Finset.univ fun p : Fin 4 => Pipeline.cellsGhost (pipes (F := F)) EP p d) ∗ bigSep Finset.univ fun p : Fin 4 => Pipeline.toksInit (pipes (F := F)) EP p d)

theorem hu₀ : iprop(ownU (u₀ (F := F)) ∗ (P X J).oxCred ∗ (K (F := F)).freeOn (· ∈ bCells))
    ⊢ |={Set.univ}=> iprop(BI.own (EH (initOf (K (F := F)).hsCells (K (F := F)).hsToks)) ∗ (bigSep Finset.univ fun d : Dev nD => pGhost (F := F) d)
        ∗ (bigSep Finset.univ fun thr : Thread nD τ => bigSep Finset.univ fun q : Fin 1 => (P X J).x q thr) : sProp 𝕄) := by
  unfold u₀
  iintro ⟨Hu, Hcred, Hfree⟩
  ihave H := (ownU_split _ _) $$ Hu
  icases H with ⟨HH, HB, HP⟩
  ihave HP := (Entails.of_eq (show BI.own (EP (pl₀ (F := F))) = BI.own (EP (initOf (Pipeline.cells (pipes (F := F)) pipes_inj) (Pipeline.launchToks (pipes (F := F)) pipes_inj))) from rfl)) $$ HP
  imod (Pipeline.fund_ghost (pipes (F := F)) EP pipes_inj) $$ HP with ⟨Hgh, Htk⟩
  imod (Rounds.fund EB (bRd X) bCells bToks) $$ HB with ⟨Hst, #Hr, Hat, Htok⟩
  ihave Hsems := (bar_sems (F := F)) $$ Hfree
  imod (bar_invs X) $$ [Hsems Hst] with ⟨%κ, #Hinv⟩
  · isplitl [Hsems] <;> iassumption
  ihave Hcred' := (bar_creds X J) $$ Hcred
  ihave Hinv' := (Entails.of_eq (bCells_eq (F := F) fun g => cellInv EB (bRd X) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitl [Hgh Htk]
  · unfold pGhost; rw [bigSep_sep']; isplitl [Hgh] <;> iassumption
  iapply (kits_deal X J)
  isplitr
  · isplitl; · iexists κ; iexact Hinv'
    iexact Hr'
  isplitl [Hat']; · iexact Hat'
  isplitl [Htok']; · iexact Htok'
  iexact Hcred'

/-! ## The arrays in blocks -/

abbrev Blk : Type := Fin 2 × Fin 16 × Fin 79
abbrev blkOf (x : Blk) : Fin 2528 := blk x.1 x.2.1 x.2.2

theorem blocks_disj {α : Type} [DecidableEq α] (set : Fin 2528 → Finset α) (num : α → ℕ) (h : ∀ n x, x ∈ set n ↔ num x = n.val) :
    ∀ x ∈ (Finset.univ : Finset Blk), ∀ y ∈ (Finset.univ : Finset Blk), x ≠ y → Disjoint (set (blkOf x)) (set (blkOf y)) :=
  fun x _ y _ hxy => Finset.disjoint_left.mpr fun a ha hb => hxy (blk_inj (Fin.ext (((h _ _).mp ha).symm.trans ((h _ _).mp hb))))

theorem blocks_cover {α : Type} [DecidableEq α] [Fintype α] (set : Fin 2528 → Finset α) (num : α → ℕ) (h : ∀ n x, x ∈ set n ↔ num x = n.val) (hn : ∀ x, num x < 2528) :
    (Finset.univ : Finset Blk).biUnion (fun x => set (blkOf x)) = Finset.univ := by
  refine Finset.eq_univ_iff_forall.mpr fun x => ?_
  obtain ⟨c, j, t, e⟩ := blk_surj ⟨num x, hn x⟩
  exact Finset.mem_biUnion.mpr ⟨(c, j, t), Finset.mem_univ _, (h _ _).mpr (congrArg Fin.val e).symm⟩

theorem iNum_lt (x : S1x323584.Idx) : (x 1).val / 128 < 2528 := by
  have : (x 1).val < 323584 := (x 1).isLt
  omega
theorem oNum_lt (x : S323584x128.Idx) : (x 0).val / 128 < 2528 := by
  have : (x 0).val < 323584 := (x 0).isLt
  omega

omit [FloatOps F] in
theorem i_blocks (d : Dev nD) (f : Buf (Elt F) (jLoc d)) : (jLoc d ↦{fullShare} f : sProp 𝕄)
    = bigSep Finset.univ fun c : Fin 2 => bigSep Finset.univ fun j : Fin 16 => bigSep Finset.univ fun t : Fin 79 => jLoc d ↦[iSet (blk c j t)]{fullShare} f := by
  have h := pointsTo_biUnion (nD := nD) (τ := τ) (sig := sig) (Ix := HIx 1) (Val := Elt F) (Name := ℕ) (U := UU) (Lvl := ℕ) (q := fullShare) (f := f) (Finset.univ : Finset Blk) (ℓ := jLoc d) (fun x => iSet (blkOf x))
    (blocks_disj iSet (fun x => (x 1).val / 128) mem_iSet)
  rw [show (Finset.univ : Finset Blk).biUnion (fun x => iSet (blkOf x)) = Finset.univ from blocks_cover iSet (fun x => (x 1).val / 128) mem_iSet iNum_lt] at h
  rw [h, bigSep_univ_prod]
  exact bigSep_congr fun c _ => bigSep_univ_prod _

omit [FloatOps F] in
theorem o_blocks (d : Dev nD) (f : Buf (Elt F) (oLoc d)) : (oLoc d ↦{fullShare} f : sProp 𝕄)
    = bigSep Finset.univ fun c : Fin 2 => bigSep Finset.univ fun j : Fin 16 => bigSep Finset.univ fun t : Fin 79 => oLoc d ↦[oSet (blk c j t)]{fullShare} f := by
  have h := pointsTo_biUnion (nD := nD) (τ := τ) (sig := sig) (Ix := HIx 1) (Val := Elt F) (Name := ℕ) (U := UU) (Lvl := ℕ) (q := fullShare) (f := f) (Finset.univ : Finset Blk) (ℓ := oLoc d) (fun x => oSet (blkOf x))
    (blocks_disj oSet (fun x => (x 0).val / 128) mem_oSet)
  rw [show (Finset.univ : Finset Blk).biUnion (fun x => oSet (blkOf x)) = Finset.univ from blocks_cover oSet (fun x => (x 0).val / 128) mem_oSet oNum_lt] at h
  rw [h, bigSep_univ_prod]
  exact bigSep_congr fun c _ => bigSep_univ_prod _

/-! ## The call's operands and results whole -/

omit [FloatOps F] in
theorem bigSep_cores (Φ : Fin 2 → sProp 𝕄) :
    (bigSep Finset.univ fun c : Fin ((K (F := F)).nCore 0) => Φ (core2 c)) = bigSep Finset.univ Φ :=
  bigSep_congr fun _ _ => congrArg Φ (Fin.ext rfl)

/-- From the three arrays whole: the call's operands, and what is left of the table's share. -/
theorem call_in (d : Dev nD) (f : Buf (Elt F) (oLoc d)) :
    iprop(xPts X d fullShare ∗ (jLoc d ↦{fullShare} (show Buf (Elt F) (jLoc d) from J d)) ∗ oLoc d ↦{fullShare} f)
      ⊢ (iprop((bigSep Finset.univ fun c => (P X J).st 0 d c) ∗ xPts X d (Transfers.shareDrop fullShare 2)) : sProp 𝕄) := by
  rw [show (bigSep Finset.univ fun c => (P X J).st 0 d c)
      = (iprop((bigSep Finset.univ fun c : Fin 2 => xPts X d (xq c)) ∗ (bigSep Finset.univ fun c : Fin 2 => bigSep Finset.univ fun j : Fin 16 => jBs J d c j)
          ∗ (bigSep Finset.univ fun c : Fin 2 => bigSep Finset.univ fun j : Fin 16 => oAnys (F := F) d c j)) : sProp 𝕄) by
    rw [← bigSep_sep', ← bigSep_sep']
    exact bigSep_cores (F := F) fun c => iprop(xPts X d (xq c) ∗ (bigSep Finset.univ fun j : Fin 16 => jBs J d c j) ∗ (bigSep Finset.univ fun j : Fin 16 => oAnys (F := F) d c j)),
    i_blocks, o_blocks]
  iintro ⟨Hx, Hj, Ho⟩
  ihave Hx' := (Transfers.pointsTo_toks_split fullShare 2) $$ Hx
  icases Hx' with ⟨Hd, Ht⟩
  isplitr [Hd]
  · isplitl [Ht]; · iexact Ht
    isplitl [Hj]; · iexact Hj
    iapply (SparseCore.ent (bigSep_mono (Φ := fun c : Fin 2 => bigSep Finset.univ fun j : Fin 16 => bigSep Finset.univ fun t : Fin 79 => oLoc d ↦[oSet (blk c j t)]{fullShare} f)
      fun c _ => bigSep_mono fun j _ => bigSep_mono fun t _ =>
        BI.BIClass.exists_intro (Φ := fun f : Buf (Elt F) (oLoc d) => oLoc d ↦[oSet (blk c j t)]{fullShare} f) f))
    iexact Ho
  iexact Hd

/-- And back, the result at the gathered rows. -/
theorem call_out (d : Dev nD) :
    iprop((bigSep Finset.univ fun c => (P X J).dn 0 d c) ∗ xPts X d (Transfers.shareDrop fullShare 2))
      ⊢ (iprop((xPts X d fullShare ∗ (jLoc d ↦{fullShare} (show Buf (Elt F) (jLoc d) from J d)) ∗ oLoc d ↦{fullShare} (show Buf (Elt F) (oLoc d) from gat (X d) (J d)))
        ∗ bigSep Finset.univ fun c => bars (F := F) d c) : sProp 𝕄) := by
  rw [show (bigSep Finset.univ fun c => (P X J).dn 0 d c)
      = (iprop((bigSep Finset.univ fun c : Fin 2 => xPts X d (xq c)) ∗ (bigSep Finset.univ fun c : Fin 2 => bigSep Finset.univ fun j : Fin 16 => jBs J d c j)
          ∗ (bigSep Finset.univ fun c : Fin 2 => bigSep Finset.univ fun j : Fin 16 => oVals X J d c j) ∗ bigSep Finset.univ fun c => bars (F := F) d c) : sProp 𝕄) by
    rw [← bigSep_cores (F := F) (fun c => xPts X d (xq c)), ← bigSep_cores (F := F) (fun c => bigSep Finset.univ fun j : Fin 16 => jBs J d c j),
      ← bigSep_cores (F := F) (fun c => bigSep Finset.univ fun j : Fin 16 => oVals X J d c j), ← bigSep_sep', ← bigSep_sep', ← bigSep_sep']
    rfl,
    i_blocks, o_blocks]
  iintro ⟨⟨Ht, Hj, Ho, Hb⟩, Hd⟩
  isplitr [Hb]
  · isplitl [Ht Hd]
    · iapply (Transfers.pointsTo_toks_join fullShare 2)
      isplitl [Hd]; · iexact Hd
      iexact Ht
    isplitl [Hj]; · iexact Hj
    iexact Ho
  iexact Hb

end Cert.Proof.Tiles
-- ==== Proof.Region.lean ====
/-
  A TensorCore call of the program, run by its pipeline, entered while the device may still owe the SparseCores their
  start signals: from every unscoped buffer at one valuation to every unscoped buffer at the valuation with the
  call's result arrays replaced.
-/
module

public import proofs.«01_k».proof.Proof.Deal
public import Idealize.ShloMosaic.Lib.Pipeline.RegionArrays
public import Idealize.ShloMosaic.Lib.Pipeline.RegionsLoop
public import Idealize.ShloMosaic.Lib.Pipeline.Frame
public import Idealize.ShloMosaic.Lib.StableHlo.Run

@[expose] public section

noncomputable section

namespace Cert.Proof.Tiles

open Cert.KernelIdeal Cert.KernelIdeal.Gen Cert.Proof.Words

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe
open Idealize.ShloMosaic.Pipeline (Dat Cfg ucRefs)

variable {F : FTy → Type} [FloatOps F]

local notation "𝕄" => MT nD τ sig (HIx 1) (Elt F) ℕ UU ℕ

/-- What the device owes before SparseCore call `n`, its recorded waits all below that call. -/
def owesN (d : Dev nD) (n : ℕ) : sProp 𝕄 :=
  iprop(∃ W, ⌜(K (F := F)).WBelow (T d) W (8 * n)⌝ ∗ owes (T d) ((K (F := F)).Otc d n) W)

/-- The proof data of a call entered at valuation `V`: its arrays at `V`, what the body leaves in each staging buffer
    given by `after`, nothing kept between the points but the buffers no window stages. -/
def datOf {cfg : Cfg sig Λ₀} (c : Dev nD) (n : ℕ) (V : Valuation τ sig (Elt F))
    (after : (w : Fin cfg.W) → Fin cfg.N → (cfg.win w).block.Idx → Elt F (cfg.win w).elt) : Dat τ (Elt F) (HIx 1) ℕ UU ℕ cfg c where
  A w := V (Pipeline.arrRef cfg.spec w)
  after := after
  Φ _ := Pipeline.scopedRest cfg.spec c
  q _ := fullShare
  owed _ := (K (F := F)).Otc c n
  recorded _ := {p | (K (F := F)).lev (T c, p.1) p.2 ≤ 8 * n}

/-- What the bodies leave in the staging buffers, over the four calls. -/
abbrev Aft (F : FTy → Type) [FloatOps F] : Type := (p : Fin 4) → Dev nD → (w : Fin (pipes (F := F) p).W) → Fin (pipes (F := F) p).N → ((pipes (F := F) p).win w).block.Idx → Elt F ((pipes (F := F) p).win w).elt

def pdatsOf (n : ℕ) (V : Dev nD → Valuation τ sig (Elt F)) (aft : Aft F) :
    (p : Fin 4) → (c : Dev nD) → Dat τ (Elt F) (HIx 1) ℕ UU ℕ (pipes (F := F) p) c :=
  fun p c => datOf c n (V c) (aft p c)

theorem otc_none (c : Dev nD) (n : ℕ) (g : GSem nD τ sig) : (K (F := F)).Otc (N := 1) c n g none = 0 := by
  by_contra h
  have := SparseCore.Cfg.lev_of_Otc_pos (K := K (F := F)) (Nat.pos_of_ne_zero h)
  have h0 : (K (F := F)).lev g (none : HIx 1) = 0 := rfl
  rw [h0] at this
  exact absurd this (by omega)

set_option backward.isDefEq.respectTransparency.types false in
/-- The call as a region: in and out at a valuation of every unscoped buffer. -/
def regOf (p : Fin 4) (L : Pipeline.LaunchFacts (nD := nD) (τ := τ) cfgs p) (n : ℕ) (V Vp : Dev nD → Valuation τ sig (Elt F)) (aft : Aft F)
    (hbody : ∀ c, Pipeline.BodyObligationLoose (pdatsOf n V aft p c) (defs₀ (F := F)) 𝒱₀ none Set.univ)
    (hF : ∀ c w, (pdatsOf n V aft p c).arrAt w (pipes (F := F) p).N = Vp c (Pipeline.arrRef (pipes (F := F) p).spec w))
    (hne : ∀ c (b : Ref sig .tc), b ∉ Finset.univ.image (Pipeline.arrRef (pipes (F := F) p).spec) → Vp c b = V c b) :
    Pipeline.RegionSeg (pcfgs (F := F)) adm (pdatsOf n V aft) none (defs₀ (F := F)) 𝒱₀ (K (F := F)).L (K (F := F)).lev p where
  win := (L.toP (Val := Elt F)).win.to₀
  block_pos := (L.toP (Val := Elt F)).block_pos
  stage_whole := (L.toP (Val := Elt F)).stage_whole
  K := PEmpty
  osem k := k.elim
  ho := Pipeline.OwnSemFacts.none _
  hbody := hbody
  hwaits c := Pipeline.cellsWaits_intro _ _ _ _ _ fun w s t => (K (F := F)).mayWait_none _ (otc_none c n)
  pre c := iprop(StableHlo.held (T c) (ucRefs τ sig) (V c) ∗ owesN c n)
  post c := iprop(StableHlo.held (T c) (ucRefs τ sig) (Vp c) ∗ owesN c n)
  X _ := BI.emp
  Y _ := BI.emp
  Z c := Pipeline.unscopedRest (Ix := HIx 1) (Name := ℕ) (U := UU) (Lvl := ℕ) (pipes (F := F) p).spec c (fun b => V c b)
  hentry c := by
    rw [Pipeline.ownSems0_none, ← Pipeline.unscopedBufs_held]
    have hsplit := Pipeline.arrays_of_unscopedBufs (p := p) (pcfgs (F := F)) adm (pdatsOf n V aft) (L.toP (Val := Elt F)).win (L.toP (Val := Elt F)).arr_whole c
      ((pdatsOf n V aft p c).share_full fun _ => rfl) (fun b => V c b) fun _ => rfl
    iintro ⟨⟨Hub, HO⟩, -, -⟩
    ihave H := hsplit $$ Hub
    icases H with ⟨Ha, Hrest⟩
    imodintro
    isplitl [Ha]; · iexact Ha
    isplitr; · rw [Pipeline.prefHeld_of_none _ rfl]; iempintro
    isplitl [HO]
    · unfold owesN Pipeline.Dat.owesAt Pipeline.owesWithin
      icases HO with ⟨%W, %hW, HO⟩; iexists W; isplitr; · ipureintro; exact fun x hx => Or.inl (hW x hx)
      iexact HO
    isplitr; · iempintro
    iexact Hrest
  hin c := by
    rw [show (pdatsOf n V aft p c).Φ 0 = Pipeline.scopedRest (pipes (F := F) p).spec c from rfl]
    iintro ⟨-, -, Hr⟩; iexact Hr
  hout c := by
    rw [Pipeline.ownSems0_none, show (pdatsOf n V aft p c).Φ (Fin.last _) = Pipeline.scopedRest (pipes (F := F) p).spec c from rfl]
    iintro Hr
    isplitr; · iempintro
    isplitr; · iempintro
    iexact Hr
  hexit c := by
    rw [← Pipeline.unscopedBufs_held]
    have hjoin := Pipeline.unscopedBufs_of_arrays (p := p) (pcfgs (F := F)) adm (Ix := HIx 1) (Name := ℕ) (U := UU) (Lvl := ℕ) (L.toP (Val := Elt F)).win (L.toP (Val := Elt F)).arr_whole c
      (pdatsOf n V aft) ((pdatsOf n V aft p c).share_full fun _ => rfl) (fun b => V c b) (fun b => Vp c b) ((pdatsOf n V aft p c).arrAt · (pipes (F := F) p).N)
      (hF c) (hne c)
    iintro ⟨Ha, HO, -, Hrest⟩
    imodintro
    isplitl [Ha Hrest]
    · iapply hjoin; isplitl [Ha] <;> iassumption
    unfold owesN Pipeline.Dat.owesAt Pipeline.owesWithin
    icases HO with ⟨%W, %hW, HO⟩; iexists W; isplitr
    · ipureintro
      intro x hx
      rcases hW hx with h | ⟨w, s, rfl⟩
      · exact h
      · exact Nat.zero_le _
    iexact HO

/-- The call, run in the program. -/
theorem wp_call [∀ e, Nonempty (Elt F e)] (p : Fin 4) (L : Pipeline.LaunchFacts (nD := nD) (τ := τ) cfgs p) (n : ℕ) (V Vp : Dev nD → Valuation τ sig (Elt F)) (aft : Aft F)
    (hbody : ∀ c, Pipeline.BodyObligationLoose (pdatsOf n V aft p c) (defs₀ (F := F)) 𝒱₀ none Set.univ)
    (hF : ∀ c w, (pdatsOf n V aft p c).arrAt w (pipes (F := F) p).N = Vp c (Pipeline.arrRef (pipes (F := F) p).spec w))
    (hne : ∀ c (b : Ref sig .tc), b ∉ Finset.univ.image (Pipeline.arrRef (pipes (F := F) p).spec) → Vp c b = V c b)
    (d : Dev nD) (Q : PUnit → sProp 𝕄) :
    iprop(levAts (K (F := F)).L (K (F := F)).lev ∗ boundary (T d) ∗ StableHlo.held (T d) (ucRefs τ sig) (V d) ∗ owesN d n
        ∗ Pipeline.cellsGhost (pipes (F := F)) EP p d ∗ Pipeline.toksInit (pipes (F := F)) EP p d
        ∗ (iprop(boundary (T d) ∗ StableHlo.held (T d) (ucRefs τ sig) (Vp d) ∗ owesN d n) -∗ Q ⟨⟩))
      ⊢ wp frame (wpE ((K (F := F)).defs (D (F := F))) 𝒱 (T d) none) Set.univ
          (Prog.lift (.customCall (SparseCore.inner (Pipeline.entry p)) ())) Q := by
  have hwp := (regOf p L n V Vp aft hbody hF hne).wp (pcfgs (F := F)) adm (pdatsOf n V aft) none pipes_inj EP (defs₀ (F := F)) 𝒱₀ (K (F := F)).L (K (F := F)).lev d none
    (fun u hu => nomatch hu) (fun u => .ret u) Q
  refine BIBase.Entails.trans ?_ (BIBase.Entails.trans hwp ((K (F := F)).wp_liftProg (D (F := F)) 𝒱 (T d) Set.univ none (.op (.customCall (Pipeline.entry p) ()) fun u => .ret u) Q))
  rw [show (regOf p L n V Vp aft hbody hF hne).post d = iprop(StableHlo.held (T d) (ucRefs τ sig) (Vp d) ∗ owesN d n) from rfl,
    show (regOf p L n V Vp aft hbody hF hne).pre d = iprop(StableHlo.held (T d) (ucRefs τ sig) (V d) ∗ owesN d n) from rfl]
  iintro ⟨Hla, Hb, Hh, HO, Hg, Ht, Hk⟩
  isplitl [Hk]
  · iintro ⟨Hb, Hh, HO⟩; rw [wp_ret]; imodintro; iapply Hk
    isplitl [Hb]; · iexact Hb
    isplitl [Hh]; · iexact Hh
    iexact HO
  isplitl [Hb]; · iexact Hb
  isplitl [Hh HO]; · isplitl [Hh]; · iexact Hh
                     iexact HO
  isplitl [Hla]; · iexact Hla
  isplitl [Hg] <;> iassumption

end Cert.Proof.Tiles
-- ==== Proof.Bodies.lean ====
/-
  What the bodies of the four TensorCore calls leave in their output blocks, from what their input blocks hold.
-/
module

public import proofs.«01_k».proof.Proof.Region
public import Idealize.ShloMosaic.Lib.Pipeline.Value
public import Idealize.ShloMosaic.Lib.Tactic
public import Idealize.ShloMosaic.Lib.ValueIdxCoords
public import Idealize.ShloMosaic.Lib.LaneScatter.Own

@[expose] public section

noncomputable section

namespace Cert.Proof.Tiles

open Cert.KernelIdeal Cert.KernelIdeal.Gen Cert.Proof.Words

open Idealize.ShloMosaic
open Idealize.ShloMosaic.ValueIdx (ix2)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe
open Idealize.ShloMosaic.Pipeline (Dat Cfg ucRefs)
open Idealize.ShloMosaic.LaneScatter (raw owns_raw raw_owns)

variable {F : FTy → Type} [FloatOps F]

local notation "𝕄" => MT nD τ sig (HIx 1) (Elt F) ℕ UU ℕ

/-- The rows of the weights each body reads. -/
abbrev wTop (X : Vec F S272x256 .f32) : Vec F S128x256 .f32 := View.ld X (Rect.unit (s := S272x256) ![0, 0] S128x256.size inb_S272x256_S128x256_0_0)
abbrev wMid (X : Vec F S272x256 .f32) : Vec F S128x256 .f32 := View.ld X (Rect.unit (s := S272x256) ![128, 0] S128x256.size inb_S272x256_S128x256_128_0)
abbrev wLow (X : Vec F S272x256 .f32) : Vec F S16x256 .f32 := View.ld X (Rect.unit (s := S272x256) ![256, 0] S16x256.size inb_S272x256_S16x256_256_0)

/-- The two rows of statistics an accumulator keeps. -/
abbrev row0 (X : Vec F S8x256 .f32) : Vec F S1x256 .f32 := View.ld X (Rect.unit (s := S8x256) ![0, 0] S1x256.size inb_S8x256_S1x256_0_0)
abbrev row1 (X : Vec F S8x256 .f32) : Vec F S1x256 .f32 := View.ld X (Rect.unit (s := S8x256) ![1, 0] S1x256.size inb_S8x256_S1x256_1_0)
abbrev hrow0 (X : Vec F S8x128 .f32) : Vec F S1x128 .f32 := View.ld X (Rect.unit (s := S8x128) ![0, 0] S1x128.size inb_S8x128_S1x128_0_0)
abbrev hrow1 (X : Vec F S8x128 .f32) : Vec F S1x128 .f32 := View.ld X (Rect.unit (s := S8x128) ![1, 0] S1x128.size inb_S8x128_S1x128_1_0)

/-- An accumulator with its first two rows replaced. -/
def setRows (X : Vec F S8x256 .f32) (P0 P1 : Vec F S1x256 .f32) : Vec F S8x256 .f32 := fun y =>
  if (y 0).val = 0 then P0 (ix2 0 (y 1)) else if (y 0).val = 1 then P1 (ix2 0 (y 1)) else X y
def hsetRows (X : Vec F S8x128 .f32) (P0 P1 : Vec F S1x128 .f32) : Vec F S8x128 .f32 := fun y =>
  if (y 0).val = 0 then P0 (ix2 0 (y 1)) else if (y 0).val = 1 then P1 (ix2 0 (y 1)) else X y

theorem z2 : (![0, 0] : Fin 2 → Nat) = fun _ => 0 := funext fun a => by fin_cases a <;> rfl

/-- Storing the two rows one after the other replaces them. -/
theorem read_rows (v : View sig .tc .vmem S8x256 .f32) (f : v.ty.Contents (Elt F)) (P0 P1 : Vec F S1x256 .f32) :
    v.read (Elt F) (v.writes (Elt F) f [⟨Rect.unit (s := S8x256) ![1, 0] S1x256.size inb_S8x256_S1x256_1_0, P1⟩, ⟨Rect.unit (s := S8x256) ![0, 0] S1x256.size inb_S8x256_S1x256_0_0, P0⟩]) = setRows (v.read (Elt F) f) P0 P1 := by
  funext y
  unfold setRows
  by_cases h0 : (y 0).val = 0
  · rw [if_pos h0]
    have hy : y ∉ (Rect.unit (s := S8x256) ![1, 0] S1x256.size inb_S8x256_S1x256_1_0).set := by
      rw [Rect.mem_set_unit]; intro h; have := (h 0).1; change 1 ≤ (y 0).val at this; omega
    have hy' : y ∉ Finset.univ.map (Rect.unit (s := S8x256) ![1, 0] S1x256.size inb_S8x256_S1x256_1_0).emb := by rwa [Rect.map_emb_univ]
    have e : (Rect.unit (s := S8x256) ![0, 0] S1x256.size inb_S8x256_S1x256_0_0).emb (ix2 0 (y 1)) = y := by
      funext a; apply Fin.ext; match a with
      | ⟨0, _⟩ => show 0 + 1 * 0 = (y 0).val; omega
      | ⟨1, _⟩ => show 0 + 1 * (y 1).val = (y 1).val; omega
    rw [View.writes_cons, View.read_slice_write_of_not_mem _ _ _ _ hy']
    conv_lhs => rw [← e]
    rw [View.read_writes_cons_emb]
  · rw [if_neg h0]
    by_cases h1 : (y 0).val = 1
    · rw [if_pos h1]
      have e : (Rect.unit (s := S8x256) ![1, 0] S1x256.size inb_S8x256_S1x256_1_0).emb (ix2 0 (y 1)) = y := by
        funext a; apply Fin.ext; match a with
        | ⟨0, _⟩ => show 1 + 1 * 0 = (y 0).val; omega
        | ⟨1, _⟩ => show 0 + 1 * (y 1).val = (y 1).val; omega
      conv_lhs => rw [← e]
      rw [View.read_writes_cons_emb]
    · rw [if_neg h1]
      have hy : y ∉ (Rect.unit (s := S8x256) ![1, 0] S1x256.size inb_S8x256_S1x256_1_0).set := by
        rw [Rect.mem_set_unit]; intro h; have q1 := (h 0).2; have q2 := (h 0).1; change (y 0).val < 1 + 1 at q1; change 1 ≤ (y 0).val at q2; omega
      have hz : y ∉ (Rect.unit (s := S8x256) ![0, 0] S1x256.size inb_S8x256_S1x256_0_0).set := by
        rw [Rect.mem_set_unit]; intro h; have := (h 0).2; change (y 0).val < 0 + 1 at this; omega
      have hy' : y ∉ Finset.univ.map (Rect.unit (s := S8x256) ![1, 0] S1x256.size inb_S8x256_S1x256_1_0).emb := by rwa [Rect.map_emb_univ]
      have hz' : y ∉ Finset.univ.map (Rect.unit (s := S8x256) ![0, 0] S1x256.size inb_S8x256_S1x256_0_0).emb := by rwa [Rect.map_emb_univ]
      rw [View.writes_cons, View.read_slice_write_of_not_mem _ _ _ _ hy', View.writes_cons, View.read_slice_write_of_not_mem _ _ _ _ hz', View.writes_nil]

theorem read_whole (v : View sig .tc .vmem S8x256 .f32) (Z : Vec F S8x256 .f32) :
    v.read (Elt F) (v.writes (Elt F) v.junk [⟨Rect.unit (s := S8x256) ![0, 0] S8x256.size inb_S8x256_S8x256_0_0, Z⟩]) = Z := by
  rw [View.read_writes_junk_eq_canon, View.canon_unit_zero z2]

/-- After a whole store, the two rows replaced. -/
theorem read_rows_whole (v : View sig .tc .vmem S8x256 .f32) (Z : Vec F S8x256 .f32) (P0 P1 : Vec F S1x256 .f32) :
    v.read (Elt F) (v.writes (Elt F) v.junk [⟨Rect.unit (s := S8x256) ![1, 0] S1x256.size inb_S8x256_S1x256_1_0, P1⟩, ⟨Rect.unit (s := S8x256) ![0, 0] S1x256.size inb_S8x256_S1x256_0_0, P0⟩, ⟨Rect.unit (s := S8x256) ![0, 0] S8x256.size inb_S8x256_S8x256_0_0, Z⟩]) = setRows Z P0 P1 :=
  (read_rows v (v.writes (Elt F) v.junk [⟨Rect.unit (s := S8x256) ![0, 0] S8x256.size inb_S8x256_S8x256_0_0, Z⟩]) P0 P1).trans (by rw [read_whole])

theorem cov_row0 (v : View sig .tc .vmem S8x256 .f32) (Z : Vec F S8x256 .f32) :
    v.readCov (Val := Elt F) [⟨Rect.unit (s := S8x256) ![0, 0] S8x256.size inb_S8x256_S8x256_0_0, Z⟩] (Rect.unit (s := S8x256) ![0, 0] S1x256.size inb_S8x256_S1x256_0_0).toLoadRect = row0 Z := by
  rw [View.readCov_eq_canon', View.canon_unit_zero z2]; rfl

theorem cov_row1 (v : View sig .tc .vmem S8x256 .f32) (Z : Vec F S8x256 .f32) (P0 : Vec F S1x256 .f32) :
    v.readCov (Val := Elt F) [⟨Rect.unit (s := S8x256) ![0, 0] S1x256.size inb_S8x256_S1x256_0_0, P0⟩, ⟨Rect.unit (s := S8x256) ![0, 0] S8x256.size inb_S8x256_S8x256_0_0, Z⟩] (Rect.unit (s := S8x256) ![1, 0] S1x256.size inb_S8x256_S1x256_1_0).toLoadRect = row1 Z := by
  rw [View.readCov_eq_canon']
  funext j
  have hy : (Rect.unit (s := S8x256) ![1, 0] S1x256.size inb_S8x256_S1x256_1_0).toLoadRect.idx j ∉ (Rect.unit (s := S8x256) ![0, 0] S1x256.size inb_S8x256_S1x256_0_0).set := by
    rw [Rect.mem_set_unit]; intro h; have := (h 0).2
    exact absurd this (by show ¬ (1 + 1 * (j 0).val < 0 + 1); omega)
  rw [View.canon_cons_of_not_mem _ _ hy, View.canon_unit_zero z2]

/-- Storing the two rows one after the other replaces them. -/
theorem hread_rows (v : View sig .tc .vmem S8x128 .f32) (f : v.ty.Contents (Elt F)) (P0 P1 : Vec F S1x128 .f32) :
    v.read (Elt F) (v.writes (Elt F) f [⟨Rect.unit (s := S8x128) ![1, 0] S1x128.size inb_S8x128_S1x128_1_0, P1⟩, ⟨Rect.unit (s := S8x128) ![0, 0] S1x128.size inb_S8x128_S1x128_0_0, P0⟩]) = hsetRows (v.read (Elt F) f) P0 P1 := by
  funext y
  unfold hsetRows
  by_cases h0 : (y 0).val = 0
  · rw [if_pos h0]
    have hy : y ∉ (Rect.unit (s := S8x128) ![1, 0] S1x128.size inb_S8x128_S1x128_1_0).set := by
      rw [Rect.mem_set_unit]; intro h; have := (h 0).1; change 1 ≤ (y 0).val at this; omega
    have hy' : y ∉ Finset.univ.map (Rect.unit (s := S8x128) ![1, 0] S1x128.size inb_S8x128_S1x128_1_0).emb := by rwa [Rect.map_emb_univ]
    have e : (Rect.unit (s := S8x128) ![0, 0] S1x128.size inb_S8x128_S1x128_0_0).emb (ix2 0 (y 1)) = y := by
      funext a; apply Fin.ext; match a with
      | ⟨0, _⟩ => show 0 + 1 * 0 = (y 0).val; omega
      | ⟨1, _⟩ => show 0 + 1 * (y 1).val = (y 1).val; omega
    rw [View.writes_cons, View.read_slice_write_of_not_mem _ _ _ _ hy']
    conv_lhs => rw [← e]
    rw [View.read_writes_cons_emb]
  · rw [if_neg h0]
    by_cases h1 : (y 0).val = 1
    · rw [if_pos h1]
      have e : (Rect.unit (s := S8x128) ![1, 0] S1x128.size inb_S8x128_S1x128_1_0).emb (ix2 0 (y 1)) = y := by
        funext a; apply Fin.ext; match a with
        | ⟨0, _⟩ => show 1 + 1 * 0 = (y 0).val; omega
        | ⟨1, _⟩ => show 0 + 1 * (y 1).val = (y 1).val; omega
      conv_lhs => rw [← e]
      rw [View.read_writes_cons_emb]
    · rw [if_neg h1]
      have hy : y ∉ (Rect.unit (s := S8x128) ![1, 0] S1x128.size inb_S8x128_S1x128_1_0).set := by
        rw [Rect.mem_set_unit]; intro h; have q1 := (h 0).2; have q2 := (h 0).1; change (y 0).val < 1 + 1 at q1; change 1 ≤ (y 0).val at q2; omega
      have hz : y ∉ (Rect.unit (s := S8x128) ![0, 0] S1x128.size inb_S8x128_S1x128_0_0).set := by
        rw [Rect.mem_set_unit]; intro h; have := (h 0).2; change (y 0).val < 0 + 1 at this; omega
      have hy' : y ∉ Finset.univ.map (Rect.unit (s := S8x128) ![1, 0] S1x128.size inb_S8x128_S1x128_1_0).emb := by rwa [Rect.map_emb_univ]
      have hz' : y ∉ Finset.univ.map (Rect.unit (s := S8x128) ![0, 0] S1x128.size inb_S8x128_S1x128_0_0).emb := by rwa [Rect.map_emb_univ]
      rw [View.writes_cons, View.read_slice_write_of_not_mem _ _ _ _ hy', View.writes_cons, View.read_slice_write_of_not_mem _ _ _ _ hz', View.writes_nil]

theorem hread_whole (v : View sig .tc .vmem S8x128 .f32) (Z : Vec F S8x128 .f32) :
    v.read (Elt F) (v.writes (Elt F) v.junk [⟨Rect.unit (s := S8x128) ![0, 0] S8x128.size inb_S8x128_S8x128_0_0, Z⟩]) = Z := by
  rw [View.read_writes_junk_eq_canon, View.canon_unit_zero z2]

/-- After a whole store, the two rows replaced. -/
theorem hread_rows_whole (v : View sig .tc .vmem S8x128 .f32) (Z : Vec F S8x128 .f32) (P0 P1 : Vec F S1x128 .f32) :
    v.read (Elt F) (v.writes (Elt F) v.junk [⟨Rect.unit (s := S8x128) ![1, 0] S1x128.size inb_S8x128_S1x128_1_0, P1⟩, ⟨Rect.unit (s := S8x128) ![0, 0] S1x128.size inb_S8x128_S1x128_0_0, P0⟩, ⟨Rect.unit (s := S8x128) ![0, 0] S8x128.size inb_S8x128_S8x128_0_0, Z⟩]) = hsetRows Z P0 P1 :=
  (hread_rows v (v.writes (Elt F) v.junk [⟨Rect.unit (s := S8x128) ![0, 0] S8x128.size inb_S8x128_S8x128_0_0, Z⟩]) P0 P1).trans (by rw [hread_whole])

theorem hcov_row0 (v : View sig .tc .vmem S8x128 .f32) (Z : Vec F S8x128 .f32) :
    v.readCov (Val := Elt F) [⟨Rect.unit (s := S8x128) ![0, 0] S8x128.size inb_S8x128_S8x128_0_0, Z⟩] (Rect.unit (s := S8x128) ![0, 0] S1x128.size inb_S8x128_S1x128_0_0).toLoadRect = hrow0 Z := by
  rw [View.readCov_eq_canon', View.canon_unit_zero z2]; rfl

theorem hcov_row1 (v : View sig .tc .vmem S8x128 .f32) (Z : Vec F S8x128 .f32) (P0 : Vec F S1x128 .f32) :
    v.readCov (Val := Elt F) [⟨Rect.unit (s := S8x128) ![0, 0] S1x128.size inb_S8x128_S1x128_0_0, P0⟩, ⟨Rect.unit (s := S8x128) ![0, 0] S8x128.size inb_S8x128_S8x128_0_0, Z⟩] (Rect.unit (s := S8x128) ![1, 0] S1x128.size inb_S8x128_S1x128_1_0).toLoadRect = hrow1 Z := by
  rw [View.readCov_eq_canon']
  funext j
  have hy : (Rect.unit (s := S8x128) ![1, 0] S1x128.size inb_S8x128_S1x128_1_0).toLoadRect.idx j ∉ (Rect.unit (s := S8x128) ![0, 0] S1x128.size inb_S8x128_S1x128_0_0).set := by
    rw [Rect.mem_set_unit]; intro h; have := (h 0).2
    exact absurd this (by show ¬ (1 + 1 * (j 0).val < 0 + 1); omega)
  rw [View.canon_cons_of_not_mem _ _ hy, View.canon_unit_zero z2]

set_option maxHeartbeats 4000000 in
/-- The projection of the atoms: one product and a bias. -/
theorem body0 (c : Dev nD) (i : grid0.Coords)
    (M1 : Memref sig .tc .vmem S1000x128 .f32) (h1 : M1.IsWhole)
    (M2 : Memref sig .tc .vmem S272x256 .f32) (h2 : M2.IsWhole)
    (M3 : Memref sig .tc .vmem S1x256 .f32) (h3 : M3.IsWhole)
    (M4 : Memref sig .tc .vmem S1000x256 .f32) (h4 : M4.IsWhole)
    (X1 : Vec F S1000x128 .f32) (X2 : Vec F S272x256 .f32) (X3 : Vec F S1x256 .f32) (X4 : Vec F S1000x256 .f32)
    (E : Set ℕ) (Q : PUnit → sProp 𝕄) :
    iprop(owns (c : Thread nD τ) M1 fullShare X1 ∗ owns (c : Thread nD τ) M2 fullShare X2 ∗ owns (c : Thread nD τ) M3 fullShare X3 ∗ owns (c : Thread nD τ) M4 fullShare X4
        ∗ (iprop(owns (c : Thread nD τ) M1 fullShare X1 ∗ owns (c : Thread nD τ) M2 fullShare X2 ∗ owns (c : Thread nD τ) M3 fullShare X3 ∗ owns (c : Thread nD τ) M4 fullShare (k0_pay1 (wTop X2) X1 X3)) -∗ Q ⟨⟩))
      ⊢ wp frame (wpE (defs₀ (F := F)) 𝒱₀ c none) E (cc0_body i M1 h1 M2 h2 M3 h3 M4 h4) Q := by
  iintro ⟨H1, H2, H3, H4, Hk⟩
  ihave H1 := (owns_raw (c : Thread nD τ) M1 h1 X1) $$ H1
  ihave H2 := (owns_raw (c : Thread nD τ) M2 h2 X2) $$ H2
  ihave H3 := (owns_raw (c : Thread nD τ) M3 h3 X3) $$ H3
  ihave H4 := (owns_raw (c : Thread nD τ) M4 h4 X4) $$ H4
  sl_exec!
  sl_step
  iapply Hk
  isplitl [H1]; · iapply (raw_owns (c : Thread nD τ) M1 (h1.read_unread X1)); iexact H1
  isplitl [H2]; · iapply (raw_owns (c : Thread nD τ) M2 (h2.read_unread X2)); iexact H2
  isplitl [H3]; · iapply (raw_owns (c : Thread nD τ) M3 (h3.read_unread X3)); iexact H3
  unfold owns; iexists _; isplitr; swap; (· iexact H4)
  ipureintro
  sl_unfold_words
  rw [View.read_writes_junk_eq_canon, View.canon_cons_unit_zero z2]
  simp only [View.readAt_eq_ld, h1.read_unread, h2.read_unread, h3.read_unread, h4.read_unread, View.ld_unit_zero (S := S1000x128) z2, View.ld_unit_zero (S := S272x256) z2, View.ld_unit_zero (S := S1x256) z2, View.ld_unit_zero (S := S1000x256) z2]

set_option maxHeartbeats 4000000 in
/-- The last call: the second batch norm, the residual and the softplus. -/
theorem body4 (c : Dev nD) (i : grid4.Coords)
    (M1 : Memref sig .tc .vmem S1000x128 .f32) (h1 : M1.IsWhole)
    (M2 : Memref sig .tc .vmem S1000x128 .f32) (h2 : M2.IsWhole)
    (M3 : Memref sig .tc .vmem S8x128 .f32) (h3 : M3.IsWhole)
    (M4 : Memref sig .tc .vmem S1x128 .f32) (h4 : M4.IsWhole)
    (M5 : Memref sig .tc .vmem S1x128 .f32) (h5 : M5.IsWhole)
    (M6 : Memref sig .tc .vmem S1000x128 .f32) (h6 : M6.IsWhole)
    (X1 : Vec F S1000x128 .f32) (X2 : Vec F S1000x128 .f32) (X3 : Vec F S8x128 .f32) (X4 : Vec F S1x128 .f32) (X5 : Vec F S1x128 .f32) (X6 : Vec F S1000x128 .f32)
    (E : Set ℕ) (Q : PUnit → sProp 𝕄) :
    iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6
        ∗ (iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare (k4_pay1 (k4_pay4 X3 X4 X5 X1 X2) (k4_pay5 X3 X4 X5 X1 X2) (k4_pay6 X3 X4 X5 X1 X2))) -∗ Q ⟨⟩))
      ⊢ wp frame (wpE (defs₀ (F := F)) 𝒱₀ c none) E (cc4_body i M1 h1 M2 h2 M3 h3 M4 h4 M5 h5 M6 h6) Q := by
  iintro ⟨H1, H2, H3, H4, H5, H6, Hk⟩
  ihave H1 := (owns_raw (c : Thread nD τ) M1 h1 X1) $$ H1
  ihave H2 := (owns_raw (c : Thread nD τ) M2 h2 X2) $$ H2
  ihave H3 := (owns_raw (c : Thread nD τ) M3 h3 X3) $$ H3
  ihave H4 := (owns_raw (c : Thread nD τ) M4 h4 X4) $$ H4
  ihave H5 := (owns_raw (c : Thread nD τ) M5 h5 X5) $$ H5
  ihave H6 := (owns_raw (c : Thread nD τ) M6 h6 X6) $$ H6
  sl_exec!
  sl_step
  iapply Hk
  isplitl [H1]; · iapply (raw_owns (c : Thread nD τ) M1 (h1.read_unread X1)); iexact H1
  isplitl [H2]; · iapply (raw_owns (c : Thread nD τ) M2 (h2.read_unread X2)); iexact H2
  isplitl [H3]; · iapply (raw_owns (c : Thread nD τ) M3 (h3.read_unread X3)); iexact H3
  isplitl [H4]; · iapply (raw_owns (c : Thread nD τ) M4 (h4.read_unread X4)); iexact H4
  isplitl [H5]; · iapply (raw_owns (c : Thread nD τ) M5 (h5.read_unread X5)); iexact H5
  unfold owns; iexists _; isplitr; swap; (· iexact H6)
  ipureintro
  sl_unfold_words
  rw [View.read_writes_junk_eq_canon, View.canon_cons_unit_zero z2]
  simp only [View.readAt_eq_ld, h1.read_unread, h2.read_unread, h3.read_unread, h4.read_unread, h5.read_unread, h6.read_unread, View.ld_unit_zero (S := S1000x128) z2, View.ld_unit_zero (S := S8x128) z2, View.ld_unit_zero (S := S1x128) z2]

set_option maxHeartbeats 4000000 in
/-- The statistics pass at a later point: the point's sums added to the two rows. -/
theorem body2 (c : Dev nD) (i : grid2.Coords) (hc : ¬Scalar.cmpi .ne (Scalar.extui (Scalar.cmpi .eq (BitVec.ofNat 32 (i 0).val) 0#32)) 0#32 = 1#1)
    (M1 : Memref sig .tc .vmem S6400x128 .f32) (h1 : M1.IsWhole)
    (M2 : Memref sig .tc .vmem S6400x16 .f32) (h2 : M2.IsWhole)
    (M3 : Memref sig .tc .vmem S200x256 .f32) (h3 : M3.IsWhole)
    (M4 : Memref sig .tc .vmem S272x256 .f32) (h4 : M4.IsWhole)
    (M5 : Memref sig .tc .vmem S8x256 .f32) (h5 : M5.IsWhole)
    (X1 : Vec F S6400x128 .f32) (X2 : Vec F S6400x16 .f32) (X3 : Vec F S200x256 .f32) (X4 : Vec F S272x256 .f32) (X5 : Vec F S8x256 .f32)
    (E : Set ℕ) (Q : PUnit → sProp 𝕄) :
    iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5
        ∗ (iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare (setRows X5 (k2_pay3 (wMid X4) (wLow X4) X1 X2 X3 (row0 X5)) (k2_pay4 (wMid X4) (wLow X4) X1 X2 X3 (row1 X5)))) -∗ Q ⟨⟩))
      ⊢ wp frame (wpE (defs₀ (F := F)) 𝒱₀ c none) E (cc2_body i M1 h1 M2 h2 M3 h3 M4 h4 M5 h5) Q := by
  iintro ⟨H1, H2, H3, H4, H5, Hk⟩
  ihave H1 := (owns_raw (c : Thread nD τ) M1 h1 X1) $$ H1
  ihave H2 := (owns_raw (c : Thread nD τ) M2 h2 X2) $$ H2
  ihave H3 := (owns_raw (c : Thread nD τ) M3 h3 X3) $$ H3
  ihave H4 := (owns_raw (c : Thread nD τ) M4 h4 X4) $$ H4
  ihave H5 := (owns_raw (c : Thread nD τ) M5 h5 X5) $$ H5
  sl_exec!
  sl_step
  iapply Hk
  isplitl [H1]; · iapply (raw_owns (c : Thread nD τ) M1 (h1.read_unread X1)); iexact H1
  isplitl [H2]; · iapply (raw_owns (c : Thread nD τ) M2 (h2.read_unread X2)); iexact H2
  isplitl [H3]; · iapply (raw_owns (c : Thread nD τ) M3 (h3.read_unread X3)); iexact H3
  isplitl [H4]; · iapply (raw_owns (c : Thread nD τ) M4 (h4.read_unread X4)); iexact H4
  unfold owns; iexists _; isplitr; swap; (· iexact H5)
  ipureintro
  sl_unfold_words
  rw [read_rows]
  simp only [View.readAt_eq_ld, h1.read_unread, h2.read_unread, h3.read_unread, h4.read_unread, h5.read_unread, View.ld_unit_zero (S := S6400x128) z2, View.ld_unit_zero (S := S6400x16) z2, View.ld_unit_zero (S := S200x256) z2, View.ld_unit_zero (S := S272x256) z2, View.ld_unit_zero (S := S8x256) z2]

set_option maxHeartbeats 4000000 in
/-- The statistics pass at the first point: the rows start at zero. -/
theorem body2z (c : Dev nD) (i : grid2.Coords) (hc : Scalar.cmpi .ne (Scalar.extui (Scalar.cmpi .eq (BitVec.ofNat 32 (i 0).val) 0#32)) 0#32 = 1#1)
    (M1 : Memref sig .tc .vmem S6400x128 .f32) (h1 : M1.IsWhole)
    (M2 : Memref sig .tc .vmem S6400x16 .f32) (h2 : M2.IsWhole)
    (M3 : Memref sig .tc .vmem S200x256 .f32) (h3 : M3.IsWhole)
    (M4 : Memref sig .tc .vmem S272x256 .f32) (h4 : M4.IsWhole)
    (M5 : Memref sig .tc .vmem S8x256 .f32) (h5 : M5.IsWhole)
    (X1 : Vec F S6400x128 .f32) (X2 : Vec F S6400x16 .f32) (X3 : Vec F S200x256 .f32) (X4 : Vec F S272x256 .f32) (X5 : Vec F S8x256 .f32)
    (E : Set ℕ) (Q : PUnit → sProp 𝕄) :
    iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5
        ∗ (iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare (setRows k2_pay2 (k2_pay3 (wMid X4) (wLow X4) X1 X2 X3 (row0 k2_pay2)) (k2_pay4 (wMid X4) (wLow X4) X1 X2 X3 (row1 k2_pay2)))) -∗ Q ⟨⟩))
      ⊢ wp frame (wpE (defs₀ (F := F)) 𝒱₀ c none) E (cc2_body i M1 h1 M2 h2 M3 h3 M4 h4 M5 h5) Q := by
  iintro ⟨H1, H2, H3, H4, H5, Hk⟩
  ihave H1 := (owns_raw (c : Thread nD τ) M1 h1 X1) $$ H1
  ihave H2 := (owns_raw (c : Thread nD τ) M2 h2 X2) $$ H2
  ihave H3 := (owns_raw (c : Thread nD τ) M3 h3 X3) $$ H3
  ihave H4 := (owns_raw (c : Thread nD τ) M4 h4 X4) $$ H4
  ihave H5 := (owns_raw (c : Thread nD τ) M5 h5 X5) $$ H5
  sl_exec!
  sl_step
  iapply Hk
  isplitl [H1]; · iapply (raw_owns (c : Thread nD τ) M1 (h1.read_unread X1)); iexact H1
  isplitl [H2]; · iapply (raw_owns (c : Thread nD τ) M2 (h2.read_unread X2)); iexact H2
  isplitl [H3]; · iapply (raw_owns (c : Thread nD τ) M3 (h3.read_unread X3)); iexact H3
  isplitl [H4]; · iapply (raw_owns (c : Thread nD τ) M4 (h4.read_unread X4)); iexact H4
  unfold owns; iexists _; isplitr; swap; (· iexact H5)
  ipureintro
  sl_unfold_words
  rw [read_rows_whole, cov_row1, cov_row0]
  simp only [View.readAt_eq_ld, h1.read_unread, h2.read_unread, h3.read_unread, h4.read_unread, h5.read_unread, View.ld_unit_zero (S := S6400x128) z2, View.ld_unit_zero (S := S6400x16) z2, View.ld_unit_zero (S := S200x256) z2, View.ld_unit_zero (S := S272x256) z2, View.ld_unit_zero (S := S8x256) z2]

set_option maxHeartbeats 4000000 in
/-- The gate pass at a later point: the summed messages, and their sums added to the two rows. -/
theorem body3 (c : Dev nD) (i : grid3.Coords) (hc : ¬Scalar.cmpi .ne (Scalar.extui (Scalar.cmpi .eq (BitVec.ofNat 32 (i 0).val) 0#32)) 0#32 = 1#1)
    (M1 : Memref sig .tc .vmem S6400x128 .f32) (h1 : M1.IsWhole)
    (M2 : Memref sig .tc .vmem S6400x16 .f32) (h2 : M2.IsWhole)
    (M3 : Memref sig .tc .vmem S200x256 .f32) (h3 : M3.IsWhole)
    (M4 : Memref sig .tc .vmem S272x256 .f32) (h4 : M4.IsWhole)
    (M5 : Memref sig .tc .vmem S8x256 .f32) (h5 : M5.IsWhole)
    (M6 : Memref sig .tc .vmem S1x256 .f32) (h6 : M6.IsWhole)
    (M7 : Memref sig .tc .vmem S1x256 .f32) (h7 : M7.IsWhole)
    (M8 : Memref sig .tc .vmem S200x128 .f32) (h8 : M8.IsWhole)
    (M9 : Memref sig .tc .vmem S8x128 .f32) (h9 : M9.IsWhole)
    (X1 : Vec F S6400x128 .f32) (X2 : Vec F S6400x16 .f32) (X3 : Vec F S200x256 .f32) (X4 : Vec F S272x256 .f32) (X5 : Vec F S8x256 .f32) (X6 : Vec F S1x256 .f32) (X7 : Vec F S1x256 .f32) (X8 : Vec F S200x128 .f32) (X9 : Vec F S8x128 .f32)
    (E : Set ℕ) (Q : PUnit → sProp 𝕄) :
    iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9
        ∗ (iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare (k3_pay7 (k3_pay4 X5 X6) (k3_pay5 X5 X6 X7) (k3_pay6 (wMid X4) (wLow X4) X1 X2) X3) ∗ owns (c : Thread nD τ) M9 fullShare (hsetRows X9 (k3_pay9 (k3_pay4 X5 X6) (k3_pay5 X5 X6 X7) (k3_pay6 (wMid X4) (wLow X4) X1 X2) X3 (hrow0 X9)) (k3_pay1 (k3_pay10 (hrow1 X9)) (k3_pay11 (k3_pay4 X5 X6) (k3_pay5 X5 X6 X7) (k3_pay6 (wMid X4) (wLow X4) X1 X2) X3)))) -∗ Q ⟨⟩))
      ⊢ wp frame (wpE (defs₀ (F := F)) 𝒱₀ c none) E (cc3_body i M1 h1 M2 h2 M3 h3 M4 h4 M5 h5 M6 h6 M7 h7 M8 h8 M9 h9) Q := by
  iintro ⟨H1, H2, H3, H4, H5, H6, H7, H8, H9, Hk⟩
  ihave H1 := (owns_raw (c : Thread nD τ) M1 h1 X1) $$ H1
  ihave H2 := (owns_raw (c : Thread nD τ) M2 h2 X2) $$ H2
  ihave H3 := (owns_raw (c : Thread nD τ) M3 h3 X3) $$ H3
  ihave H4 := (owns_raw (c : Thread nD τ) M4 h4 X4) $$ H4
  ihave H5 := (owns_raw (c : Thread nD τ) M5 h5 X5) $$ H5
  ihave H6 := (owns_raw (c : Thread nD τ) M6 h6 X6) $$ H6
  ihave H7 := (owns_raw (c : Thread nD τ) M7 h7 X7) $$ H7
  ihave H8 := (owns_raw (c : Thread nD τ) M8 h8 X8) $$ H8
  ihave H9 := (owns_raw (c : Thread nD τ) M9 h9 X9) $$ H9
  sl_exec!
  sl_step
  iapply Hk
  isplitl [H1]; · iapply (raw_owns (c : Thread nD τ) M1 (h1.read_unread X1)); iexact H1
  isplitl [H2]; · iapply (raw_owns (c : Thread nD τ) M2 (h2.read_unread X2)); iexact H2
  isplitl [H3]; · iapply (raw_owns (c : Thread nD τ) M3 (h3.read_unread X3)); iexact H3
  isplitl [H4]; · iapply (raw_owns (c : Thread nD τ) M4 (h4.read_unread X4)); iexact H4
  isplitl [H5]; · iapply (raw_owns (c : Thread nD τ) M5 (h5.read_unread X5)); iexact H5
  isplitl [H6]; · iapply (raw_owns (c : Thread nD τ) M6 (h6.read_unread X6)); iexact H6
  isplitl [H7]; · iapply (raw_owns (c : Thread nD τ) M7 (h7.read_unread X7)); iexact H7
  isplitl [H8]
  · unfold owns; iexists _; isplitr; swap; (· iexact H8)
    ipureintro
    sl_unfold_words
    rw [View.read_writes_junk_eq_canon, View.canon_cons_unit_zero z2]
    simp only [View.readAt_eq_ld, h1.read_unread, h2.read_unread, h3.read_unread, h4.read_unread, h5.read_unread, h6.read_unread, h7.read_unread, h8.read_unread, h9.read_unread, View.ld_unit_zero (S := S6400x128) z2, View.ld_unit_zero (S := S6400x16) z2, View.ld_unit_zero (S := S200x256) z2, View.ld_unit_zero (S := S272x256) z2, View.ld_unit_zero (S := S8x256) z2, View.ld_unit_zero (S := S1x256) z2, View.ld_unit_zero (S := S200x128) z2, View.ld_unit_zero (S := S8x128) z2]
  unfold owns; iexists _; isplitr; swap; (· iexact H9)
  ipureintro
  sl_unfold_words
  rw [hread_rows]
  simp only [View.readAt_eq_ld, h1.read_unread, h2.read_unread, h3.read_unread, h4.read_unread, h5.read_unread, h6.read_unread, h7.read_unread, h8.read_unread, h9.read_unread, View.ld_unit_zero (S := S6400x128) z2, View.ld_unit_zero (S := S6400x16) z2, View.ld_unit_zero (S := S200x256) z2, View.ld_unit_zero (S := S272x256) z2, View.ld_unit_zero (S := S8x256) z2, View.ld_unit_zero (S := S1x256) z2, View.ld_unit_zero (S := S200x128) z2, View.ld_unit_zero (S := S8x128) z2]

set_option maxHeartbeats 4000000 in
/-- The gate pass at the first point: the rows start at zero. -/
theorem body3z (c : Dev nD) (i : grid3.Coords) (hc : Scalar.cmpi .ne (Scalar.extui (Scalar.cmpi .eq (BitVec.ofNat 32 (i 0).val) 0#32)) 0#32 = 1#1)
    (M1 : Memref sig .tc .vmem S6400x128 .f32) (h1 : M1.IsWhole)
    (M2 : Memref sig .tc .vmem S6400x16 .f32) (h2 : M2.IsWhole)
    (M3 : Memref sig .tc .vmem S200x256 .f32) (h3 : M3.IsWhole)
    (M4 : Memref sig .tc .vmem S272x256 .f32) (h4 : M4.IsWhole)
    (M5 : Memref sig .tc .vmem S8x256 .f32) (h5 : M5.IsWhole)
    (M6 : Memref sig .tc .vmem S1x256 .f32) (h6 : M6.IsWhole)
    (M7 : Memref sig .tc .vmem S1x256 .f32) (h7 : M7.IsWhole)
    (M8 : Memref sig .tc .vmem S200x128 .f32) (h8 : M8.IsWhole)
    (M9 : Memref sig .tc .vmem S8x128 .f32) (h9 : M9.IsWhole)
    (X1 : Vec F S6400x128 .f32) (X2 : Vec F S6400x16 .f32) (X3 : Vec F S200x256 .f32) (X4 : Vec F S272x256 .f32) (X5 : Vec F S8x256 .f32) (X6 : Vec F S1x256 .f32) (X7 : Vec F S1x256 .f32) (X8 : Vec F S200x128 .f32) (X9 : Vec F S8x128 .f32)
    (E : Set ℕ) (Q : PUnit → sProp 𝕄) :
    iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9
        ∗ (iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare (k3_pay7 (k3_pay4 X5 X6) (k3_pay5 X5 X6 X7) (k3_pay6 (wMid X4) (wLow X4) X1 X2) X3) ∗ owns (c : Thread nD τ) M9 fullShare (hsetRows k3_pay8 (k3_pay9 (k3_pay4 X5 X6) (k3_pay5 X5 X6 X7) (k3_pay6 (wMid X4) (wLow X4) X1 X2) X3 (hrow0 k3_pay8)) (k3_pay1 (k3_pay10 (hrow1 k3_pay8)) (k3_pay11 (k3_pay4 X5 X6) (k3_pay5 X5 X6 X7) (k3_pay6 (wMid X4) (wLow X4) X1 X2) X3)))) -∗ Q ⟨⟩))
      ⊢ wp frame (wpE (defs₀ (F := F)) 𝒱₀ c none) E (cc3_body i M1 h1 M2 h2 M3 h3 M4 h4 M5 h5 M6 h6 M7 h7 M8 h8 M9 h9) Q := by
  iintro ⟨H1, H2, H3, H4, H5, H6, H7, H8, H9, Hk⟩
  ihave H1 := (owns_raw (c : Thread nD τ) M1 h1 X1) $$ H1
  ihave H2 := (owns_raw (c : Thread nD τ) M2 h2 X2) $$ H2
  ihave H3 := (owns_raw (c : Thread nD τ) M3 h3 X3) $$ H3
  ihave H4 := (owns_raw (c : Thread nD τ) M4 h4 X4) $$ H4
  ihave H5 := (owns_raw (c : Thread nD τ) M5 h5 X5) $$ H5
  ihave H6 := (owns_raw (c : Thread nD τ) M6 h6 X6) $$ H6
  ihave H7 := (owns_raw (c : Thread nD τ) M7 h7 X7) $$ H7
  ihave H8 := (owns_raw (c : Thread nD τ) M8 h8 X8) $$ H8
  ihave H9 := (owns_raw (c : Thread nD τ) M9 h9 X9) $$ H9
  sl_exec!
  sl_step
  iapply Hk
  isplitl [H1]; · iapply (raw_owns (c : Thread nD τ) M1 (h1.read_unread X1)); iexact H1
  isplitl [H2]; · iapply (raw_owns (c : Thread nD τ) M2 (h2.read_unread X2)); iexact H2
  isplitl [H3]; · iapply (raw_owns (c : Thread nD τ) M3 (h3.read_unread X3)); iexact H3
  isplitl [H4]; · iapply (raw_owns (c : Thread nD τ) M4 (h4.read_unread X4)); iexact H4
  isplitl [H5]; · iapply (raw_owns (c : Thread nD τ) M5 (h5.read_unread X5)); iexact H5
  isplitl [H6]; · iapply (raw_owns (c : Thread nD τ) M6 (h6.read_unread X6)); iexact H6
  isplitl [H7]; · iapply (raw_owns (c : Thread nD τ) M7 (h7.read_unread X7)); iexact H7
  isplitl [H8]
  · unfold owns; iexists _; isplitr; swap; (· iexact H8)
    ipureintro
    sl_unfold_words
    rw [View.read_writes_junk_eq_canon, View.canon_cons_unit_zero z2]
    simp only [View.readAt_eq_ld, h1.read_unread, h2.read_unread, h3.read_unread, h4.read_unread, h5.read_unread, h6.read_unread, h7.read_unread, h8.read_unread, h9.read_unread, View.ld_unit_zero (S := S6400x128) z2, View.ld_unit_zero (S := S6400x16) z2, View.ld_unit_zero (S := S200x256) z2, View.ld_unit_zero (S := S272x256) z2, View.ld_unit_zero (S := S8x256) z2, View.ld_unit_zero (S := S1x256) z2, View.ld_unit_zero (S := S200x128) z2, View.ld_unit_zero (S := S8x128) z2]
  unfold owns; iexists _; isplitr; swap; (· iexact H9)
  ipureintro
  sl_unfold_words
  rw [hread_rows_whole, hcov_row1, hcov_row0]
  simp only [View.readAt_eq_ld, h1.read_unread, h2.read_unread, h3.read_unread, h4.read_unread, h5.read_unread, h6.read_unread, h7.read_unread, h8.read_unread, h9.read_unread, View.ld_unit_zero (S := S6400x128) z2, View.ld_unit_zero (S := S6400x16) z2, View.ld_unit_zero (S := S200x256) z2, View.ld_unit_zero (S := S272x256) z2, View.ld_unit_zero (S := S8x256) z2, View.ld_unit_zero (S := S1x256) z2, View.ld_unit_zero (S := S200x128) z2, View.ld_unit_zero (S := S8x128) z2]

end Cert.Proof.Tiles
-- ==== Proof.Obl.lean ====
/-
  The proof data of the four TensorCore calls: what each staging buffer holds after the body, and that the bodies
  leave it.
-/
module

public import proofs.«01_k».proof.Proof.Bodies
public import proofs.«01_k».proof.Proof.Gen.KernelIdeal.Points

@[expose] public section

noncomputable section

namespace Cert.Proof.Tiles

open Cert.KernelIdeal Cert.KernelIdeal.Gen Cert.Proof.Words

open Idealize.ShloMosaic
open Idealize.ShloMosaic.ValueIdx (ix2)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe
open Idealize.ShloMosaic.Pipeline (Dat Cfg ucRefs)

variable {F : FTy → Type} [FloatOps F]

local notation "𝕄" => MT nD τ sig (HIx 1) (Elt F) ℕ UU ℕ

/-- The block of a call's window at a point, read off a valuation. -/
abbrev inB (cfg : Cfg sig Λ₀) (V : Valuation τ sig (Elt F)) (w : Fin cfg.W) (t : Fin cfg.N) : ((cfg.win w).xblock (cfg.grid.coords t)).Idx → Elt F (cfg.win w).elt :=
  ((cfg.win w).blk t).view.read (Elt F) (V (Pipeline.arrRef cfg.spec w))

/-! ## Call 0 -/

/-- What the first call leaves in its output block. -/
def out0 (V : Valuation τ sig (Elt F)) (t : Fin cfg0.N) : Vec F S1000x256 .f32 :=
  k0_pay1 (wTop (inB cfg0 V 1 t)) (inB cfg0 V 0 t) (inB cfg0 V 2 t)

def aft0 (V : Valuation τ sig (Elt F)) : (w : Fin cfg0.W) → Fin cfg0.N → (cfg0.win w).block.Idx → Elt F (cfg0.win w).elt
  | ⟨0, _⟩ => fun t => inB cfg0 V 0 t
  | ⟨1, _⟩ => fun t => inB cfg0 V 1 t
  | ⟨2, _⟩ => fun t => inB cfg0 V 2 t
  | ⟨3, _⟩ => fun t => out0 V t

set_option maxHeartbeats 8000000 in
theorem ob0 (c : Dev nD) (n : ℕ) (V : Valuation τ sig (Elt F)) (t : Fin cfg0.N) :
    iprop((datOf (cfg := cfg0) c n V (aft0 V)).Φ t.castSucc ∗ (datOf (cfg := cfg0) c n V (aft0 V)).owesAt none t.castSucc
        ∗ bigSep Finset.univ fun w : Fin cfg0.W => iprop(∃ d, owns (c : Thread nD τ) ((cfg0.win w).stage (cfg0.slots t w)) fullShare ((datOf (cfg := cfg0) c n V (aft0 V)).before w t d)))
      ⊢ wp frame (wpE (defs₀ (F := F)) 𝒱₀ c none) Set.univ (bodyAt0 t) fun _ => iprop((datOf (cfg := cfg0) c n V (aft0 V)).Φ t.succ ∗ (datOf (cfg := cfg0) c n V (aft0 V)).owesAt none t.succ
        ∗ bigSep Finset.univ fun w : Fin cfg0.W => owns (c : Thread nD τ) ((cfg0.win w).stage (cfg0.slots t w)) fullShare ((datOf (cfg := cfg0) c n V (aft0 V)).after w t)) := by
  rw [bigSep_W0, bigSep_W0]
  dsimp only
  rw [show (datOf (cfg := cfg0) c n V (aft0 V)).owesAt none t.succ = (datOf (cfg := cfg0) c n V (aft0 V)).owesAt none t.castSucc from rfl, show (datOf (cfg := cfg0) c n V (aft0 V)).Φ t.succ = (datOf (cfg := cfg0) c n V (aft0 V)).Φ t.castSucc from rfl]
  iintro ⟨HΦ, Howes, ⟨%d0, H0⟩, ⟨%d1, H1⟩, ⟨%d2, H2⟩, ⟨%d3, H3⟩⟩
  rw [Dat.before_in_eq_fetched (datOf (cfg := cfg0) c n V (aft0 V)) 0 rfl (fun _ => rfl) (fun _ _ _ => rfl) (fun _ => rfl) t d0,
    Dat.before_in_eq_fetched (datOf (cfg := cfg0) c n V (aft0 V)) 1 rfl (fun _ => rfl) (fun _ _ _ => rfl) (fun _ => rfl) t d1,
    Dat.before_in_eq_fetched (datOf (cfg := cfg0) c n V (aft0 V)) 2 rfl (fun _ => rfl) (fun _ _ _ => rfl) (fun _ => rfl) t d2]
  iapply (body0 c (grid0.coords t) (st0_0 t) (hstage0_0 _) (st0_1 t) (hstage0_1 _) (st0_2 t) (hstage0_2 _) (st0_3 t) (hstage0_3 _)
    (inB cfg0 V 0 t) (inB cfg0 V 1 t) (inB cfg0 V 2 t) _ Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexact H0
  isplitl [H1]; · iexact H1
  isplitl [H2]; · iexact H2
  iexact H3

/-! ## Call 4 -/

/-- What the last call leaves in its output block. -/
def out4 (V : Valuation τ sig (Elt F)) (t : Fin cfg4.N) : Vec F S1000x128 .f32 :=
  k4_pay1 (k4_pay4 (inB cfg4 V 2 t) (inB cfg4 V 3 t) (inB cfg4 V 4 t) (inB cfg4 V 0 t) (inB cfg4 V 1 t))
    (k4_pay5 (inB cfg4 V 2 t) (inB cfg4 V 3 t) (inB cfg4 V 4 t) (inB cfg4 V 0 t) (inB cfg4 V 1 t))
    (k4_pay6 (inB cfg4 V 2 t) (inB cfg4 V 3 t) (inB cfg4 V 4 t) (inB cfg4 V 0 t) (inB cfg4 V 1 t))

def aft4 (V : Valuation τ sig (Elt F)) : (w : Fin cfg4.W) → Fin cfg4.N → (cfg4.win w).block.Idx → Elt F (cfg4.win w).elt
  | ⟨0, _⟩ => fun t => inB cfg4 V 0 t
  | ⟨1, _⟩ => fun t => inB cfg4 V 1 t
  | ⟨2, _⟩ => fun t => inB cfg4 V 2 t
  | ⟨3, _⟩ => fun t => inB cfg4 V 3 t
  | ⟨4, _⟩ => fun t => inB cfg4 V 4 t
  | ⟨5, _⟩ => fun t => out4 V t

set_option maxHeartbeats 8000000 in
theorem ob4 (c : Dev nD) (n : ℕ) (V : Valuation τ sig (Elt F)) (t : Fin cfg4.N) :
    iprop((datOf (cfg := cfg4) c n V (aft4 V)).Φ t.castSucc ∗ (datOf (cfg := cfg4) c n V (aft4 V)).owesAt none t.castSucc
        ∗ bigSep Finset.univ fun w : Fin cfg4.W => iprop(∃ d, owns (c : Thread nD τ) ((cfg4.win w).stage (cfg4.slots t w)) fullShare ((datOf (cfg := cfg4) c n V (aft4 V)).before w t d)))
      ⊢ wp frame (wpE (defs₀ (F := F)) 𝒱₀ c none) Set.univ (bodyAt4 t) fun _ => iprop((datOf (cfg := cfg4) c n V (aft4 V)).Φ t.succ ∗ (datOf (cfg := cfg4) c n V (aft4 V)).owesAt none t.succ
        ∗ bigSep Finset.univ fun w : Fin cfg4.W => owns (c : Thread nD τ) ((cfg4.win w).stage (cfg4.slots t w)) fullShare ((datOf (cfg := cfg4) c n V (aft4 V)).after w t)) := by
  rw [bigSep_W4, bigSep_W4]
  dsimp only
  rw [show (datOf (cfg := cfg4) c n V (aft4 V)).owesAt none t.succ = (datOf (cfg := cfg4) c n V (aft4 V)).owesAt none t.castSucc from rfl, show (datOf (cfg := cfg4) c n V (aft4 V)).Φ t.succ = (datOf (cfg := cfg4) c n V (aft4 V)).Φ t.castSucc from rfl]
  iintro ⟨HΦ, Howes, ⟨%d0, H0⟩, ⟨%d1, H1⟩, ⟨%d2, H2⟩, ⟨%d3, H3⟩, ⟨%d4, H4⟩, ⟨%d5, H5⟩⟩
  rw [Dat.before_in_eq_fetched (datOf (cfg := cfg4) c n V (aft4 V)) 0 rfl (fun _ => rfl) (fun _ _ _ => rfl) (fun _ => rfl) t d0,
    Dat.before_in_eq_fetched (datOf (cfg := cfg4) c n V (aft4 V)) 1 rfl (fun _ => rfl) (fun _ _ _ => rfl) (fun _ => rfl) t d1,
    Dat.before_in_eq_fetched (datOf (cfg := cfg4) c n V (aft4 V)) 2 rfl (fun _ => rfl) (fun _ _ _ => rfl) (fun _ => rfl) t d2,
    Dat.before_in_eq_fetched (datOf (cfg := cfg4) c n V (aft4 V)) 3 rfl (fun _ => rfl) (fun _ _ _ => rfl) (fun _ => rfl) t d3,
    Dat.before_in_eq_fetched (datOf (cfg := cfg4) c n V (aft4 V)) 4 rfl (fun _ => rfl) (fun _ _ _ => rfl) (fun _ => rfl) t d4]
  iapply (body4 c (grid4.coords t) (st4_0 t) (hstage4_0 _) (st4_1 t) (hstage4_1 _) (st4_2 t) (hstage4_2 _) (st4_3 t) (hstage4_3 _) (st4_4 t) (hstage4_4 _) (st4_5 t) (hstage4_5 _)
    (inB cfg4 V 0 t) (inB cfg4 V 1 t) (inB cfg4 V 2 t) (inB cfg4 V 3 t) (inB cfg4 V 4 t) _ Set.univ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  iexact H5

/-! ## Call 2 -/

theorem clip2 : ∀ (t : Fin grid2.N) (a : Fin 2), (win2_0.clip (grid2.coords t) a) = none := by decide +kernel

theorem first2 : ∀ t : Fin grid2.N, t.val = 0 → Scalar.cmpi .ne (Scalar.extui (Scalar.cmpi .eq (BitVec.ofNat 32 (grid2.coords t 0).val) 0#32)) 0#32 = 1#1 := by decide +kernel
theorem later2 : ∀ t : Fin grid2.N, t.val ≠ 0 → ¬Scalar.cmpi .ne (Scalar.extui (Scalar.cmpi .eq (BitVec.ofNat 32 (grid2.coords t 0).val) 0#32)) 0#32 = 1#1 := by decide +kernel

/-- The gathered rows of a point, as the fetch stages them: no block is cut. -/
def gB2 (V : Valuation τ sig (Elt F)) (t : Fin cfg2.N) : Vec F S6400x128 .f32 :=
  (cfg2.win 0).fill (cfg2.grid.coords t) (fun _ => Scalar.ofBits .f32 0x00000000#32) (inB cfg2 V 0 t)

/-- One point of the statistics pass, over what the accumulator held. -/
def step2 (V : Valuation τ sig (Elt F)) (t : Fin cfg2.N) (X : Vec F S8x256 .f32) : Vec F S8x256 .f32 :=
  setRows X (k2_pay3 (wMid (inB cfg2 V 3 t)) (wLow (inB cfg2 V 3 t)) (gB2 V t) (inB cfg2 V 1 t) (inB cfg2 V 2 t) (row0 X))
    (k2_pay4 (wMid (inB cfg2 V 3 t)) (wLow (inB cfg2 V 3 t)) (gB2 V t) (inB cfg2 V 1 t) (inB cfg2 V 2 t) (row1 X))

/-- The accumulator after a point. -/
def acc2 (V : Valuation τ sig (Elt F)) : (k : ℕ) → k < cfg2.N → Vec F S8x256 .f32
  | 0, h => step2 V ⟨0, h⟩ k2_pay2
  | k + 1, h => step2 V ⟨k + 1, h⟩ (acc2 V k (Nat.lt_of_succ_lt h))

def aft2 (V : Valuation τ sig (Elt F)) : (w : Fin cfg2.W) → Fin cfg2.N → (cfg2.win w).block.Idx → Elt F (cfg2.win w).elt
  | ⟨0, _⟩ => fun t => gB2 V t
  | ⟨1, _⟩ => fun t => inB cfg2 V 1 t
  | ⟨2, _⟩ => fun t => inB cfg2 V 2 t
  | ⟨3, _⟩ => fun t => inB cfg2 V 3 t
  | ⟨4, _⟩ => fun t => acc2 V t.val t.isLt

theorem before2_0 (c : Dev nD) (n : ℕ) (V : Valuation τ sig (Elt F)) (t : Fin cfg2.N) (d : (cfg2.win 0).block.Idx → Elt F (cfg2.win 0).elt) :
    (datOf (cfg := cfg2) c n V (aft2 V)).before 0 t d = gB2 V t := by
  rw [Dat.before_in_eq_fetched _ 0 rfl (fun _ => rfl)
    (fun t t' _ => funext fun a => (clip2 t a).trans (clip2 t' a).symm)
    (fun t => funext fun j => show gB2 V t ((cfg2.win 0).xinj (cfg2.grid.coords t) j) = _ from by unfold gB2; rw [Pipeline.Window.fill_xinj]; rfl) t d]
  exact Dat.fetched_of_clip_none (datOf (cfg := cfg2) c n V (aft2 V)) 0 t (fun a => clip2 t a) _ _

theorem acc2_zero (V : Valuation τ sig (Elt F)) (t : Fin cfg2.N) (h : t.val = 0) : acc2 V t.val t.isLt = step2 V t k2_pay2 := by
  obtain ⟨k, hk⟩ := t; dsimp only at h; subst h; rfl
theorem acc2_succ (V : Valuation τ sig (Elt F)) (t : Fin cfg2.N) (h : t.val ≠ 0) :
    acc2 V t.val t.isLt = step2 V t (acc2 V (t.val - 1) (by omega)) := by
  obtain ⟨k, hk⟩ := t; cases k with
  | zero => exact absurd rfl h
  | succ k => rfl

theorem before2_4 (c : Dev nD) (n : ℕ) (V : Valuation τ sig (Elt F)) (t : Fin cfg2.N) (h : t.val ≠ 0) (d : (cfg2.win 4).block.Idx → Elt F (cfg2.win 4).elt) :
    (datOf (cfg := cfg2) c n V (aft2 V)).before 4 t d = acc2 V (t.val - 1) (by omega) :=
  Dat.before_out_kept _ 4 rfl t h (by
    have hN : cfg2.N = 50 := N_2
    have := t.isLt
    rw [Bool.eq_false_iff, ne_eq, flush2_4]; dsimp only; omega) (fun _ => rfl) (fun _ _ => rfl) d

set_option maxHeartbeats 8000000 in
theorem ob2z (c : Dev nD) (n : ℕ) (V : Valuation τ sig (Elt F)) (t : Fin cfg2.N) (ht : t.val = 0) :
    iprop((datOf (cfg := cfg2) c n V (aft2 V)).Φ t.castSucc ∗ (datOf (cfg := cfg2) c n V (aft2 V)).owesAt none t.castSucc
        ∗ bigSep Finset.univ fun w : Fin cfg2.W => iprop(∃ d, owns (c : Thread nD τ) ((cfg2.win w).stage (cfg2.slots t w)) fullShare ((datOf (cfg := cfg2) c n V (aft2 V)).before w t d)))
      ⊢ wp frame (wpE (defs₀ (F := F)) 𝒱₀ c none) Set.univ (bodyAt2 t) fun _ => iprop((datOf (cfg := cfg2) c n V (aft2 V)).Φ t.succ ∗ (datOf (cfg := cfg2) c n V (aft2 V)).owesAt none t.succ
        ∗ bigSep Finset.univ fun w : Fin cfg2.W => owns (c : Thread nD τ) ((cfg2.win w).stage (cfg2.slots t w)) fullShare ((datOf (cfg := cfg2) c n V (aft2 V)).after w t)) := by
  rw [bigSep_W2, bigSep_W2]
  dsimp only
  rw [show (datOf (cfg := cfg2) c n V (aft2 V)).owesAt none t.succ = (datOf (cfg := cfg2) c n V (aft2 V)).owesAt none t.castSucc from rfl, show (datOf (cfg := cfg2) c n V (aft2 V)).Φ t.succ = (datOf (cfg := cfg2) c n V (aft2 V)).Φ t.castSucc from rfl]
  iintro ⟨HΦ, Howes, ⟨%d0, H0⟩, ⟨%d1, H1⟩, ⟨%d2, H2⟩, ⟨%d3, H3⟩, ⟨%d4, H4⟩⟩
  rw [before2_0 c n V t d0,
    Dat.before_in_eq_fetched (datOf (cfg := cfg2) c n V (aft2 V)) 1 rfl (fun _ => rfl) (fun _ _ _ => rfl) (fun _ => rfl) t d1,
    Dat.before_in_eq_fetched (datOf (cfg := cfg2) c n V (aft2 V)) 2 rfl (fun _ => rfl) (fun _ _ _ => rfl) (fun _ => rfl) t d2,
    Dat.before_in_eq_fetched (datOf (cfg := cfg2) c n V (aft2 V)) 3 rfl (fun _ => rfl) (fun _ _ _ => rfl) (fun _ => rfl) t d3]
  iapply (body2z c (grid2.coords t) (first2 t ht) (st2_0 t) (hstage2_0 _) (st2_1 t) (hstage2_1 _) (st2_2 t) (hstage2_2 _) (st2_3 t) (hstage2_3 _) (st2_4 t) (hstage2_4 _)
    (gB2 V t) (inB cfg2 V 1 t) (inB cfg2 V 2 t) (inB cfg2 V 3 t) _ Set.univ _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Howes]; · iexact Howes
  isplitl [H0]; · iexact H0
  isplitl [H1]; · iexact H1
  isplitl [H2]; · iexact H2
  isplitl [H3]; · iexact H3
  rw [show (datOf (cfg := cfg2) c n V (aft2 V)).after 4 t = acc2 V t.val t.isLt from rfl, acc2_zero V t ht]; iexact H4

set_option maxHeartbeats 8000000 in
theorem ob2s (c : Dev nD) (n : ℕ) (V : Valuation τ sig (Elt F)) (t : Fin cfg2.N) (ht : t.val ≠ 0) :
    iprop((datOf (cfg := cfg2) c n V (aft2 V)).Φ t.castSucc ∗ (datOf (cfg := cfg2) c n V (aft2 V)).owesAt none t.castSucc
        ∗ bigSep Finset.univ fun w : Fin cfg2.W => iprop(∃ d, owns (c : Thread nD τ) ((cfg2.win w).stage (cfg2.slots t w)) fullShare ((datOf (cfg := cfg2) c n V (aft2 V)).before w t d)))
      ⊢ wp frame (wpE (defs₀ (F := F)) 𝒱₀ c none) Set.univ (bodyAt2 t) fun _ => iprop((datOf (cfg := cfg2) c n V (aft2 V)).Φ t.succ ∗ (datOf (cfg := cfg2) c n V (aft2 V)).owesAt none t.succ
        ∗ bigSep Finset.univ fun w : Fin cfg2.W => owns (c : Thread nD τ) ((cfg2.win w).stage (cfg2.slots t w)) fullShare ((datOf (cfg := cfg2) c n V (aft2 V)).after w t)) := by
  rw [bigSep_W2, bigSep_W2]
  dsimp only
  rw [show (datOf (cfg := cfg2) c n V (aft2 V)).owesAt none t.succ = (datOf (cfg := cfg2) c n V (aft2 V)).owesAt none t.castSucc from rfl, show (datOf (cfg := cfg2) c n V (aft2 V)).Φ t.succ = (datOf (cfg := cfg2) c n V (aft2 V)).Φ t.castSucc from rfl]
  iintro ⟨HΦ, Howes, ⟨%d0, H0⟩, ⟨%d1, H1⟩, ⟨%d2, H2⟩, ⟨%d3, H3⟩, ⟨%d4, H4⟩⟩
  rw [before2_0 c n V t d0,
    Dat.before_in_eq_fetched (datOf (cfg := cfg2) c n V (aft2 V)) 1 rfl (fun _ => rfl) (fun _ _ _ => rfl) (fun _ => rfl) t d1,
    Dat.before_in_eq_fetched (datOf (cfg := cfg2) c n V (aft2 V)) 2 rfl (fun _ => rfl) (fun _ _ _ => rfl) (fun _ => rfl) t d2,
    Dat.before_in_eq_fetched (datOf (cfg := cfg2) c n V (aft2 V)) 3 rfl (fun _ => rfl) (fun _ _ _ => rfl) (fun _ => rfl) t d3,
    before2_4 c n V t ht d4]
  iapply (body2 c (grid2.coords t) (later2 t ht) (st2_0 t) (hstage2_0 _) (st2_1 t) (hstage2_1 _) (st2_2 t) (hstage2_2 _) (st2_3 t) (hstage2_3 _) (st2_4 t) (hstage2_4 _)
    (gB2 V t) (inB cfg2 V 1 t) (inB cfg2 V 2 t) (inB cfg2 V 3 t) _ Set.univ _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Howes]; · iexact Howes
  isplitl [H0]; · iexact H0
  isplitl [H1]; · iexact H1
  isplitl [H2]; · iexact H2
  isplitl [H3]; · iexact H3
  rw [show (datOf (cfg := cfg2) c n V (aft2 V)).after 4 t = acc2 V t.val t.isLt from rfl, acc2_succ V t ht]; iexact H4

/-! ## Call 3 -/

theorem clip3 : ∀ (t : Fin grid3.N) (a : Fin 2), (win3_0.clip (grid3.coords t) a) = none := by decide +kernel

theorem first3 : ∀ t : Fin grid3.N, t.val = 0 → Scalar.cmpi .ne (Scalar.extui (Scalar.cmpi .eq (BitVec.ofNat 32 (grid3.coords t 0).val) 0#32)) 0#32 = 1#1 := by decide +kernel
theorem later3 : ∀ t : Fin grid3.N, t.val ≠ 0 → ¬Scalar.cmpi .ne (Scalar.extui (Scalar.cmpi .eq (BitVec.ofNat 32 (grid3.coords t 0).val) 0#32)) 0#32 = 1#1 := by decide +kernel

/-- The gathered rows of a point, as the fetch stages them: no block is cut. -/
def gB3 (V : Valuation τ sig (Elt F)) (t : Fin cfg3.N) : Vec F S6400x128 .f32 :=
  (cfg3.win 0).fill (cfg3.grid.coords t) (fun _ => Scalar.ofBits .f32 0x00000000#32) (inB cfg3 V 0 t)

/-- The scale, the shift and the products of a point of the gate pass. -/
abbrev sc3 (V : Valuation τ sig (Elt F)) (t : Fin cfg3.N) : Vec F S1x256 .f32 := k3_pay4 (inB cfg3 V 4 t) (inB cfg3 V 5 t)
abbrev sh3 (V : Valuation τ sig (Elt F)) (t : Fin cfg3.N) : Vec F S1x256 .f32 := k3_pay5 (inB cfg3 V 4 t) (inB cfg3 V 5 t) (inB cfg3 V 6 t)
abbrev pr3 (V : Valuation τ sig (Elt F)) (t : Fin cfg3.N) : Vec F S200x32x256 .f32 :=
  k3_pay6 (wMid (inB cfg3 V 3 t)) (wLow (inB cfg3 V 3 t)) (gB3 V t) (inB cfg3 V 1 t)

/-- What a point of the gate pass leaves in the block of summed messages. -/
def out3 (V : Valuation τ sig (Elt F)) (t : Fin cfg3.N) : Vec F S200x128 .f32 := k3_pay7 (sc3 V t) (sh3 V t) (pr3 V t) (inB cfg3 V 2 t)

/-- One point of the gate pass, over what the accumulator held. -/
def step3 (V : Valuation τ sig (Elt F)) (t : Fin cfg3.N) (X : Vec F S8x128 .f32) : Vec F S8x128 .f32 :=
  hsetRows X (k3_pay9 (sc3 V t) (sh3 V t) (pr3 V t) (inB cfg3 V 2 t) (hrow0 X))
    (k3_pay1 (k3_pay10 (hrow1 X)) (k3_pay11 (sc3 V t) (sh3 V t) (pr3 V t) (inB cfg3 V 2 t)))

/-- The accumulator after a point. -/
def acc3 (V : Valuation τ sig (Elt F)) : (k : ℕ) → k < cfg3.N → Vec F S8x128 .f32
  | 0, h => step3 V ⟨0, h⟩ k3_pay8
  | k + 1, h => step3 V ⟨k + 1, h⟩ (acc3 V k (Nat.lt_of_succ_lt h))

def aft3 (V : Valuation τ sig (Elt F)) : (w : Fin cfg3.W) → Fin cfg3.N → (cfg3.win w).block.Idx → Elt F (cfg3.win w).elt
  | ⟨0, _⟩ => fun t => gB3 V t
  | ⟨1, _⟩ => fun t => inB cfg3 V 1 t
  | ⟨2, _⟩ => fun t => inB cfg3 V 2 t
  | ⟨3, _⟩ => fun t => inB cfg3 V 3 t
  | ⟨4, _⟩ => fun t => inB cfg3 V 4 t
  | ⟨5, _⟩ => fun t => inB cfg3 V 5 t
  | ⟨6, _⟩ => fun t => inB cfg3 V 6 t
  | ⟨7, _⟩ => fun t => out3 V t
  | ⟨8, _⟩ => fun t => acc3 V t.val t.isLt

theorem before3_0 (c : Dev nD) (n : ℕ) (V : Valuation τ sig (Elt F)) (t : Fin cfg3.N) (d : (cfg3.win 0).block.Idx → Elt F (cfg3.win 0).elt) :
    (datOf (cfg := cfg3) c n V (aft3 V)).before 0 t d = gB3 V t := by
  rw [Dat.before_in_eq_fetched _ 0 rfl (fun _ => rfl)
    (fun t t' _ => funext fun a => (clip3 t a).trans (clip3 t' a).symm)
    (fun t => funext fun j => show gB3 V t ((cfg3.win 0).xinj (cfg3.grid.coords t) j) = _ from by unfold gB3; rw [Pipeline.Window.fill_xinj]; rfl) t d]
  exact Dat.fetched_of_clip_none (datOf (cfg := cfg3) c n V (aft3 V)) 0 t (fun a => clip3 t a) _ _

theorem acc3_zero (V : Valuation τ sig (Elt F)) (t : Fin cfg3.N) (h : t.val = 0) : acc3 V t.val t.isLt = step3 V t k3_pay8 := by
  obtain ⟨k, hk⟩ := t; dsimp only at h; subst h; rfl
theorem acc3_succ (V : Valuation τ sig (Elt F)) (t : Fin cfg3.N) (h : t.val ≠ 0) :
    acc3 V t.val t.isLt = step3 V t (acc3 V (t.val - 1) (by omega)) := by
  obtain ⟨k, hk⟩ := t; cases k with
  | zero => exact absurd rfl h
  | succ k => rfl

theorem before3_8 (c : Dev nD) (n : ℕ) (V : Valuation τ sig (Elt F)) (t : Fin cfg3.N) (h : t.val ≠ 0) (d : (cfg3.win 8).block.Idx → Elt F (cfg3.win 8).elt) :
    (datOf (cfg := cfg3) c n V (aft3 V)).before 8 t d = acc3 V (t.val - 1) (by omega) :=
  Dat.before_out_kept _ 8 rfl t h (by
    have hN : cfg3.N = 50 := N_3
    have := t.isLt
    rw [Bool.eq_false_iff, ne_eq, flush3_8]; dsimp only; omega) (fun _ => rfl) (fun _ _ => rfl) d

set_option maxHeartbeats 8000000 in
theorem ob3z (c : Dev nD) (n : ℕ) (V : Valuation τ sig (Elt F)) (t : Fin cfg3.N) (ht : t.val = 0) :
    iprop((datOf (cfg := cfg3) c n V (aft3 V)).Φ t.castSucc ∗ (datOf (cfg := cfg3) c n V (aft3 V)).owesAt none t.castSucc
        ∗ bigSep Finset.univ fun w : Fin cfg3.W => iprop(∃ d, owns (c : Thread nD τ) ((cfg3.win w).stage (cfg3.slots t w)) fullShare ((datOf (cfg := cfg3) c n V (aft3 V)).before w t d)))
      ⊢ wp frame (wpE (defs₀ (F := F)) 𝒱₀ c none) Set.univ (bodyAt3 t) fun _ => iprop((datOf (cfg := cfg3) c n V (aft3 V)).Φ t.succ ∗ (datOf (cfg := cfg3) c n V (aft3 V)).owesAt none t.succ
        ∗ bigSep Finset.univ fun w : Fin cfg3.W => owns (c : Thread nD τ) ((cfg3.win w).stage (cfg3.slots t w)) fullShare ((datOf (cfg := cfg3) c n V (aft3 V)).after w t)) := by
  rw [bigSep_W3, bigSep_W3]
  dsimp only
  rw [show (datOf (cfg := cfg3) c n V (aft3 V)).owesAt none t.succ = (datOf (cfg := cfg3) c n V (aft3 V)).owesAt none t.castSucc from rfl, show (datOf (cfg := cfg3) c n V (aft3 V)).Φ t.succ = (datOf (cfg := cfg3) c n V (aft3 V)).Φ t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before3_0 c n V t d0,
    Dat.before_in_eq_fetched (datOf (cfg := cfg3) c n V (aft3 V)) 1 rfl (fun _ => rfl) (fun _ _ _ => rfl) (fun _ => rfl) t d1,
    Dat.before_in_eq_fetched (datOf (cfg := cfg3) c n V (aft3 V)) 2 rfl (fun _ => rfl) (fun _ _ _ => rfl) (fun _ => rfl) t d2,
    Dat.before_in_eq_fetched (datOf (cfg := cfg3) c n V (aft3 V)) 3 rfl (fun _ => rfl) (fun _ _ _ => rfl) (fun _ => rfl) t d3,
    Dat.before_in_eq_fetched (datOf (cfg := cfg3) c n V (aft3 V)) 4 rfl (fun _ => rfl) (fun _ _ _ => rfl) (fun _ => rfl) t d4,
    Dat.before_in_eq_fetched (datOf (cfg := cfg3) c n V (aft3 V)) 5 rfl (fun _ => rfl) (fun _ _ _ => rfl) (fun _ => rfl) t d5,
    Dat.before_in_eq_fetched (datOf (cfg := cfg3) c n V (aft3 V)) 6 rfl (fun _ => rfl) (fun _ _ _ => rfl) (fun _ => rfl) t d6]
  iapply (body3z c (grid3.coords t) (first3 t ht) (st3_0 t) (hstage3_0 _) (st3_1 t) (hstage3_1 _) (st3_2 t) (hstage3_2 _) (st3_3 t) (hstage3_3 _) (st3_4 t) (hstage3_4 _) (st3_5 t) (hstage3_5 _) (st3_6 t) (hstage3_6 _) (st3_7 t) (hstage3_7 _) (st3_8 t) (hstage3_8 _)
    (gB3 V t) (inB cfg3 V 1 t) (inB cfg3 V 2 t) (inB cfg3 V 3 t) (inB cfg3 V 4 t) (inB cfg3 V 5 t) (inB cfg3 V 6 t) _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  rw [show (datOf (cfg := cfg3) c n V (aft3 V)).after 8 t = acc3 V t.val t.isLt from rfl, acc3_zero V t ht]; iexact H8

set_option maxHeartbeats 8000000 in
theorem ob3s (c : Dev nD) (n : ℕ) (V : Valuation τ sig (Elt F)) (t : Fin cfg3.N) (ht : t.val ≠ 0) :
    iprop((datOf (cfg := cfg3) c n V (aft3 V)).Φ t.castSucc ∗ (datOf (cfg := cfg3) c n V (aft3 V)).owesAt none t.castSucc
        ∗ bigSep Finset.univ fun w : Fin cfg3.W => iprop(∃ d, owns (c : Thread nD τ) ((cfg3.win w).stage (cfg3.slots t w)) fullShare ((datOf (cfg := cfg3) c n V (aft3 V)).before w t d)))
      ⊢ wp frame (wpE (defs₀ (F := F)) 𝒱₀ c none) Set.univ (bodyAt3 t) fun _ => iprop((datOf (cfg := cfg3) c n V (aft3 V)).Φ t.succ ∗ (datOf (cfg := cfg3) c n V (aft3 V)).owesAt none t.succ
        ∗ bigSep Finset.univ fun w : Fin cfg3.W => owns (c : Thread nD τ) ((cfg3.win w).stage (cfg3.slots t w)) fullShare ((datOf (cfg := cfg3) c n V (aft3 V)).after w t)) := by
  rw [bigSep_W3, bigSep_W3]
  dsimp only
  rw [show (datOf (cfg := cfg3) c n V (aft3 V)).owesAt none t.succ = (datOf (cfg := cfg3) c n V (aft3 V)).owesAt none t.castSucc from rfl, show (datOf (cfg := cfg3) c n V (aft3 V)).Φ t.succ = (datOf (cfg := cfg3) c n V (aft3 V)).Φ t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before3_0 c n V t d0,
    Dat.before_in_eq_fetched (datOf (cfg := cfg3) c n V (aft3 V)) 1 rfl (fun _ => rfl) (fun _ _ _ => rfl) (fun _ => rfl) t d1,
    Dat.before_in_eq_fetched (datOf (cfg := cfg3) c n V (aft3 V)) 2 rfl (fun _ => rfl) (fun _ _ _ => rfl) (fun _ => rfl) t d2,
    Dat.before_in_eq_fetched (datOf (cfg := cfg3) c n V (aft3 V)) 3 rfl (fun _ => rfl) (fun _ _ _ => rfl) (fun _ => rfl) t d3,
    Dat.before_in_eq_fetched (datOf (cfg := cfg3) c n V (aft3 V)) 4 rfl (fun _ => rfl) (fun _ _ _ => rfl) (fun _ => rfl) t d4,
    Dat.before_in_eq_fetched (datOf (cfg := cfg3) c n V (aft3 V)) 5 rfl (fun _ => rfl) (fun _ _ _ => rfl) (fun _ => rfl) t d5,
    Dat.before_in_eq_fetched (datOf (cfg := cfg3) c n V (aft3 V)) 6 rfl (fun _ => rfl) (fun _ _ _ => rfl) (fun _ => rfl) t d6,
    before3_8 c n V t ht d8]
  iapply (body3 c (grid3.coords t) (later3 t ht) (st3_0 t) (hstage3_0 _) (st3_1 t) (hstage3_1 _) (st3_2 t) (hstage3_2 _) (st3_3 t) (hstage3_3 _) (st3_4 t) (hstage3_4 _) (st3_5 t) (hstage3_5 _) (st3_6 t) (hstage3_6 _) (st3_7 t) (hstage3_7 _) (st3_8 t) (hstage3_8 _)
    (gB3 V t) (inB cfg3 V 1 t) (inB cfg3 V 2 t) (inB cfg3 V 3 t) (inB cfg3 V 4 t) (inB cfg3 V 5 t) (inB cfg3 V 6 t) _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  rw [show (datOf (cfg := cfg3) c n V (aft3 V)).after 8 t = acc3 V t.val t.isLt from rfl, acc3_succ V t ht]; iexact H8

/-! ## The four calls -/

/-- What the bodies leave, from the valuation each call is entered at. -/
def aftOf (V0 V1 V2 V3 : Dev nD → Valuation τ sig (Elt F)) : Aft F
  | ⟨0, _⟩ => fun c => aft0 (V0 c)
  | ⟨1, _⟩ => fun c => aft2 (V1 c)
  | ⟨2, _⟩ => fun c => aft3 (V2 c)
  | ⟨3, _⟩ => fun c => aft4 (V3 c)

variable (V0 V1 V2 V3 : Dev nD → Valuation τ sig (Elt F)) (n : ℕ)

theorem hbody0 (c : Dev nD) : Pipeline.BodyObligationLoose (pdatsOf n V0 (aftOf V0 V1 V2 V3) 0 c) (defs₀ (F := F)) 𝒱₀ none Set.univ :=
  Pipeline.BodyObligation.loose _ fun t => ob0 c n (V0 c) t
theorem hbody1 (c : Dev nD) : Pipeline.BodyObligationLoose (pdatsOf n V1 (aftOf V0 V1 V2 V3) 1 c) (defs₀ (F := F)) 𝒱₀ none Set.univ :=
  Pipeline.BodyObligation.loose _ fun t => if ht : t.val = 0 then ob2z c n (V1 c) t ht else ob2s c n (V1 c) t ht
theorem hbody2 (c : Dev nD) : Pipeline.BodyObligationLoose (pdatsOf n V2 (aftOf V0 V1 V2 V3) 2 c) (defs₀ (F := F)) 𝒱₀ none Set.univ :=
  Pipeline.BodyObligation.loose _ fun t => if ht : t.val = 0 then ob3z c n (V2 c) t ht else ob3s c n (V2 c) t ht
theorem hbody3 (c : Dev nD) : Pipeline.BodyObligationLoose (pdatsOf n V3 (aftOf V0 V1 V2 V3) 3 c) (defs₀ (F := F)) 𝒱₀ none Set.univ :=
  Pipeline.BodyObligation.loose _ fun t => ob4 c n (V3 c) t

end Cert.Proof.Tiles
-- ==== Proof.Launch.lean ====
/-
  The program: the arguments laid out by the host, the projection of the atoms, the SparseCore's gather of the
  neighbours' rows, the two passes over the edges and the last call over the atoms. Its run, at any float values: it ends
  with every semaphore at zero and every array of the program at a valuation computed from the arguments, if every word
  of the padded index list names a row of the table.
-/
module

public import proofs.«01_k».proof.Proof.Obl

@[expose] public section

noncomputable section

namespace Cert.Proof.Tiles

open Cert.KernelIdeal Cert.KernelIdeal.Gen Cert.Proof.Words

open Idealize.ShloMosaic
open Idealize.ShloMosaic.SparseCore (S V T)
open Idealize.ShloMosaic.StableHlo (held wp_hlo_within)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe
open Idealize.ShloMosaic.Pipeline (Dat Cfg ucRefs)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The arrays and the host operations -/

abbrev bf (b : Ref sig .tc) : DevRef τ sig := Proc.devRef .tc b

abbrev opFlat : HloOp τ sig (Elt F) := StableHlo.reshape main_arg2 main_v0 (rfl : (.i32 : EltTy) = .i32) shapeCasts_S10000x32_S1x320000
abbrev opC : HloOp τ sig (Elt F) := StableHlo.nullary main_c (constantI S_ 32 0#32)
abbrev opPad : HloOp τ sig (Elt F) := StableHlo.unary main_c main_v1 (broadcastInDim S1x3584 ![] bcast_S_S1x3584 : (⟨S_, .i32⟩ : BufTy).Contents (Elt F) → (⟨S1x3584, .i32⟩ : BufTy).Contents (Elt F))
abbrev opNbr : HloOp τ sig (Elt F) := StableHlo.reshape main_arg1 main_v2 (rfl : (.f32 : EltTy) = .f32) shapeCasts_S10000x32x16_S320000x16
abbrev opB : HloOp τ sig (Elt F) := StableHlo.reshape main_arg4 main_v3 (rfl : (.f32 : EltTy) = .f32) shapeCasts_S256_S1x256
abbrev opG1 : HloOp τ sig (Elt F) := StableHlo.reshape main_arg5 main_v4 (rfl : (.f32 : EltTy) = .f32) shapeCasts_S256_S1x256
abbrev opB1 : HloOp τ sig (Elt F) := StableHlo.reshape main_arg6 main_v5 (rfl : (.f32 : EltTy) = .f32) shapeCasts_S256_S1x256
abbrev opG2 : HloOp τ sig (Elt F) := StableHlo.reshape main_arg7 main_v6 (rfl : (.f32 : EltTy) = .f32) shapeCasts_S128_S1x128
abbrev opB2 : HloOp τ sig (Elt F) := StableHlo.reshape main_arg8 main_v7 (rfl : (.f32 : EltTy) = .f32) shapeCasts_S128_S1x128
abbrev opJ : HloOp τ sig (Elt F) := StableHlo.binary main_v0 main_v1 main_v9 ((fun a b => concatenate S1x323584 1 [⟨S1x320000, a⟩, ⟨S1x3584, b⟩] concatenates_S1x320000_S1x3584_S1x323584_d1) : (⟨S1x320000, .i32⟩ : BufTy).Contents (Elt F) → (⟨S1x3584, .i32⟩ : BufTy).Contents (Elt F) → (⟨S1x323584, .i32⟩ : BufTy).Contents (Elt F))

theorem sub_opFlat : (opFlat (F := F)).bufs ⊆ ucRefs τ sig := Pipeline.sub_ucRefs opFlat (StableHlo.reshape_bufs_sub ..)
theorem sub_opC : (opC (F := F)).bufs ⊆ ucRefs τ sig := Pipeline.sub_ucRefs opC (StableHlo.nullary_bufs_sub ..)
theorem sub_opPad : (opPad (F := F)).bufs ⊆ ucRefs τ sig := Pipeline.sub_ucRefs opPad (StableHlo.unary_bufs_sub ..)
theorem sub_opNbr : (opNbr (F := F)).bufs ⊆ ucRefs τ sig := Pipeline.sub_ucRefs opNbr (StableHlo.reshape_bufs_sub ..)
theorem sub_opB : (opB (F := F)).bufs ⊆ ucRefs τ sig := Pipeline.sub_ucRefs opB (StableHlo.reshape_bufs_sub ..)
theorem sub_opG1 : (opG1 (F := F)).bufs ⊆ ucRefs τ sig := Pipeline.sub_ucRefs opG1 (StableHlo.reshape_bufs_sub ..)
theorem sub_opB1 : (opB1 (F := F)).bufs ⊆ ucRefs τ sig := Pipeline.sub_ucRefs opB1 (StableHlo.reshape_bufs_sub ..)
theorem sub_opG2 : (opG2 (F := F)).bufs ⊆ ucRefs τ sig := Pipeline.sub_ucRefs opG2 (StableHlo.reshape_bufs_sub ..)
theorem sub_opB2 : (opB2 (F := F)).bufs ⊆ ucRefs τ sig := Pipeline.sub_ucRefs opB2 (StableHlo.reshape_bufs_sub ..)
theorem sub_opJ : (opJ (F := F)).bufs ⊆ ucRefs τ sig := Pipeline.sub_ucRefs opJ (StableHlo.binary_bufs_sub ..)

/-! ## The valuations, from call to call -/

/-- The launch valuation, and after the host's layout. -/
def Vm (d : Dev nD) : Valuation τ sig (Elt F) := fun b => m (d, b)
def V0 (d : Dev nD) : Valuation τ sig (Elt F) :=
  (opB2 (F := F)).result ((opG2 (F := F)).result ((opB1 (F := F)).result ((opG1 (F := F)).result ((opB (F := F)).result ((opNbr (F := F)).result ((opPad (F := F)).result ((opC (F := F)).result ((opFlat (F := F)).result (Vm m d)))))))))

/-- The projected atoms. -/
def P1 (d : Dev nD) : Buf (Elt F) ((d, bf main_v8) : Loc nD τ sig) := (datOf (cfg := cfg0) d 0 (V0 m d) (aft0 (V0 m d))).arrAt 3 cfg0.N
def V0' (d : Dev nD) : Valuation τ sig (Elt F) := Function.update (V0 m d) (bf main_v8) (P1 m d)
/-- With the padded index list. -/
def VJ (d : Dev nD) : Valuation τ sig (Elt F) := (opJ (F := F)).result (V0' m d)
/-- The table, and the padded index list. -/
def tab (d : Dev nD) : S10000x128.Idx → Elt F .f32 := m (xLoc d)
def lst (d : Dev nD) : S1x323584.Idx → BitVec 32 := VJ m d (bf main_v9)
/-- With the gathered rows. -/
def V1 (d : Dev nD) : Valuation τ sig (Elt F) := Function.update (VJ m d) (bf main_v10) (show Buf (Elt F) (oLoc d) from gat (tab m d) (lst m d))
/-- The two rows of statistics. -/
def ST (d : Dev nD) : Buf (Elt F) ((d, bf main_v11) : Loc nD τ sig) := (datOf (cfg := cfg2) d 1 (V1 m d) (aft2 (V1 m d))).arrAt 4 cfg2.N
def V2 (d : Dev nD) : Valuation τ sig (Elt F) := Function.update (V1 m d) (bf main_v11) (ST m d)
/-- The summed messages and their two rows of statistics. -/
def SM (d : Dev nD) : Buf (Elt F) ((d, bf main_v12_0) : Loc nD τ sig) := (datOf (cfg := cfg3) d 1 (V2 m d) (aft3 (V2 m d))).arrAt 7 cfg3.N
def ST2 (d : Dev nD) : Buf (Elt F) ((d, bf main_v12_1) : Loc nD τ sig) := (datOf (cfg := cfg3) d 1 (V2 m d) (aft3 (V2 m d))).arrAt 8 cfg3.N
def V3 (d : Dev nD) : Valuation τ sig (Elt F) := Function.update (Function.update (V2 m d) (bf main_v12_0) (SM m d)) (bf main_v12_1) (ST2 m d)
/-- The result. -/
def OUT (d : Dev nD) : Buf (Elt F) ((d, bf main_v13) : Loc nD τ sig) := (datOf (cfg := cfg4) d 1 (V3 m d) (aft4 (V3 m d))).arrAt 5 cfg4.N
def V4 (d : Dev nD) : Valuation τ sig (Elt F) := Function.update (V3 m d) (bf main_v13) (OUT m d)

/-- What the bodies leave. -/
abbrev AFT : Aft F := aftOf (V0 m) (V1 m) (V2 m) (V3 m)

theorem bf_ne {a b : Ref sig .tc} (h : a ≠ b) : bf a ≠ bf b := fun e => h (Proc.devRef_injective .tc e)

theorem V0'_ne (c : Dev nD) (b : Ref sig .tc) (h0 : b ≠ main_v8) : V0' m c (bf b) = V0 m c (bf b) := by
  unfold V0'
  rw [Function.update_of_ne (bf_ne h0)]

theorem V0'_at0 (c : Dev nD) : V0' m c (bf main_v8) = P1 m c := by
  unfold V0'
  exact Function.update_self _ _ _

theorem hF0_0 (c : Dev nD) : (pdatsOf 0 (V0 m) (AFT m) 0 c).arrAt (0 : Fin 4) cfg0.N = V0' m c (bf main_arg0) :=
  ((pdatsOf 0 (V0 m) (AFT m) 0 c).arrAt_in (0 : Fin 4) rfl _).trans (V0'_ne m c main_arg0 (by decide)).symm

theorem hF0_1 (c : Dev nD) : (pdatsOf 0 (V0 m) (AFT m) 0 c).arrAt (1 : Fin 4) cfg0.N = V0' m c (bf main_arg3) :=
  ((pdatsOf 0 (V0 m) (AFT m) 0 c).arrAt_in (1 : Fin 4) rfl _).trans (V0'_ne m c main_arg3 (by decide)).symm

theorem hF0_2 (c : Dev nD) : (pdatsOf 0 (V0 m) (AFT m) 0 c).arrAt (2 : Fin 4) cfg0.N = V0' m c (bf main_v3) :=
  ((pdatsOf 0 (V0 m) (AFT m) 0 c).arrAt_in (2 : Fin 4) rfl _).trans (V0'_ne m c main_v3 (by decide)).symm

theorem hF0_3 (c : Dev nD) : (pdatsOf 0 (V0 m) (AFT m) 0 c).arrAt (3 : Fin 4) cfg0.N = V0' m c (bf main_v8) :=
  (V0'_at0 m c).symm

theorem hF0 (c : Dev nD) : ∀ w, (pdatsOf 0 (V0 m) (AFT m) 0 c).arrAt w (pipes (F := F) 0).N = V0' m c (Pipeline.arrRef (pipes (F := F) 0).spec w)
  | ⟨0, _⟩ => hF0_0 m c
  | ⟨1, _⟩ => hF0_1 m c
  | ⟨2, _⟩ => hF0_2 m c
  | ⟨3, _⟩ => hF0_3 m c

theorem hne0 (c : Dev nD) (b : Ref sig .tc) (hb : b ∉ Finset.univ.image (Pipeline.arrRef (pipes (F := F) 0).spec)) : V0' m c b = V0 m c b :=
  V0'_ne m c b (fun e => hb (Finset.mem_image.mpr ⟨(3 : Fin 4), Finset.mem_univ _, e.symm⟩))

theorem V2_ne (c : Dev nD) (b : Ref sig .tc) (h0 : b ≠ main_v11) : V2 m c (bf b) = V1 m c (bf b) := by
  unfold V2
  rw [Function.update_of_ne (bf_ne h0)]

theorem V2_at0 (c : Dev nD) : V2 m c (bf main_v11) = ST m c := by
  unfold V2
  exact Function.update_self _ _ _

theorem hF1_0 (c : Dev nD) : (pdatsOf 1 (V1 m) (AFT m) 1 c).arrAt (0 : Fin 5) cfg2.N = V2 m c (bf main_v10) :=
  ((pdatsOf 1 (V1 m) (AFT m) 1 c).arrAt_in (0 : Fin 5) rfl _).trans (V2_ne m c main_v10 (by decide)).symm

theorem hF1_1 (c : Dev nD) : (pdatsOf 1 (V1 m) (AFT m) 1 c).arrAt (1 : Fin 5) cfg2.N = V2 m c (bf main_v2) :=
  ((pdatsOf 1 (V1 m) (AFT m) 1 c).arrAt_in (1 : Fin 5) rfl _).trans (V2_ne m c main_v2 (by decide)).symm

theorem hF1_2 (c : Dev nD) : (pdatsOf 1 (V1 m) (AFT m) 1 c).arrAt (2 : Fin 5) cfg2.N = V2 m c (bf main_v8) :=
  ((pdatsOf 1 (V1 m) (AFT m) 1 c).arrAt_in (2 : Fin 5) rfl _).trans (V2_ne m c main_v8 (by decide)).symm

theorem hF1_3 (c : Dev nD) : (pdatsOf 1 (V1 m) (AFT m) 1 c).arrAt (3 : Fin 5) cfg2.N = V2 m c (bf main_arg3) :=
  ((pdatsOf 1 (V1 m) (AFT m) 1 c).arrAt_in (3 : Fin 5) rfl _).trans (V2_ne m c main_arg3 (by decide)).symm

theorem hF1_4 (c : Dev nD) : (pdatsOf 1 (V1 m) (AFT m) 1 c).arrAt (4 : Fin 5) cfg2.N = V2 m c (bf main_v11) :=
  (V2_at0 m c).symm

theorem hF1 (c : Dev nD) : ∀ w, (pdatsOf 1 (V1 m) (AFT m) 1 c).arrAt w (pipes (F := F) 1).N = V2 m c (Pipeline.arrRef (pipes (F := F) 1).spec w)
  | ⟨0, _⟩ => hF1_0 m c
  | ⟨1, _⟩ => hF1_1 m c
  | ⟨2, _⟩ => hF1_2 m c
  | ⟨3, _⟩ => hF1_3 m c
  | ⟨4, _⟩ => hF1_4 m c

theorem hne1 (c : Dev nD) (b : Ref sig .tc) (hb : b ∉ Finset.univ.image (Pipeline.arrRef (pipes (F := F) 1).spec)) : V2 m c b = V1 m c b :=
  V2_ne m c b (fun e => hb (Finset.mem_image.mpr ⟨(4 : Fin 5), Finset.mem_univ _, e.symm⟩))

theorem V3_ne (c : Dev nD) (b : Ref sig .tc) (h0 : b ≠ main_v12_1) (h1 : b ≠ main_v12_0) : V3 m c (bf b) = V2 m c (bf b) := by
  unfold V3
  rw [Function.update_of_ne (bf_ne h0), Function.update_of_ne (bf_ne h1)]

theorem V3_at0 (c : Dev nD) : V3 m c (bf main_v12_1) = ST2 m c := by
  unfold V3
  exact Function.update_self _ _ _

theorem V3_at1 (c : Dev nD) : V3 m c (bf main_v12_0) = SM m c := by
  unfold V3
  rw [Function.update_of_ne (bf_ne (a := main_v12_0) (b := main_v12_1) (by decide))]
  exact Function.update_self _ _ _

theorem hF2_0 (c : Dev nD) : (pdatsOf 1 (V2 m) (AFT m) 2 c).arrAt (0 : Fin 9) cfg3.N = V3 m c (bf main_v10) :=
  ((pdatsOf 1 (V2 m) (AFT m) 2 c).arrAt_in (0 : Fin 9) rfl _).trans (V3_ne m c main_v10 (by decide) (by decide)).symm

theorem hF2_1 (c : Dev nD) : (pdatsOf 1 (V2 m) (AFT m) 2 c).arrAt (1 : Fin 9) cfg3.N = V3 m c (bf main_v2) :=
  ((pdatsOf 1 (V2 m) (AFT m) 2 c).arrAt_in (1 : Fin 9) rfl _).trans (V3_ne m c main_v2 (by decide) (by decide)).symm

theorem hF2_2 (c : Dev nD) : (pdatsOf 1 (V2 m) (AFT m) 2 c).arrAt (2 : Fin 9) cfg3.N = V3 m c (bf main_v8) :=
  ((pdatsOf 1 (V2 m) (AFT m) 2 c).arrAt_in (2 : Fin 9) rfl _).trans (V3_ne m c main_v8 (by decide) (by decide)).symm

theorem hF2_3 (c : Dev nD) : (pdatsOf 1 (V2 m) (AFT m) 2 c).arrAt (3 : Fin 9) cfg3.N = V3 m c (bf main_arg3) :=
  ((pdatsOf 1 (V2 m) (AFT m) 2 c).arrAt_in (3 : Fin 9) rfl _).trans (V3_ne m c main_arg3 (by decide) (by decide)).symm

theorem hF2_4 (c : Dev nD) : (pdatsOf 1 (V2 m) (AFT m) 2 c).arrAt (4 : Fin 9) cfg3.N = V3 m c (bf main_v11) :=
  ((pdatsOf 1 (V2 m) (AFT m) 2 c).arrAt_in (4 : Fin 9) rfl _).trans (V3_ne m c main_v11 (by decide) (by decide)).symm

theorem hF2_5 (c : Dev nD) : (pdatsOf 1 (V2 m) (AFT m) 2 c).arrAt (5 : Fin 9) cfg3.N = V3 m c (bf main_v4) :=
  ((pdatsOf 1 (V2 m) (AFT m) 2 c).arrAt_in (5 : Fin 9) rfl _).trans (V3_ne m c main_v4 (by decide) (by decide)).symm

theorem hF2_6 (c : Dev nD) : (pdatsOf 1 (V2 m) (AFT m) 2 c).arrAt (6 : Fin 9) cfg3.N = V3 m c (bf main_v5) :=
  ((pdatsOf 1 (V2 m) (AFT m) 2 c).arrAt_in (6 : Fin 9) rfl _).trans (V3_ne m c main_v5 (by decide) (by decide)).symm

theorem hF2_7 (c : Dev nD) : (pdatsOf 1 (V2 m) (AFT m) 2 c).arrAt (7 : Fin 9) cfg3.N = V3 m c (bf main_v12_0) :=
  (V3_at1 m c).symm

theorem hF2_8 (c : Dev nD) : (pdatsOf 1 (V2 m) (AFT m) 2 c).arrAt (8 : Fin 9) cfg3.N = V3 m c (bf main_v12_1) :=
  (V3_at0 m c).symm

theorem hF2 (c : Dev nD) : ∀ w, (pdatsOf 1 (V2 m) (AFT m) 2 c).arrAt w (pipes (F := F) 2).N = V3 m c (Pipeline.arrRef (pipes (F := F) 2).spec w)
  | ⟨0, _⟩ => hF2_0 m c
  | ⟨1, _⟩ => hF2_1 m c
  | ⟨2, _⟩ => hF2_2 m c
  | ⟨3, _⟩ => hF2_3 m c
  | ⟨4, _⟩ => hF2_4 m c
  | ⟨5, _⟩ => hF2_5 m c
  | ⟨6, _⟩ => hF2_6 m c
  | ⟨7, _⟩ => hF2_7 m c
  | ⟨8, _⟩ => hF2_8 m c

theorem hne2 (c : Dev nD) (b : Ref sig .tc) (hb : b ∉ Finset.univ.image (Pipeline.arrRef (pipes (F := F) 2).spec)) : V3 m c b = V2 m c b :=
  V3_ne m c b (fun e => hb (Finset.mem_image.mpr ⟨(8 : Fin 9), Finset.mem_univ _, e.symm⟩)) (fun e => hb (Finset.mem_image.mpr ⟨(7 : Fin 9), Finset.mem_univ _, e.symm⟩))

theorem V4_ne (c : Dev nD) (b : Ref sig .tc) (h0 : b ≠ main_v13) : V4 m c (bf b) = V3 m c (bf b) := by
  unfold V4
  rw [Function.update_of_ne (bf_ne h0)]

theorem V4_at0 (c : Dev nD) : V4 m c (bf main_v13) = OUT m c := by
  unfold V4
  exact Function.update_self _ _ _

theorem hF3_0 (c : Dev nD) : (pdatsOf 1 (V3 m) (AFT m) 3 c).arrAt (0 : Fin 6) cfg4.N = V4 m c (bf main_arg0) :=
  ((pdatsOf 1 (V3 m) (AFT m) 3 c).arrAt_in (0 : Fin 6) rfl _).trans (V4_ne m c main_arg0 (by decide)).symm

theorem hF3_1 (c : Dev nD) : (pdatsOf 1 (V3 m) (AFT m) 3 c).arrAt (1 : Fin 6) cfg4.N = V4 m c (bf main_v12_0) :=
  ((pdatsOf 1 (V3 m) (AFT m) 3 c).arrAt_in (1 : Fin 6) rfl _).trans (V4_ne m c main_v12_0 (by decide)).symm

theorem hF3_2 (c : Dev nD) : (pdatsOf 1 (V3 m) (AFT m) 3 c).arrAt (2 : Fin 6) cfg4.N = V4 m c (bf main_v12_1) :=
  ((pdatsOf 1 (V3 m) (AFT m) 3 c).arrAt_in (2 : Fin 6) rfl _).trans (V4_ne m c main_v12_1 (by decide)).symm

theorem hF3_3 (c : Dev nD) : (pdatsOf 1 (V3 m) (AFT m) 3 c).arrAt (3 : Fin 6) cfg4.N = V4 m c (bf main_v6) :=
  ((pdatsOf 1 (V3 m) (AFT m) 3 c).arrAt_in (3 : Fin 6) rfl _).trans (V4_ne m c main_v6 (by decide)).symm

theorem hF3_4 (c : Dev nD) : (pdatsOf 1 (V3 m) (AFT m) 3 c).arrAt (4 : Fin 6) cfg4.N = V4 m c (bf main_v7) :=
  ((pdatsOf 1 (V3 m) (AFT m) 3 c).arrAt_in (4 : Fin 6) rfl _).trans (V4_ne m c main_v7 (by decide)).symm

theorem hF3_5 (c : Dev nD) : (pdatsOf 1 (V3 m) (AFT m) 3 c).arrAt (5 : Fin 6) cfg4.N = V4 m c (bf main_v13) :=
  (V4_at0 m c).symm

theorem hF3 (c : Dev nD) : ∀ w, (pdatsOf 1 (V3 m) (AFT m) 3 c).arrAt w (pipes (F := F) 3).N = V4 m c (Pipeline.arrRef (pipes (F := F) 3).spec w)
  | ⟨0, _⟩ => hF3_0 m c
  | ⟨1, _⟩ => hF3_1 m c
  | ⟨2, _⟩ => hF3_2 m c
  | ⟨3, _⟩ => hF3_3 m c
  | ⟨4, _⟩ => hF3_4 m c
  | ⟨5, _⟩ => hF3_5 m c

theorem hne3 (c : Dev nD) (b : Ref sig .tc) (hb : b ∉ Finset.univ.image (Pipeline.arrRef (pipes (F := F) 3).spec)) : V4 m c b = V3 m c b :=
  V4_ne m c b (fun e => hb (Finset.mem_image.mpr ⟨(5 : Fin 6), Finset.mem_univ _, e.symm⟩))

/-- An argument is where the launch left it. -/
theorem V0_arg (d : Dev nD) (b : Ref sig .tc) (hb : b ∉ ({main_v0, main_c, main_v1, main_v2, main_v3, main_v4, main_v5, main_v6, main_v7} : Finset (Ref sig .tc))) :
    V0 m d (bf b) = m (d, bf b) := by
  simp only [Finset.mem_insert, Finset.mem_singleton, not_or] at hb
  obtain ⟨h0, h1, h2, h3, h4, h5, h6, h7, h8⟩ := hb
  unfold V0
  rw [(opB2 (F := F)).result_of_not_mem (b := bf b) _ (show bf b ∉ ({bf main_v7} : Finset (DevRef τ sig)) from fun h => bf_ne h8 (Finset.mem_singleton.mp h)),
    (opG2 (F := F)).result_of_not_mem (b := bf b) _ (show bf b ∉ ({bf main_v6} : Finset (DevRef τ sig)) from fun h => bf_ne h7 (Finset.mem_singleton.mp h)),
    (opB1 (F := F)).result_of_not_mem (b := bf b) _ (show bf b ∉ ({bf main_v5} : Finset (DevRef τ sig)) from fun h => bf_ne h6 (Finset.mem_singleton.mp h)),
    (opG1 (F := F)).result_of_not_mem (b := bf b) _ (show bf b ∉ ({bf main_v4} : Finset (DevRef τ sig)) from fun h => bf_ne h5 (Finset.mem_singleton.mp h)),
    (opB (F := F)).result_of_not_mem (b := bf b) _ (show bf b ∉ ({bf main_v3} : Finset (DevRef τ sig)) from fun h => bf_ne h4 (Finset.mem_singleton.mp h)),
    (opNbr (F := F)).result_of_not_mem (b := bf b) _ (show bf b ∉ ({bf main_v2} : Finset (DevRef τ sig)) from fun h => bf_ne h3 (Finset.mem_singleton.mp h)),
    (opPad (F := F)).result_of_not_mem (b := bf b) _ (show bf b ∉ ({bf main_v1} : Finset (DevRef τ sig)) from fun h => bf_ne h2 (Finset.mem_singleton.mp h)),
    (opC (F := F)).result_of_not_mem (b := bf b) _ (show bf b ∉ ({bf main_c} : Finset (DevRef τ sig)) from fun h => bf_ne h1 (Finset.mem_singleton.mp h)),
    (opFlat (F := F)).result_of_not_mem (b := bf b) _ (show bf b ∉ ({bf main_v0} : Finset (DevRef τ sig)) from fun h => bf_ne h0 (Finset.mem_singleton.mp h))]
  rfl

theorem VJ_of_ne (d : Dev nD) (b : Ref sig .tc) (h : b ≠ main_v9) : VJ m d (bf b) = V0' m d (bf b) :=
  (opJ (F := F)).result_of_not_mem (b := bf b) _ (show bf b ∉ ({bf main_v9} : Finset (DevRef τ sig)) from fun e => bf_ne h (Finset.mem_singleton.mp e))

theorem V1_ne (d : Dev nD) (b : Ref sig .tc) (h : b ≠ main_v10) : V1 m d (bf b) = VJ m d (bf b) := by
  unfold V1
  rw [Function.update_of_ne (bf_ne h)]

theorem V1_at (d : Dev nD) : V1 m d (bf main_v10) = (show Buf (Elt F) (oLoc d) from gat (tab m d) (lst m d)) := by
  unfold V1
  exact Function.update_self _ _ _

theorem VJ_x (d : Dev nD) : VJ m d (bf main_arg0) = m (xLoc d) :=
  (VJ_of_ne m d _ (by decide)).trans ((V0'_ne m d _ (by decide)).trans (V0_arg m d _ (by decide)))

/-! ## The call's operands among the arrays -/

abbrev S3 : Finset (DevRef τ sig) := {bf main_arg0, bf main_v9, bf main_v10}

theorem S3_sub : S3 ⊆ ucRefs τ sig := by decide +kernel

omit [FloatOps F] in
theorem held_S3 (d : Dev nD) (W : Valuation τ sig (Elt F)) :
    (held (T d) S3 W : sProp 𝕄) = iprop((xLoc d ↦{fullShare} W (bf main_arg0)) ∗ (jLoc d ↦{fullShare} W (bf main_v9)) ∗ oLoc d ↦{fullShare} W (bf main_v10)) := by
  unfold held S3
  rw [SparseCore.bigSep_insert' (by decide), SparseCore.bigSep_insert' (by decide), bigSep_singleton]

theorem held_VJ (d : Dev nD) :
    (held (T d) (ucRefs τ sig) (VJ m d) : sProp 𝕄)
      = iprop((xPts (tab m) d fullShare ∗ (jLoc d ↦{fullShare} (show Buf (Elt F) (jLoc d) from lst m d)) ∗ oLoc d ↦{fullShare} VJ m d (bf main_v10))
          ∗ held (T d) (ucRefs τ sig \ S3) (V1 m d)) := by
  rw [StableHlo.held_sub_split (T d) S3_sub (VJ m d), held_S3, VJ_x,
    StableHlo.held_congr (T d) (S := ucRefs τ sig \ S3) (V := VJ m d) (V' := V1 m d) fun b hb => (Function.update_of_ne (fun e => (Finset.mem_sdiff.mp hb).2 (by rw [e]; decide)) _ _).symm]
  rfl

theorem held_V1 (d : Dev nD) :
    (held (T d) (ucRefs τ sig) (V1 m d) : sProp 𝕄)
      = iprop((xPts (tab m) d fullShare ∗ (jLoc d ↦{fullShare} (show Buf (Elt F) (jLoc d) from lst m d)) ∗ oLoc d ↦{fullShare} (show Buf (Elt F) (oLoc d) from gat (tab m d) (lst m d)))
          ∗ held (T d) (ucRefs τ sig \ S3) (V1 m d)) := by
  rw [StableHlo.held_sub_split (T d) S3_sub (V1 m d), held_S3]
  rw [show V1 m d (bf main_arg0) = m (xLoc d) from (V1_ne m d _ (by decide)).trans (VJ_x m d),
    show V1 m d (bf main_v9) = VJ m d (bf main_v9) from V1_ne m d _ (by decide),
    show V1 m d (bf main_v10) = _ from V1_at m d]
  rfl

/-! ## @main -/

abbrev FIN (d : Dev nD) : sProp 𝕄 :=
  iprop((bigSep Finset.univ fun c => bars (F := F) d c) ∗ held (T d) (ucRefs τ sig) (V4 m d))

/-- What the device keeps of the handshakes beside what it owes. -/
def tcRst (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_eq (d : Dev nD) (n : ℕ) : ((K (F := F)).tcSt EH d n : sProp 𝕄) = iprop(owesN d n ∗ tcRst d n) := rfl

theorem ghost_split (d : Dev nD) : (pGhost (F := F) d : sProp 𝕄)
    = iprop((Pipeline.cellsGhost (pipes (F := F)) EP 0 d ∗ Pipeline.cellsGhost (pipes (F := F)) EP 1 d ∗ Pipeline.cellsGhost (pipes (F := F)) EP 2 d ∗ Pipeline.cellsGhost (pipes (F := F)) EP 3 d)
      ∗ Pipeline.toksInit (pipes (F := F)) EP 0 d ∗ Pipeline.toksInit (pipes (F := F)) EP 1 d ∗ Pipeline.toksInit (pipes (F := F)) EP 2 d ∗ Pipeline.toksInit (pipes (F := F)) EP 3 d) := by
  unfold pGhost
  rw [bigSep_W0, bigSep_W0]

theorem unscoped_held (d : Dev nD) : (unscopedBufs d (fun b => m ((SparseCore.T d).loc b)) : sProp 𝕄) = held (T d) (ucRefs τ sig) (Vm m d) :=
  Pipeline.unscopedBufs_held (Ix := HIx 1) (Name := ℕ) (U := UU) (Lvl := ℕ) d (Vm m d)

set_option maxHeartbeats 4000000 in
theorem hmain [∀ e, Nonempty (Elt F e)] (κ : GSem nD τ sig → ℕ) (d : Dev nD) :
    iprop((K (F := F)).ctx EH (P (tab m) (lst m)) κ ∗ (K (F := F)).tcSt EH d 0 ∗ (K (F := F)).tcRes m ρ d ∗ pGhost d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [unscoped_held, ghost_split]
  simp only [main, wp_bind, wp_pure]
  iintro ⟨#Hctx, Hst, ⟨Hb, Hheld, Hts, -⟩, ⟨Hg0, Hg1, Hg2, Hg3⟩, Ht0, Ht1, Ht2, Ht3⟩
  ihave #Hlev := (SparseCore.Cfg.ctx_levAts (K := K (F := F)) (EH := EH) (P := P (tab m) (lst m)) κ) $$ Hctx
  iapply (wp_hlo_within 𝒱 (T d) none Set.univ (op := opFlat) (S := ucRefs τ sig) sub_opFlat (V := Vm m d)) $$ [Hb Hheld]
  · isplitl [Hb] <;> iassumption
  iintro ⟨Hb, Hheld⟩
  rw [wp_ret]; imodintro
  iapply (wp_hlo_within 𝒱 (T d) none Set.univ (op := opC) (S := ucRefs τ sig) sub_opC) $$ [Hb Hheld]
  · isplitl [Hb] <;> iassumption
  iintro ⟨Hb, Hheld⟩
  rw [wp_ret]; imodintro
  iapply (wp_hlo_within 𝒱 (T d) none Set.univ (op := opPad) (S := ucRefs τ sig) sub_opPad) $$ [Hb Hheld]
  · isplitl [Hb] <;> iassumption
  iintro ⟨Hb, Hheld⟩
  rw [wp_ret]; imodintro
  iapply (wp_hlo_within 𝒱 (T d) none Set.univ (op := opNbr) (S := ucRefs τ sig) sub_opNbr) $$ [Hb Hheld]
  · isplitl [Hb] <;> iassumption
  iintro ⟨Hb, Hheld⟩
  rw [wp_ret]; imodintro
  iapply (wp_hlo_within 𝒱 (T d) none Set.univ (op := opB) (S := ucRefs τ sig) sub_opB) $$ [Hb Hheld]
  · isplitl [Hb] <;> iassumption
  iintro ⟨Hb, Hheld⟩
  rw [wp_ret]; imodintro
  iapply (wp_hlo_within 𝒱 (T d) none Set.univ (op := opG1) (S := ucRefs τ sig) sub_opG1) $$ [Hb Hheld]
  · isplitl [Hb] <;> iassumption
  iintro ⟨Hb, Hheld⟩
  rw [wp_ret]; imodintro
  iapply (wp_hlo_within 𝒱 (T d) none Set.univ (op := opB1) (S := ucRefs τ sig) sub_opB1) $$ [Hb Hheld]
  · isplitl [Hb] <;> iassumption
  iintro ⟨Hb, Hheld⟩
  rw [wp_ret]; imodintro
  iapply (wp_hlo_within 𝒱 (T d) none Set.univ (op := opG2) (S := ucRefs τ sig) sub_opG2) $$ [Hb Hheld]
  · isplitl [Hb] <;> iassumption
  iintro ⟨Hb, Hheld⟩
  rw [wp_ret]; imodintro
  iapply (wp_hlo_within 𝒱 (T d) none Set.univ (op := opB2) (S := ucRefs τ sig) sub_opB2) $$ [Hb Hheld]
  · isplitl [Hb] <;> iassumption
  iintro ⟨Hb, Hheld⟩
  rw [wp_ret]; imodintro
  ihave Hst := (Entails.of_eq (tcSt_eq (F := F) d 0)) $$ Hst
  icases Hst with ⟨HO, Hrst⟩
  iapply (wp_call 0 launch0 0 (V0 m) (V0' m) (AFT m) (hbody0 (V0 m) (V1 m) (V2 m) (V3 m) 0) (hF0 m) (hne0 m) d _)
  isplitr; · iexact Hlev
  isplitl [Hb]; · iexact Hb
  isplitl [Hheld]; · iexact Hheld
  isplitl [HO]; · iexact HO
  isplitl [Hg0]; · iexact Hg0
  isplitl [Ht0]; · iexact Ht0
  iintro ⟨Hb, Hheld, HO⟩
  ihave Hst := (Entails.of_eq (tcSt_eq (F := F) d 0).symm) $$ [HO Hrst]
  · isplitl [HO] <;> iassumption
  iapply (wp_hlo_within 𝒱 (T d) none Set.univ (op := opJ) (S := ucRefs τ sig) sub_opJ (V := V0' m d)) $$ [Hb Hheld]
  · isplitl [Hb] <;> iassumption
  iintro ⟨Hb, Hheld⟩
  rw [wp_ret]; imodintro
  ihave Hh := (Entails.of_eq (show (held (T d) (ucRefs τ sig) ((opJ (F := F)).result (V0' m d)) : sProp 𝕄) = _ from held_VJ (F := F) m d)) $$ Hheld
  icases Hh with ⟨Hcall, Hrest⟩
  ihave Hin := (call_in (tab m) (lst m) d (VJ m d (bf main_v10))) $$ Hcall
  icases Hin with ⟨Hin, Hxd⟩
  iapply ((K (F := F)).wp_run (D (F := F)) 𝒱 (EH := EH) (P := P (tab m) (lst m)) κ d 0) $$ [Hst Hin Hxd Hrest Hb Hts Hg1 Hg2 Hg3 Ht1 Ht2 Ht3]
  isplitr; · iexact Hctx
  isplitl [Hst]; · iexact Hst
  isplitl [Hin]; · iexact Hin
  iintro ⟨Hst, Hdn⟩
  ihave Hout := (call_out (tab m) (lst m) d) $$ [Hdn Hxd]
  · isplitl [Hdn]; · iexact Hdn
    iexact Hxd
  icases Hout with ⟨Hcall, Hbars⟩
  ihave Hheld := (Entails.of_eq (held_V1 (F := F) m d).symm) $$ [Hcall Hrest]
  · isplitl [Hcall] <;> iassumption
  ihave Hst := (Entails.of_eq (show ((K (F := F)).tcSt EH d ((0 : Fin 1).val + 1) : sProp 𝕄) = _ from tcSt_eq (F := F) d 1)) $$ Hst
  icases Hst with ⟨HO, Hrst⟩
  iapply (wp_call 1 launch2 1 (V1 m) (V2 m) (AFT m) (hbody1 (V0 m) (V1 m) (V2 m) (V3 m) 1) (hF1 m) (hne1 m) d _)
  isplitr; · iexact Hlev
  isplitl [Hb]; · iexact Hb
  isplitl [Hheld]; · iexact Hheld
  isplitl [HO]; · iexact HO
  isplitl [Hg1]; · iexact Hg1
  isplitl [Ht1]; · iexact Ht1
  iintro ⟨Hb, Hheld, HO⟩
  iapply (wp_call 2 launch3 1 (V2 m) (V3 m) (AFT m) (hbody2 (V0 m) (V1 m) (V2 m) (V3 m) 1) (hF2 m) (hne2 m) d _)
  isplitr; · iexact Hlev
  isplitl [Hb]; · iexact Hb
  isplitl [Hheld]; · iexact Hheld
  isplitl [HO]; · iexact HO
  isplitl [Hg2]; · iexact Hg2
  isplitl [Ht2]; · iexact Ht2
  iintro ⟨Hb, Hheld, HO⟩
  iapply (wp_call 3 launch4 1 (V3 m) (V4 m) (AFT m) (hbody3 (V0 m) (V1 m) (V2 m) (V3 m) 1) (hF3 m) (hne3 m) d _)
  isplitr; · iexact Hlev
  isplitl [Hb]; · iexact Hb
  isplitl [Hheld]; · iexact Hheld
  isplitl [HO]; · iexact HO
  isplitl [Hg3]; · iexact Hg3
  isplitl [Ht3]; · iexact Ht3
  iintro ⟨Hb, Hheld, HO⟩
  imodintro
  isplitl [HO Hrst]
  · iapply (Entails.of_eq (tcSt_eq (F := F) d 1).symm); isplitl [HO] <;> iassumption
  isplitl [Hbars Hheld]
  · isplitl [Hbars] <;> iassumption
  isplitl [Hb] <;> iassumption

/-! ## The run -/

def fq (d : Dev nD) (s' : Phys nD τ sig (Elt F)) : Prop :=
  (∀ (c : Fin ((K (F := F)).nCore 0)) (i : Fin ((K (F := F)).nSub 0)), s'.mem.sem (bcell d (coreOf (F := F) c) ((K (F := F)).sub 0 i)) = 0)
    ∧ ∀ b ∈ ucRefs τ sig, s'.mem.mem (d, b) = V4 m d b

omit [FloatOps F] in
theorem read_all (ℓ : Loc nD τ sig) (f : Buf (Elt F) ℓ) (s' : Phys nD τ sig (Elt F)) : iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp 𝕄) :=
  fun x hx => ⟨fun c i => ((sep_mono_left (sep_elim_left.trans ((SparseCore.ent (bigSep_elim (Finset.mem_univ c))).trans (SparseCore.ent (bigSep_elim (Finset.mem_univ i)))))).trans
      (SparseCore.Cfg.semVal_zero_read _ s')) x hx,
    fun b hb => ((sep_mono_left (sep_elim_right.trans (SparseCore.ent (bigSep_elim (Φ := fun b => ((d, b) : Loc nD τ sig) ↦{fullShare} V4 m d b) hb)))).trans (read_all (d, b) _ s')) x hx⟩

theorem hA (s' : Phys nD τ sig (Elt F)) (h : ∀ d, fq m d s') (g : GSem nD τ sig) (hg : g ∈ bCells) : s'.mem.sem g = 0 := by
  obtain ⟨⟨d, c, i⟩, -, rfl⟩ := Finset.mem_image.mp hg
  exact (h d).1 ⟨c.val, c.isLt⟩ ⟨i.val, i.isLt⟩

/-- The run's end: every array at the last valuation, every semaphore at zero. -/
def QC : PUnit × MemSt nD τ sig (Elt F) → Prop := fun r =>
  (∀ c : Dev nD, ∀ b ∈ ucRefs τ sig, r.2.mem (c, b) = V4 m c b) ∧ r.2.sem = fun _ => 0

theorem run_main [∀ e, Nonempty (Elt F e)] (hJ : ∀ d x, (lst m d x).toNat < 10000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (tab m) (lst m)) (hA := hA m) facts v₀
    (fun q hq => match q with | 0 => nomatch hq)
    (fun q _ => match q with | 0 => tileObl (tab m) (lst m) facts hJ)
    (fun q _ => match q with | 0 => vecSplit (tab m) (lst m))
    m ρ main (fun d => pGhost d) (FIN m) (u₀ (F := F)) (hu₀ (tab m) (lst m)) (hmain m ρ) (fq m) (hfin m) (QC m) (fun _ h hz => ⟨fun c => (h c).2, hz⟩)

/-- The arguments end as launched. -/
theorem V4_arg (d : Dev nD) (b : Ref sig .tc)
    (hb : b ∉ ({main_v0, main_c, main_v1, main_v2, main_v3, main_v4, main_v5, main_v6, main_v7, main_v8, main_v9, main_v10, main_v11, main_v12_0, main_v12_1, main_v13} : Finset (Ref sig .tc))) :
    V4 m d (bf b) = m (d, bf b) := by
  simp only [Finset.mem_insert, Finset.mem_singleton, not_or] at hb
  obtain ⟨h0, h1, h2, h3, h4, h5, h6, h7, h8, h9, h10, h11, h12, h13, h14, h15⟩ := hb
  rw [V4_ne m d b h15, V3_ne m d b h14 h13, V2_ne m d b h12, V1_ne m d b h11, VJ_of_ne m d b h10, V0'_ne m d b h9]
  exact V0_arg m d b (by simp only [Finset.mem_insert, Finset.mem_singleton, not_or]; exact ⟨h0, h1, h2, h3, h4, h5, h6, h7, h8⟩)

end Cert.Proof.Tiles
-- ==== Proof.Args.lean ====
/-
  What the host lays out before the calls, at any float values: the reshaped arguments, and the padded list of index
  words, which names a row of the table everywhere.
-/
module

public import proofs.«01_k».proof.Proof.Launch
public import proofs.«01_k».proof.Proof.Rows

@[expose] public section

noncomputable section

namespace Cert.Proof.Args

open Cert.KernelIdeal Cert.KernelIdeal.Gen Cert.Proof.Tiles Cert.Proof.Rows
open Idealize.ShloMosaic hiding ix0 ix1 ix2 eq_ix2 eq_ix1
open Idealize.ShloMosaic.ValueIdx

variable {F : FTy → Type} [FloatOps F]
variable (m : (ℓ : Loc nD τ sig) → Buf (Elt F) ℓ) (d : Dev nD)

/-- The index argument. -/
def words : IVec (⟨2, ![10000, 32]⟩ : Shape) 32 := m (d, bf main_arg2)

/-! ## The reshaped arguments -/

theorem V0_v2 : V0 m d (bf main_v2) = shapeCast S320000x16 (m (d, bf main_arg1)) shapeCasts_S10000x32x16_S320000x16 := by
  unfold V0
  rw [(opB2 (F := F)).result_of_not_mem (b := bf main_v2) _ (show bf main_v2 ∉ ({bf main_v7} : Finset (DevRef τ sig)) from fun h => bf_ne (by decide) (Finset.mem_singleton.mp h)),
    (opG2 (F := F)).result_of_not_mem (b := bf main_v2) _ (show bf main_v2 ∉ ({bf main_v6} : Finset (DevRef τ sig)) from fun h => bf_ne (by decide) (Finset.mem_singleton.mp h)),
    (opB1 (F := F)).result_of_not_mem (b := bf main_v2) _ (show bf main_v2 ∉ ({bf main_v5} : Finset (DevRef τ sig)) from fun h => bf_ne (by decide) (Finset.mem_singleton.mp h)),
    (opG1 (F := F)).result_of_not_mem (b := bf main_v2) _ (show bf main_v2 ∉ ({bf main_v4} : Finset (DevRef τ sig)) from fun h => bf_ne (by decide) (Finset.mem_singleton.mp h)),
    (opB (F := F)).result_of_not_mem (b := bf main_v2) _ (show bf main_v2 ∉ ({bf main_v3} : Finset (DevRef τ sig)) from fun h => bf_ne (by decide) (Finset.mem_singleton.mp h))]
  refine (StableHlo.reshape_result _ _ _ _ _ _ _).trans (congrArg (fun v => shapeCast S320000x16 v shapeCasts_S10000x32x16_S320000x16) ?_)
  rw [(opPad (F := F)).result_of_not_mem (b := bf main_arg1) _ (show bf main_arg1 ∉ ({bf main_v1} : Finset (DevRef τ sig)) from fun h => bf_ne (by decide) (Finset.mem_singleton.mp h)),
    (opC (F := F)).result_of_not_mem (b := bf main_arg1) _ (show bf main_arg1 ∉ ({bf main_c} : Finset (DevRef τ sig)) from fun h => bf_ne (by decide) (Finset.mem_singleton.mp h)),
    (opFlat (F := F)).result_of_not_mem (b := bf main_arg1) _ (show bf main_arg1 ∉ ({bf main_v0} : Finset (DevRef τ sig)) from fun h => bf_ne (by decide) (Finset.mem_singleton.mp h))]
  rfl

theorem V0_v3 : V0 m d (bf main_v3) = shapeCast S1x256 (m (d, bf main_arg4)) shapeCasts_S256_S1x256 := by
  unfold V0
  rw [(opB2 (F := F)).result_of_not_mem (b := bf main_v3) _ (show bf main_v3 ∉ ({bf main_v7} : Finset (DevRef τ sig)) from fun h => bf_ne (by decide) (Finset.mem_singleton.mp h)),
    (opG2 (F := F)).result_of_not_mem (b := bf main_v3) _ (show bf main_v3 ∉ ({bf main_v6} : Finset (DevRef τ sig)) from fun h => bf_ne (by decide) (Finset.mem_singleton.mp h)),
    (opB1 (F := F)).result_of_not_mem (b := bf main_v3) _ (show bf main_v3 ∉ ({bf main_v5} : Finset (DevRef τ sig)) from fun h => bf_ne (by decide) (Finset.mem_singleton.mp h)),
    (opG1 (F := F)).result_of_not_mem (b := bf main_v3) _ (show bf main_v3 ∉ ({bf main_v4} : Finset (DevRef τ sig)) from fun h => bf_ne (by decide) (Finset.mem_singleton.mp h))]
  refine (StableHlo.reshape_result _ _ _ _ _ _ _).trans (congrArg (fun v => shapeCast S1x256 v shapeCasts_S256_S1x256) ?_)
  rw [(opNbr (F := F)).result_of_not_mem (b := bf main_arg4) _ (show bf main_arg4 ∉ ({bf main_v2} : Finset (DevRef τ sig)) from fun h => bf_ne (by decide) (Finset.mem_singleton.mp h)),
    (opPad (F := F)).result_of_not_mem (b := bf main_arg4) _ (show bf main_arg4 ∉ ({bf main_v1} : Finset (DevRef τ sig)) from fun h => bf_ne (by decide) (Finset.mem_singleton.mp h)),
    (opC (F := F)).result_of_not_mem (b := bf main_arg4) _ (show bf main_arg4 ∉ ({bf main_c} : Finset (DevRef τ sig)) from fun h => bf_ne (by decide) (Finset.mem_singleton.mp h)),
    (opFlat (F := F)).result_of_not_mem (b := bf main_arg4) _ (show bf main_arg4 ∉ ({bf main_v0} : Finset (DevRef τ sig)) from fun h => bf_ne (by decide) (Finset.mem_singleton.mp h))]
  rfl

theorem V0_v4 : V0 m d (bf main_v4) = shapeCast S1x256 (m (d, bf main_arg5)) shapeCasts_S256_S1x256 := by
  unfold V0
  rw [(opB2 (F := F)).result_of_not_mem (b := bf main_v4) _ (show bf main_v4 ∉ ({bf main_v7} : Finset (DevRef τ sig)) from fun h => bf_ne (by decide) (Finset.mem_singleton.mp h)),
    (opG2 (F := F)).result_of_not_mem (b := bf main_v4) _ (show bf main_v4 ∉ ({bf main_v6} : Finset (DevRef τ sig)) from fun h => bf_ne (by decide) (Finset.mem_singleton.mp h)),
    (opB1 (F := F)).result_of_not_mem (b := bf main_v4) _ (show bf main_v4 ∉ ({bf main_v5} : Finset (DevRef τ sig)) from fun h => bf_ne (by decide) (Finset.mem_singleton.mp h))]
  refine (StableHlo.reshape_result _ _ _ _ _ _ _).trans (congrArg (fun v => shapeCast S1x256 v shapeCasts_S256_S1x256) ?_)
  rw [(opB (F := F)).result_of_not_mem (b := bf main_arg5) _ (show bf main_arg5 ∉ ({bf main_v3} : Finset (DevRef τ sig)) from fun h => bf_ne (by decide) (Finset.mem_singleton.mp h)),
    (opNbr (F := F)).result_of_not_mem (b := bf main_arg5) _ (show bf main_arg5 ∉ ({bf main_v2} : Finset (DevRef τ sig)) from fun h => bf_ne (by decide) (Finset.mem_singleton.mp h)),
    (opPad (F := F)).result_of_not_mem (b := bf main_arg5) _ (show bf main_arg5 ∉ ({bf main_v1} : Finset (DevRef τ sig)) from fun h => bf_ne (by decide) (Finset.mem_singleton.mp h)),
    (opC (F := F)).result_of_not_mem (b := bf main_arg5) _ (show bf main_arg5 ∉ ({bf main_c} : Finset (DevRef τ sig)) from fun h => bf_ne (by decide) (Finset.mem_singleton.mp h)),
    (opFlat (F := F)).result_of_not_mem (b := bf main_arg5) _ (show bf main_arg5 ∉ ({bf main_v0} : Finset (DevRef τ sig)) from fun h => bf_ne (by decide) (Finset.mem_singleton.mp h))]
  rfl

theorem V0_v5 : V0 m d (bf main_v5) = shapeCast S1x256 (m (d, bf main_arg6)) shapeCasts_S256_S1x256 := by
  unfold V0
  rw [(opB2 (F := F)).result_of_not_mem (b := bf main_v5) _ (show bf main_v5 ∉ ({bf main_v7} : Finset (DevRef τ sig)) from fun h => bf_ne (by decide) (Finset.mem_singleton.mp h)),
    (opG2 (F := F)).result_of_not_mem (b := bf main_v5) _ (show bf main_v5 ∉ ({bf main_v6} : Finset (DevRef τ sig)) from fun h => bf_ne (by decide) (Finset.mem_singleton.mp h))]
  refine (StableHlo.reshape_result _ _ _ _ _ _ _).trans (congrArg (fun v => shapeCast S1x256 v shapeCasts_S256_S1x256) ?_)
  rw [(opG1 (F := F)).result_of_not_mem (b := bf main_arg6) _ (show bf main_arg6 ∉ ({bf main_v4} : Finset (DevRef τ sig)) from fun h => bf_ne (by decide) (Finset.mem_singleton.mp h)),
    (opB (F := F)).result_of_not_mem (b := bf main_arg6) _ (show bf main_arg6 ∉ ({bf main_v3} : Finset (DevRef τ sig)) from fun h => bf_ne (by decide) (Finset.mem_singleton.mp h)),
    (opNbr (F := F)).result_of_not_mem (b := bf main_arg6) _ (show bf main_arg6 ∉ ({bf main_v2} : Finset (DevRef τ sig)) from fun h => bf_ne (by decide) (Finset.mem_singleton.mp h)),
    (opPad (F := F)).result_of_not_mem (b := bf main_arg6) _ (show bf main_arg6 ∉ ({bf main_v1} : Finset (DevRef τ sig)) from fun h => bf_ne (by decide) (Finset.mem_singleton.mp h)),
    (opC (F := F)).result_of_not_mem (b := bf main_arg6) _ (show bf main_arg6 ∉ ({bf main_c} : Finset (DevRef τ sig)) from fun h => bf_ne (by decide) (Finset.mem_singleton.mp h)),
    (opFlat (F := F)).result_of_not_mem (b := bf main_arg6) _ (show bf main_arg6 ∉ ({bf main_v0} : Finset (DevRef τ sig)) from fun h => bf_ne (by decide) (Finset.mem_singleton.mp h))]
  rfl

theorem V0_v6 : V0 m d (bf main_v6) = shapeCast S1x128 (m (d, bf main_arg7)) shapeCasts_S128_S1x128 := by
  unfold V0
  rw [(opB2 (F := F)).result_of_not_mem (b := bf main_v6) _ (show bf main_v6 ∉ ({bf main_v7} : Finset (DevRef τ sig)) from fun h => bf_ne (by decide) (Finset.mem_singleton.mp h))]
  refine (StableHlo.reshape_result _ _ _ _ _ _ _).trans (congrArg (fun v => shapeCast S1x128 v shapeCasts_S128_S1x128) ?_)
  rw [(opB1 (F := F)).result_of_not_mem (b := bf main_arg7) _ (show bf main_arg7 ∉ ({bf main_v5} : Finset (DevRef τ sig)) from fun h => bf_ne (by decide) (Finset.mem_singleton.mp h)),
    (opG1 (F := F)).result_of_not_mem (b := bf main_arg7) _ (show bf main_arg7 ∉ ({bf main_v4} : Finset (DevRef τ sig)) from fun h => bf_ne (by decide) (Finset.mem_singleton.mp h)),
    (opB (F := F)).result_of_not_mem (b := bf main_arg7) _ (show bf main_arg7 ∉ ({bf main_v3} : Finset (DevRef τ sig)) from fun h => bf_ne (by decide) (Finset.mem_singleton.mp h)),
    (opNbr (F := F)).result_of_not_mem (b := bf main_arg7) _ (show bf main_arg7 ∉ ({bf main_v2} : Finset (DevRef τ sig)) from fun h => bf_ne (by decide) (Finset.mem_singleton.mp h)),
    (opPad (F := F)).result_of_not_mem (b := bf main_arg7) _ (show bf main_arg7 ∉ ({bf main_v1} : Finset (DevRef τ sig)) from fun h => bf_ne (by decide) (Finset.mem_singleton.mp h)),
    (opC (F := F)).result_of_not_mem (b := bf main_arg7) _ (show bf main_arg7 ∉ ({bf main_c} : Finset (DevRef τ sig)) from fun h => bf_ne (by decide) (Finset.mem_singleton.mp h)),
    (opFlat (F := F)).result_of_not_mem (b := bf main_arg7) _ (show bf main_arg7 ∉ ({bf main_v0} : Finset (DevRef τ sig)) from fun h => bf_ne (by decide) (Finset.mem_singleton.mp h))]
  rfl

theorem V0_v7 : V0 m d (bf main_v7) = shapeCast S1x128 (m (d, bf main_arg8)) shapeCasts_S128_S1x128 := by
  unfold V0
  refine (StableHlo.reshape_result _ _ _ _ _ _ _).trans (congrArg (fun v => shapeCast S1x128 v shapeCasts_S128_S1x128) ?_)
  rw [(opG2 (F := F)).result_of_not_mem (b := bf main_arg8) _ (show bf main_arg8 ∉ ({bf main_v6} : Finset (DevRef τ sig)) from fun h => bf_ne (by decide) (Finset.mem_singleton.mp h)),
    (opB1 (F := F)).result_of_not_mem (b := bf main_arg8) _ (show bf main_arg8 ∉ ({bf main_v5} : Finset (DevRef τ sig)) from fun h => bf_ne (by decide) (Finset.mem_singleton.mp h)),
    (opG1 (F := F)).result_of_not_mem (b := bf main_arg8) _ (show bf main_arg8 ∉ ({bf main_v4} : Finset (DevRef τ sig)) from fun h => bf_ne (by decide) (Finset.mem_singleton.mp h)),
    (opB (F := F)).result_of_not_mem (b := bf main_arg8) _ (show bf main_arg8 ∉ ({bf main_v3} : Finset (DevRef τ sig)) from fun h => bf_ne (by decide) (Finset.mem_singleton.mp h)),
    (opNbr (F := F)).result_of_not_mem (b := bf main_arg8) _ (show bf main_arg8 ∉ ({bf main_v2} : Finset (DevRef τ sig)) from fun h => bf_ne (by decide) (Finset.mem_singleton.mp h)),
    (opPad (F := F)).result_of_not_mem (b := bf main_arg8) _ (show bf main_arg8 ∉ ({bf main_v1} : Finset (DevRef τ sig)) from fun h => bf_ne (by decide) (Finset.mem_singleton.mp h)),
    (opC (F := F)).result_of_not_mem (b := bf main_arg8) _ (show bf main_arg8 ∉ ({bf main_c} : Finset (DevRef τ sig)) from fun h => bf_ne (by decide) (Finset.mem_singleton.mp h)),
    (opFlat (F := F)).result_of_not_mem (b := bf main_arg8) _ (show bf main_arg8 ∉ ({bf main_v0} : Finset (DevRef τ sig)) from fun h => bf_ne (by decide) (Finset.mem_singleton.mp h))]
  rfl

theorem V0_v0 : V0 m d (bf main_v0) = shapeCast S1x320000 (words m d) shapeCasts_S10000x32_S1x320000 := by
  unfold V0
  rw [(opB2 (F := F)).result_of_not_mem (b := bf main_v0) _ (show bf main_v0 ∉ ({bf main_v7} : Finset (DevRef τ sig)) from fun h => bf_ne (by decide) (Finset.mem_singleton.mp h)),
    (opG2 (F := F)).result_of_not_mem (b := bf main_v0) _ (show bf main_v0 ∉ ({bf main_v6} : Finset (DevRef τ sig)) from fun h => bf_ne (by decide) (Finset.mem_singleton.mp h)),
    (opB1 (F := F)).result_of_not_mem (b := bf main_v0) _ (show bf main_v0 ∉ ({bf main_v5} : Finset (DevRef τ sig)) from fun h => bf_ne (by decide) (Finset.mem_singleton.mp h)),
    (opG1 (F := F)).result_of_not_mem (b := bf main_v0) _ (show bf main_v0 ∉ ({bf main_v4} : Finset (DevRef τ sig)) from fun h => bf_ne (by decide) (Finset.mem_singleton.mp h)),
    (opB (F := F)).result_of_not_mem (b := bf main_v0) _ (show bf main_v0 ∉ ({bf main_v3} : Finset (DevRef τ sig)) from fun h => bf_ne (by decide) (Finset.mem_singleton.mp h)),
    (opNbr (F := F)).result_of_not_mem (b := bf main_v0) _ (show bf main_v0 ∉ ({bf main_v2} : Finset (DevRef τ sig)) from fun h => bf_ne (by decide) (Finset.mem_singleton.mp h)),
    (opPad (F := F)).result_of_not_mem (b := bf main_v0) _ (show bf main_v0 ∉ ({bf main_v1} : Finset (DevRef τ sig)) from fun h => bf_ne (by decide) (Finset.mem_singleton.mp h)),
    (opC (F := F)).result_of_not_mem (b := bf main_v0) _ (show bf main_v0 ∉ ({bf main_c} : Finset (DevRef τ sig)) from fun h => bf_ne (by decide) (Finset.mem_singleton.mp h))]
  exact StableHlo.reshape_result _ _ _ _ _ _ _

theorem V0_v1 : V0 m d (bf main_v1) = broadcastInDim S1x3584 ![] bcast_S_S1x3584 (constantI S_ 32 0#32) := by
  unfold V0
  rw [(opB2 (F := F)).result_of_not_mem (b := bf main_v1) _ (show bf main_v1 ∉ ({bf main_v7} : Finset (DevRef τ sig)) from fun h => bf_ne (by decide) (Finset.mem_singleton.mp h)),
    (opG2 (F := F)).result_of_not_mem (b := bf main_v1) _ (show bf main_v1 ∉ ({bf main_v6} : Finset (DevRef τ sig)) from fun h => bf_ne (by decide) (Finset.mem_singleton.mp h)),
    (opB1 (F := F)).result_of_not_mem (b := bf main_v1) _ (show bf main_v1 ∉ ({bf main_v5} : Finset (DevRef τ sig)) from fun h => bf_ne (by decide) (Finset.mem_singleton.mp h)),
    (opG1 (F := F)).result_of_not_mem (b := bf main_v1) _ (show bf main_v1 ∉ ({bf main_v4} : Finset (DevRef τ sig)) from fun h => bf_ne (by decide) (Finset.mem_singleton.mp h)),
    (opB (F := F)).result_of_not_mem (b := bf main_v1) _ (show bf main_v1 ∉ ({bf main_v3} : Finset (DevRef τ sig)) from fun h => bf_ne (by decide) (Finset.mem_singleton.mp h)),
    (opNbr (F := F)).result_of_not_mem (b := bf main_v1) _ (show bf main_v1 ∉ ({bf main_v2} : Finset (DevRef τ sig)) from fun h => bf_ne (by decide) (Finset.mem_singleton.mp h))]
  refine (StableHlo.unary_result _ _ _ _ _ _).trans ?_
  rw [show (opC (F := F)).result ((opFlat (F := F)).result (Vm m d)) (Proc.devRef .tc main_c) = constantI S_ 32 0#32 from StableHlo.nullary_result _ _ _ _]

/-! ## The padded list -/

/-- The words laid flat, then zeros. -/
theorem lst_eq : lst m d
    = concatenate S1x323584 1 [⟨S1x320000, shapeCast S1x320000 (words m d) shapeCasts_S10000x32_S1x320000⟩,
        ⟨S1x3584, broadcastInDim S1x3584 ![] bcast_S_S1x3584 (constantI S_ 32 0#32)⟩] concatenates_S1x320000_S1x3584_S1x323584_d1 := by
  unfold lst VJ
  refine (StableHlo.binary_result _ _ _ _ _ _ _ _).trans ?_
  rw [show V0' m d (bf main_v0) = _ from (V0'_ne m d _ (by decide)).trans (V0_v0 m d), show V0' m d (bf main_v1) = _ from (V0'_ne m d _ (by decide)).trans (V0_v1 m d)]

theorem lst_left (r : Fin 323584) (hr : r.val < 320000) : lst m d (jAt r) = flat (words m d) (ix1 ⟨r.val, hr⟩) := by
  rw [lst_eq, concatenate_pair_apply_left (t := S1x323584) (s₁ := S1x320000) (s₂ := S1x3584) 1 _ _ _ (jAt r) rfl (show S1x320000.Idx from ix2 (0 : Fin 1) (⟨r.val, hr⟩ : Fin 320000)) fun b => by
    match b with
    | ⟨0, _⟩ => rfl
    | ⟨1, _⟩ => rfl]
  rw [show shapeCast S1x320000 (words m d) shapeCasts_S10000x32_S1x320000 = shapeCast S1x320000 (flat (words m d)) (by decide) from (shapeCast_comp _ _ _).symm]
  exact shapeCast_a_1a_apply _ _ _ _

theorem lst_right (r : Fin 323584) (hr : 320000 ≤ r.val) : lst m d (jAt r) = 0#32 := by
  have hr' := r.isLt
  rw [lst_eq, concatenate_pair_apply_right (t := S1x323584) (s₁ := S1x320000) (s₂ := S1x3584) 1 _ _ _ (jAt r) rfl rfl (show S1x3584.Idx from ix2 (0 : Fin 1) (⟨r.val - 320000, by omega⟩ : Fin 3584)) (fun b hb => by
    match b with
    | ⟨0, _⟩ => rfl
    | ⟨1, _⟩ => exact absurd rfl hb) (by show r.val - 320000 + 320000 = r.val; omega)]
  rfl

theorem jAt_surj (x : S1x323584.Idx) : x = jAt (x 1) := by
  funext a
  match a with
  | ⟨0, _⟩ => exact Subsingleton.elim (α := Fin 1) _ _
  | ⟨1, _⟩ => rfl

theorem lst_lt (h : InRange (words m d)) (x : S1x323584.Idx) : (lst m d x).toNat < 10000 := by
  obtain ⟨r, rfl⟩ : ∃ r : Fin 323584, x = jAt r := ⟨x 1, jAt_surj x⟩
  by_cases hr : r.val < 320000
  · rw [lst_left m d _ hr]
    exact flat_lt h _
  · rw [lst_right m d _ (by omega)]
    decide

/-- The gathered rows: edge `r`'s is the table's row at flat word `r`. -/
theorem gat_at (h : InRange (words m d)) (r : Fin 320000) (k : Fin 128) : gat (tab m d) (lst m d) (ix2 ⟨r.val, by omega⟩ k) = tab m d (ix2 ⟨(flat (words m d) (ix1 r)).toNat, flat_lt h _⟩ k) := by
  show tab m d (xAt ((lst m d (jAt ⟨r.val, _⟩)).toNat % 10000) _ k) = _
  refine congrArg (tab m d) (funext fun a => Fin.ext ?_)
  match a with
  | ⟨0, _⟩ =>
    show (lst m d (jAt ⟨r.val, _⟩)).toNat % 10000 = (flat (words m d) (ix1 r)).toNat
    rw [lst_left m d _ r.isLt]
    exact Nat.mod_eq_of_lt (flat_lt h _)
  | ⟨1, _⟩ => rfl

end Cert.Proof.Args

end
-- ==== Proof.Blocks.lean ====
/-
  The blocks of the four TensorCore calls at coordinates: what each call reads at a point, and what its result arrays
  hold after it.
-/
module

public import proofs.«01_k».proof.Proof.Obl
public import Idealize.ShloMosaic.Lib.Pipeline.ValueKit.Geometry
public import Idealize.ShloMosaic.Lib.Pipeline.ValueKit.Acc
public import Idealize.ShloMosaic.Lib.Pointwise

@[expose] public section

noncomputable section

namespace Cert.Proof.Blocks

open Cert.KernelIdeal Cert.KernelIdeal.Gen Cert.Proof.Tiles
open Idealize.ShloMosaic Idealize.ShloMosaic.TcCoe
open Idealize.ShloMosaic.Pipeline (Dat Cfg)

variable {F : FTy → Type} [FloatOps F]

/-- A TensorCore buffer's place among a valuation's. -/
abbrev at_ (b : Ref sig .tc) : DevRef τ sig := Proc.devRef .tc b

theorem i0_0 : ∀ t : Fin grid0.N, win0_0.index t = ![t.val, 0] := by decide +kernel
theorem i0_1 : ∀ t : Fin grid0.N, win0_1.index t = ![0, 0] := by decide +kernel
theorem i0_2 : ∀ t : Fin grid0.N, win0_2.index t = ![0, 0] := by decide +kernel
theorem i0_3 : ∀ t : Fin grid0.N, win0_3.index t = ![t.val, 0] := by decide +kernel
theorem i2_0 : ∀ t : Fin grid2.N, win2_0.index t = ![t.val, 0] := by decide +kernel
theorem i2_1 : ∀ t : Fin grid2.N, win2_1.index t = ![t.val, 0] := by decide +kernel
theorem i2_2 : ∀ t : Fin grid2.N, win2_2.index t = ![t.val, 0] := by decide +kernel
theorem i2_3 : ∀ t : Fin grid2.N, win2_3.index t = ![0, 0] := by decide +kernel
theorem i3_0 : ∀ t : Fin grid3.N, win3_0.index t = ![t.val, 0] := by decide +kernel
theorem i3_1 : ∀ t : Fin grid3.N, win3_1.index t = ![t.val, 0] := by decide +kernel
theorem i3_2 : ∀ t : Fin grid3.N, win3_2.index t = ![t.val, 0] := by decide +kernel
theorem i3_3 : ∀ t : Fin grid3.N, win3_3.index t = ![0, 0] := by decide +kernel
theorem i3_4 : ∀ t : Fin grid3.N, win3_4.index t = ![0, 0] := by decide +kernel
theorem i3_5 : ∀ t : Fin grid3.N, win3_5.index t = ![0, 0] := by decide +kernel
theorem i3_6 : ∀ t : Fin grid3.N, win3_6.index t = ![0, 0] := by decide +kernel
theorem i3_7 : ∀ t : Fin grid3.N, win3_7.index t = ![t.val, 0] := by decide +kernel
theorem i4_0 : ∀ t : Fin grid4.N, win4_0.index t = ![t.val, 0] := by decide +kernel
theorem i4_1 : ∀ t : Fin grid4.N, win4_1.index t = ![t.val, 0] := by decide +kernel
theorem i4_2 : ∀ t : Fin grid4.N, win4_2.index t = ![0, 0] := by decide +kernel
theorem i4_3 : ∀ t : Fin grid4.N, win4_3.index t = ![0, 0] := by decide +kernel
theorem i4_4 : ∀ t : Fin grid4.N, win4_4.index t = ![0, 0] := by decide +kernel
theorem i4_5 : ∀ t : Fin grid4.N, win4_5.index t = ![t.val, 0] := by decide +kernel

theorem l10 (t : Fin cfg0.N) : t.val < 10 := N_0 ▸ t.isLt
theorem l50 (t : Fin cfg2.N) : t.val < 50 := N_2 ▸ t.isLt
theorem l50' (t : Fin cfg3.N) : t.val < 50 := N_3 ▸ t.isLt
theorem l10' (t : Fin cfg4.N) : t.val < 10 := N_4 ▸ t.isLt

theorem p49 : 49 < cfg2.N := by have h : cfg2.N = 50 := N_2; omega
theorem p49' : 49 < cfg3.N := by have h : cfg3.N = 50 := N_3; omega

variable (V : Valuation τ sig (Elt F))

/-! ## What a point reads -/

theorem b0_0 (t : Fin cfg0.N) (r : Fin 1000) (k : Fin 128) :
    inB cfg0 V 0 t (ix2 r k) = V (at_ main_arg0) (ix2 ⟨t.val * 1000 + r.val, by have := l10 t; omega⟩ k) := by
  show V (at_ main_arg0) (((cfg0.win 0).blk t).view.emb (ix2 r k)) = _
  congr 1
  blk_ext [i0_0]

theorem b0_1 (t : Fin cfg0.N) (r : Fin 272) (k : Fin 256) : inB cfg0 V 1 t (ix2 r k) = V (at_ main_arg3) (ix2 r k) := by
  show V (at_ main_arg3) (((cfg0.win 1).blk t).view.emb (ix2 r k)) = _
  congr 1
  blk_ext [i0_1]

theorem b0_2 (t : Fin cfg0.N) (r : Fin 1) (k : Fin 256) : inB cfg0 V 2 t (ix2 r k) = V (at_ main_v3) (ix2 r k) := by
  show V (at_ main_v3) (((cfg0.win 2).blk t).view.emb (ix2 r k)) = _
  congr 1
  blk_ext [i0_2]

theorem g2 (t : Fin cfg2.N) (r : Fin 6400) (k : Fin 128) :
    gB2 V t (ix2 r k) = V (at_ main_v10) (ix2 ⟨t.val * 6400 + r.val, by have := l50 t; omega⟩ k) := by
  have hm : (cfg2.win 0).moved (cfg2.grid.coords t) (ix2 r k) = true :=
    ((cfg2.win 0).moved_iff _ (ix2 r k)).mpr fun a => by
      have := ((ix2 r k : S6400x128.Idx) a).isLt
      unfold Pipeline.Window.xsize
      rw [show (cfg2.win 0).clip (cfg2.grid.coords t) a = none from clip2 t a]
      exact this
  unfold gB2 Pipeline.Window.fill
  rw [dif_pos hm]
  show V (at_ main_v10) (((cfg2.win 0).blk t).view.emb _) = _
  congr 1
  blk_ext [i2_0]

theorem b2_1 (t : Fin cfg2.N) (r : Fin 6400) (k : Fin 16) :
    inB cfg2 V 1 t (ix2 r k) = V (at_ main_v2) (ix2 ⟨t.val * 6400 + r.val, by have := l50 t; omega⟩ k) := by
  show V (at_ main_v2) (((cfg2.win 1).blk t).view.emb (ix2 r k)) = _
  congr 1
  blk_ext [i2_1]

theorem b2_2 (t : Fin cfg2.N) (r : Fin 200) (k : Fin 256) :
    inB cfg2 V 2 t (ix2 r k) = V (at_ main_v8) (ix2 ⟨t.val * 200 + r.val, by have := l50 t; omega⟩ k) := by
  show V (at_ main_v8) (((cfg2.win 2).blk t).view.emb (ix2 r k)) = _
  congr 1
  blk_ext [i2_2]

theorem b2_3 (t : Fin cfg2.N) (r : Fin 272) (k : Fin 256) : inB cfg2 V 3 t (ix2 r k) = V (at_ main_arg3) (ix2 r k) := by
  show V (at_ main_arg3) (((cfg2.win 3).blk t).view.emb (ix2 r k)) = _
  congr 1
  blk_ext [i2_3]

theorem g3 (t : Fin cfg3.N) (r : Fin 6400) (k : Fin 128) :
    gB3 V t (ix2 r k) = V (at_ main_v10) (ix2 ⟨t.val * 6400 + r.val, by have := l50' t; omega⟩ k) := by
  have hm : (cfg3.win 0).moved (cfg3.grid.coords t) (ix2 r k) = true :=
    ((cfg3.win 0).moved_iff _ (ix2 r k)).mpr fun a => by
      have := ((ix2 r k : S6400x128.Idx) a).isLt
      unfold Pipeline.Window.xsize
      rw [show (cfg3.win 0).clip (cfg3.grid.coords t) a = none from clip3 t a]
      exact this
  unfold gB3 Pipeline.Window.fill
  rw [dif_pos hm]
  show V (at_ main_v10) (((cfg3.win 0).blk t).view.emb _) = _
  congr 1
  blk_ext [i3_0]

theorem b3_1 (t : Fin cfg3.N) (r : Fin 6400) (k : Fin 16) :
    inB cfg3 V 1 t (ix2 r k) = V (at_ main_v2) (ix2 ⟨t.val * 6400 + r.val, by have := l50' t; omega⟩ k) := by
  show V (at_ main_v2) (((cfg3.win 1).blk t).view.emb (ix2 r k)) = _
  congr 1
  blk_ext [i3_1]

theorem b3_2 (t : Fin cfg3.N) (r : Fin 200) (k : Fin 256) :
    inB cfg3 V 2 t (ix2 r k) = V (at_ main_v8) (ix2 ⟨t.val * 200 + r.val, by have := l50' t; omega⟩ k) := by
  show V (at_ main_v8) (((cfg3.win 2).blk t).view.emb (ix2 r k)) = _
  congr 1
  blk_ext [i3_2]

theorem b3_3 (t : Fin cfg3.N) (r : Fin 272) (k : Fin 256) : inB cfg3 V 3 t (ix2 r k) = V (at_ main_arg3) (ix2 r k) := by
  show V (at_ main_arg3) (((cfg3.win 3).blk t).view.emb (ix2 r k)) = _
  congr 1
  blk_ext [i3_3]

theorem b3_4 (t : Fin cfg3.N) (r : Fin 8) (k : Fin 256) : inB cfg3 V 4 t (ix2 r k) = V (at_ main_v11) (ix2 r k) := by
  show V (at_ main_v11) (((cfg3.win 4).blk t).view.emb (ix2 r k)) = _
  congr 1
  blk_ext [i3_4]

theorem b3_5 (t : Fin cfg3.N) (r : Fin 1) (k : Fin 256) : inB cfg3 V 5 t (ix2 r k) = V (at_ main_v4) (ix2 r k) := by
  show V (at_ main_v4) (((cfg3.win 5).blk t).view.emb (ix2 r k)) = _
  congr 1
  blk_ext [i3_5]

theorem b3_6 (t : Fin cfg3.N) (r : Fin 1) (k : Fin 256) : inB cfg3 V 6 t (ix2 r k) = V (at_ main_v5) (ix2 r k) := by
  show V (at_ main_v5) (((cfg3.win 6).blk t).view.emb (ix2 r k)) = _
  congr 1
  blk_ext [i3_6]

theorem b4_0 (t : Fin cfg4.N) (r : Fin 1000) (k : Fin 128) :
    inB cfg4 V 0 t (ix2 r k) = V (at_ main_arg0) (ix2 ⟨t.val * 1000 + r.val, by have := l10' t; omega⟩ k) := by
  show V (at_ main_arg0) (((cfg4.win 0).blk t).view.emb (ix2 r k)) = _
  congr 1
  blk_ext [i4_0]

theorem b4_1 (t : Fin cfg4.N) (r : Fin 1000) (k : Fin 128) :
    inB cfg4 V 1 t (ix2 r k) = V (at_ main_v12_0) (ix2 ⟨t.val * 1000 + r.val, by have := l10' t; omega⟩ k) := by
  show V (at_ main_v12_0) (((cfg4.win 1).blk t).view.emb (ix2 r k)) = _
  congr 1
  blk_ext [i4_1]

theorem b4_2 (t : Fin cfg4.N) (r : Fin 8) (k : Fin 128) : inB cfg4 V 2 t (ix2 r k) = V (at_ main_v12_1) (ix2 r k) := by
  show V (at_ main_v12_1) (((cfg4.win 2).blk t).view.emb (ix2 r k)) = _
  congr 1
  blk_ext [i4_2]

theorem b4_3 (t : Fin cfg4.N) (r : Fin 1) (k : Fin 128) : inB cfg4 V 3 t (ix2 r k) = V (at_ main_v6) (ix2 r k) := by
  show V (at_ main_v6) (((cfg4.win 3).blk t).view.emb (ix2 r k)) = _
  congr 1
  blk_ext [i4_3]

theorem b4_4 (t : Fin cfg4.N) (r : Fin 1) (k : Fin 128) : inB cfg4 V 4 t (ix2 r k) = V (at_ main_v7) (ix2 r k) := by
  show V (at_ main_v7) (((cfg4.win 4).blk t).view.emb (ix2 r k)) = _
  congr 1
  blk_ext [i4_4]

/-! ## What a call leaves -/

theorem a0_3 (c : Dev nD) (n : ℕ) (t : Fin cfg0.N) (r : Fin 1000) (k : Fin 256) :
    (datOf (cfg := cfg0) c n V (aft0 V)).arrAt 3 cfg0.N (ix2 ⟨t.val * 1000 + r.val, by have := l10 t; omega⟩ k) = out0 V t (ix2 r k) := by
  have h := (datOf (cfg := cfg0) c n V (aft0 V)).arrAt_emb_eq_flushed 3
    (Pipeline.Window.hdisj_of_index_inj _ (by decide +kernel)) t (flush0_3 t) (ix2 r k)
  refine (congrArg ((datOf (cfg := cfg0) c n V (aft0 V)).arrAt 3 cfg0.N) ?_).trans (h.trans rfl)
  blk_ext [i0_3]

theorem a2_4 (c : Dev nD) (n : ℕ) (r : Fin 8) (k : Fin 256) :
    (datOf (cfg := cfg2) c n V (aft2 V)).arrAt 4 cfg2.N (ix2 r k) = acc2 V 49 p49 (ix2 r k) :=
  (datOf (cfg := cfg2) c n V (aft2 V)).arrAt_emb_eq_after_last 4 ⟨49, p49⟩ (by decide +kernel) (ix2 r k)

theorem a3_7 (c : Dev nD) (n : ℕ) (t : Fin cfg3.N) (r : Fin 200) (k : Fin 128) :
    (datOf (cfg := cfg3) c n V (aft3 V)).arrAt 7 cfg3.N (ix2 ⟨t.val * 200 + r.val, by have := l50' t; omega⟩ k) = out3 V t (ix2 r k) := by
  have h := (datOf (cfg := cfg3) c n V (aft3 V)).arrAt_emb_eq_flushed 7
    (Pipeline.Window.hdisj_of_index_inj _ (by decide +kernel)) t (flush3_7 t) (ix2 r k)
  refine (congrArg ((datOf (cfg := cfg3) c n V (aft3 V)).arrAt 7 cfg3.N) ?_).trans (h.trans rfl)
  blk_ext [i3_7]

theorem a3_8 (c : Dev nD) (n : ℕ) (r : Fin 8) (k : Fin 128) :
    (datOf (cfg := cfg3) c n V (aft3 V)).arrAt 8 cfg3.N (ix2 r k) = acc3 V 49 p49' (ix2 r k) :=
  (datOf (cfg := cfg3) c n V (aft3 V)).arrAt_emb_eq_after_last 8 ⟨49, p49'⟩ (by decide +kernel) (ix2 r k)

theorem a4_5 (c : Dev nD) (n : ℕ) (t : Fin cfg4.N) (r : Fin 1000) (k : Fin 128) :
    (datOf (cfg := cfg4) c n V (aft4 V)).arrAt 5 cfg4.N (ix2 ⟨t.val * 1000 + r.val, by have := l10' t; omega⟩ k) = out4 V t (ix2 r k) := by
  have h := (datOf (cfg := cfg4) c n V (aft4 V)).arrAt_emb_eq_flushed 5
    (Pipeline.Window.hdisj_of_index_inj _ (by decide +kernel)) t (flush4_5 t) (ix2 r k)
  refine (congrArg ((datOf (cfg := cfg4) c n V (aft4 V)).arrAt 5 cfg4.N) ?_).trans (h.trans rfl)
  blk_ext [i4_5]

end Cert.Proof.Blocks
-- ==== Proof.Calls.lean ====
/-
  The four TensorCore calls on real arrays: what each leaves, in the layer's terms.
-/
module

public import proofs.«01_k».proof.Proof.Blocks
public import proofs.«01_k».proof.Proof.Spec

@[expose] public section

noncomputable section

namespace Cert.Proof.Calls

open Cert.KernelIdeal Cert.KernelIdeal.Gen Cert.Proof.Tiles Cert.Proof.Blocks Cert.Proof.Spec
open Idealize.ShloMosaic Idealize.ShloMosaic.TcCoe

/-! ## Rows of the weights and of the accumulators -/

theorem wTop_at (X : Vec Ideal S272x256 .f32) (k : Fin 128) (c : Fin 256) : wTop X (ix2 k c) = X (ix2 ⟨k.val, by omega⟩ c) := by
  pointwise [wTop]
theorem wMid_at (X : Vec Ideal S272x256 .f32) (k : Fin 128) (c : Fin 256) : wMid X (ix2 k c) = X (ix2 ⟨128 + k.val, by omega⟩ c) := by
  pointwise [wMid]
theorem wLow_at (X : Vec Ideal S272x256 .f32) (k : Fin 16) (c : Fin 256) : wLow X (ix2 k c) = X (ix2 ⟨256 + k.val, by omega⟩ c) := by
  pointwise [wLow]
theorem row0_at (X : Vec Ideal S8x256 .f32) (c : Fin 256) : row0 X (ix2 0 c) = X (ix2 0 c) := by
  pointwise [row0]
theorem row1_at (X : Vec Ideal S8x256 .f32) (c : Fin 256) : row1 X (ix2 0 c) = X (ix2 1 c) := by
  pointwise [row1]
theorem hrow0_at (X : Vec Ideal S8x128 .f32) (c : Fin 128) : hrow0 X (ix2 0 c) = X (ix2 0 c) := by
  pointwise [hrow0]
theorem hrow1_at (X : Vec Ideal S8x128 .f32) (c : Fin 128) : hrow1 X (ix2 0 c) = X (ix2 1 c) := by
  pointwise [hrow1]
theorem set0_at (X : Vec Ideal S8x256 .f32) (P Q : Vec Ideal S1x256 .f32) (c : Fin 256) : setRows X P Q (ix2 0 c) = P (ix2 0 c) :=
  (if_pos rfl).trans (congrArg P (ix2_eq_valueIdx (n0 := 1) 0 c).symm)
theorem set1_at (X : Vec Ideal S8x256 .f32) (P Q : Vec Ideal S1x256 .f32) (c : Fin 256) : setRows X P Q (ix2 1 c) = Q (ix2 0 c) :=
  (if_neg Nat.one_ne_zero).trans ((if_pos rfl).trans (congrArg Q (ix2_eq_valueIdx (n0 := 1) 0 c).symm))
theorem hset0_at (X : Vec Ideal S8x128 .f32) (P Q : Vec Ideal S1x128 .f32) (c : Fin 128) : hsetRows X P Q (ix2 0 c) = P (ix2 0 c) :=
  (if_pos rfl).trans (congrArg P (ix2_eq_valueIdx (n0 := 1) 0 c).symm)
theorem hset1_at (X : Vec Ideal S8x128 .f32) (P Q : Vec Ideal S1x128 .f32) (c : Fin 128) : hsetRows X P Q (ix2 1 c) = Q (ix2 0 c) :=
  (if_neg Nat.one_ne_zero).trans ((if_pos rfl).trans (congrArg Q (ix2_eq_valueIdx (n0 := 1) 0 c).symm))
theorem zero2_at (r : Fin 8) (c : Fin 256) : k2_pay2 (F := Ideal) (ix2 r c) = (0 : EReal) := by
  pointwise [k2_pay2]
theorem zero3_at (r : Fin 8) (c : Fin 128) : k3_pay8 (F := Ideal) (ix2 r c) = (0 : EReal) := by
  pointwise [k3_pay8]

/-- Atom `i` is atom `r` of block `t`. -/
theorem atom (n s : ℕ) (h : 10000 = n * s) (i : Fin 10000) : ∃ (t r : ℕ) (ht : t < n) (hr : r < s) (h : t * s + r < 10000), i = ⟨t * s + r, h⟩ := by
  have hi := i.isLt
  have hs : 0 < s := Nat.pos_of_ne_zero fun e => by subst e; omega
  have e : i.val / s * s + i.val % s = i.val := by rw [Nat.mul_comm]; exact Nat.div_add_mod _ _
  exact ⟨i.val / s, i.val % s, (Nat.div_lt_iff_lt_mul hs).2 (by omega), Nat.mod_lt _ hs, by omega, Fin.ext e.symm⟩

/-! ## The payloads on real arrays -/

theorem k0_real (w : Vec Ideal S128x256 .f32) (x : Vec Ideal S1000x128 .f32) (b : Vec Ideal S1x256 .f32) (r : Fin 1000) (c : Fin 256) (fx fw : Fin 128 → ℝ) (fb : ℝ)
    (hx : ∀ k, x (ix2 r k) = (fx k : EReal)) (hw : ∀ k, w (ix2 k c) = (fw k : EReal)) (hb : b (ix2 0 c) = (fb : EReal)) :
    k0_pay1 w x b (ix2 r c) = ((∑ k, fx k * fw k + fb : ℝ) : EReal) := by
  rw [Pay.k0_at]
  simp only [hx, hw, hb, ← EReal.coe_mul, sum_coe, ← EReal.coe_add]

theorem z_real (w : Vec Ideal S128x256 .f32) (u : Vec Ideal S16x256 .f32) (g : Vec Ideal S6400x128 .f32) (n : Vec Ideal S6400x16 .f32) (p : Vec Ideal S200x256 .f32)
    (a : Fin 200) (j : Fin 32) (c : Fin 256) (fg fw : Fin 128 → ℝ) (fn fu : Fin 16 → ℝ) (fp : ℝ)
    (hg : ∀ k, g (ix2 ⟨a.val * 32 + j.val, by omega⟩ k) = (fg k : EReal)) (hw : ∀ k, w (ix2 k c) = (fw k : EReal))
    (hn : ∀ k, n (ix2 ⟨a.val * 32 + j.val, by omega⟩ k) = (fn k : EReal)) (hu : ∀ k, u (ix2 k c) = (fu k : EReal)) (hp : p (ix2 a c) = (fp : EReal)) :
    k2_pay1 w u g n p (ix3 a j c) = ((∑ k, fg k * fw k + ∑ k, fn k * fu k + fp : ℝ) : EReal) := by
  rw [Pay.k2_z]
  simp only [hg, hw, hn, hu, hp, ← EReal.coe_mul, sum_coe, ← EReal.coe_add]

theorem pr_real (w : Vec Ideal S128x256 .f32) (u : Vec Ideal S16x256 .f32) (g : Vec Ideal S6400x128 .f32) (n : Vec Ideal S6400x16 .f32)
    (a : Fin 200) (j : Fin 32) (c : Fin 256) (fg fw : Fin 128 → ℝ) (fn fu : Fin 16 → ℝ)
    (hg : ∀ k, g (ix2 ⟨a.val * 32 + j.val, by omega⟩ k) = (fg k : EReal)) (hw : ∀ k, w (ix2 k c) = (fw k : EReal))
    (hn : ∀ k, n (ix2 ⟨a.val * 32 + j.val, by omega⟩ k) = (fn k : EReal)) (hu : ∀ k, u (ix2 k c) = (fu k : EReal)) :
    k3_pay6 w u g n (ix3 a j c) = ((∑ k, fg k * fw k + ∑ k, fn k * fu k : ℝ) : EReal) := by
  rw [Pay.k3_pr]
  simp only [hg, hw, hn, hu, ← EReal.coe_mul, sum_coe, ← EReal.coe_add]

theorem k4_real (v0 : Vec Ideal S8x128 .f32) (g b : Vec Ideal S1x128 .f32) (x s : Vec Ideal S1000x128 .f32) (r : Fin 1000) (k : Fin 128) (I : Inp) (i : Fin 10000)
    (h0 : v0 (ix2 0 k) = (sum2 I k : EReal)) (h1 : v0 (ix2 1 k) = (sq2 I k : EReal)) (hg : g (ix2 0 k) = (I.g2 k : EReal)) (hb : b (ix2 0 k) = I.b2 k)
    (hx : x (ix2 r k) = (I.x i k : EReal)) (hs : s (ix2 r k) = (msg I i k : EReal)) :
    k4_pay1 (k4_pay4 v0 g b x s) (k4_pay5 v0 g b x s) (k4_pay6 v0 g b x s) (ix2 r k) = out I i k := by
  rw [Pay.k4_out, Pay.k4_y, h0, h1, hg, hb, hx, hs, scale2_coe, last_eq]
  rfl

variable (I : Inp) (V : Valuation τ sig (Elt Ideal))

/-- A TensorCore buffer of a valuation, as extended reals. -/
abbrev X0 : Vec Ideal S10000x128 .f32 := V (at_ main_arg0)
abbrev XW : Vec Ideal S272x256 .f32 := V (at_ main_arg3)
abbrev XB : Vec Ideal S1x256 .f32 := V (at_ main_v3)
abbrev XG : Vec Ideal S323584x128 .f32 := V (at_ main_v10)
abbrev XN : Vec Ideal S320000x16 .f32 := V (at_ main_v2)
abbrev XP : Vec Ideal S10000x256 .f32 := V (at_ main_v8)
abbrev XS : Vec Ideal S8x256 .f32 := V (at_ main_v11)
abbrev Xg1 : Vec Ideal S1x256 .f32 := V (at_ main_v4)
abbrev Xb1 : Vec Ideal S1x256 .f32 := V (at_ main_v5)
abbrev XM : Vec Ideal S10000x128 .f32 := V (at_ main_v12_0)
abbrev XT : Vec Ideal S8x128 .f32 := V (at_ main_v12_1)
abbrev Xg2 : Vec Ideal S1x128 .f32 := V (at_ main_v6)
abbrev Xb2 : Vec Ideal S1x128 .f32 := V (at_ main_v7)

theorem call0 (c : Dev nD) (n : ℕ) (hX : ∀ i k, X0 V (ix2 i k) = (I.x i k : EReal)) (hW : ∀ k c, XW V (ix2 k c) = (I.W k c : EReal))
    (hB : ∀ c, XB V (ix2 0 c) = (I.b c : EReal)) (i : Fin 10000) (k : Fin 256) :
    (datOf (cfg := cfg0) c n V (aft0 V)).arrAt 3 cfg0.N (ix2 i k) = (own I i k : EReal) := by
  obtain ⟨t, r, ht, hr, hlt, rfl⟩ := atom 10 1000 (by norm_num) i
  have hN : t < cfg0.N := by have h : cfg0.N = 10 := N_0; omega
  exact (a0_3 V c n ⟨t, hN⟩ ⟨r, hr⟩ k).trans (k0_real _ _ _ _ _ (fun l => I.x ⟨t * 1000 + r, hlt⟩ l) (fun l => I.W ⟨l.val, by omega⟩ k) (I.b k)
    (fun l => (b0_0 V ⟨t, hN⟩ ⟨r, hr⟩ l).trans (hX _ _)) (fun l => (wTop_at _ l k).trans ((b0_1 V ⟨t, hN⟩ _ _).trans (hW _ _))) ((b0_2 V ⟨t, hN⟩ 0 k).trans (hB k)))

section Edge

theorem edge_lt (i : Fin 10000) (j : Fin 32) : i.val * 32 + j.val < 320000 := by omega
theorem slot_lt (i : Fin 10000) (j : Fin 32) : i.val * 32 + j.val < 323584 := by omega

variable {I V} (hG : ∀ (i : Fin 10000) (j : Fin 32) k, XG V (ix2 ⟨i.val * 32 + j.val, slot_lt i j⟩ k) = (I.x (I.ix i j) k : EReal))
  (hN : ∀ (i : Fin 10000) (j : Fin 32) k, XN V (ix2 ⟨i.val * 32 + j.val, edge_lt i j⟩ k) = (I.nb i j k : EReal))
  (hP : ∀ i c, XP V (ix2 i c) = (own I i c : EReal)) (hW : ∀ k c, XW V (ix2 k c) = (I.W k c : EReal))
include hG hN hP hW

theorem z2_coe (t : Fin cfg2.N) (a : Fin 200) (j : Fin 32) (c : Fin 256) :
    k2_pay1 (wMid (inB cfg2 V 3 t)) (wLow (inB cfg2 V 3 t)) (gB2 V t) (inB cfg2 V 1 t) (inB cfg2 V 2 t) (ix3 a j c)
      = (z I ⟨t.val * 200 + a.val, by have := l50 t; omega⟩ j c : EReal) := by
  have ht := l50 t
  have e : ∀ h, (⟨t.val * 6400 + (a.val * 32 + j.val), h⟩ : Fin 320000) = ⟨(⟨t.val * 200 + a.val, by omega⟩ : Fin 10000).val * 32 + j.val, by dsimp only; omega⟩ := fun h => Fin.ext (by dsimp only; omega)
  have e' : ∀ h, (⟨t.val * 6400 + (a.val * 32 + j.val), h⟩ : Fin 323584) = ⟨(⟨t.val * 200 + a.val, by omega⟩ : Fin 10000).val * 32 + j.val, by dsimp only; omega⟩ := fun h => Fin.ext (by dsimp only; omega)
  refine (z_real _ _ _ _ _ _ _ _ _ (fun l => I.W ⟨128 + l.val, by omega⟩ c) _ (fun l => I.W ⟨256 + l.val, by omega⟩ c) _
    (fun l => (g2 V t _ l).trans ((congrArg (fun q => XG V (ix2 q l)) (e' _)).trans (hG _ j l)))
    (fun l => (wMid_at _ l c).trans ((b2_3 V t _ _).trans (hW _ _)))
    (fun l => (b2_1 V t _ l).trans ((congrArg (fun q => XN V (ix2 q l)) (e _)).trans (hN _ j l)))
    (fun l => (wLow_at _ l c).trans ((b2_3 V t _ _).trans (hW _ _)))
    ((b2_2 V t a c).trans (hP _ _))).trans ?_
  rfl

/-- The sums of a block of atoms. -/
def bs (I : Inp) (s : ℕ) (c : Fin 256) : ℝ := if h : s < 50 then ∑ a : Fin 200, ∑ j : Fin 32, z I ⟨s * 200 + a.val, by omega⟩ j c else 0
def bq (I : Inp) (s : ℕ) (c : Fin 256) : ℝ := if h : s < 50 then ∑ a : Fin 200, ∑ j : Fin 32, z I ⟨s * 200 + a.val, by omega⟩ j c * z I ⟨s * 200 + a.val, by omega⟩ j c else 0

theorem step2_0 (t : Fin cfg2.N) (X : Vec Ideal S8x256 .f32) (c : Fin 256) : step2 V t X (ix2 0 c) = X (ix2 0 c) + (bs I t.val c : EReal) := by
  unfold step2
  rw [set0_at, Pay.k2_s, row0_at]
  simp only [z2_coe hG hN hP hW, sum_coe]
  unfold bs
  rw [dif_pos (l50 t)]

theorem step2_1 (t : Fin cfg2.N) (X : Vec Ideal S8x256 .f32) (c : Fin 256) : step2 V t X (ix2 1 c) = X (ix2 1 c) + (bq I t.val c : EReal) := by
  unfold step2
  rw [set1_at, Pay.k2_q, row1_at]
  simp only [z2_coe hG hN hP hW, ← EReal.coe_mul, sum_coe]
  unfold bq
  rw [dif_pos (l50 t)]

theorem acc2_0 (c : Fin 256) : ∀ (k : ℕ) (h : k < cfg2.N), acc2 V k h (ix2 0 c) = ((∑ s ∈ Finset.range (k + 1), bs I s c : ℝ) : EReal)
  | 0, h => by
    show step2 V ⟨0, h⟩ (k2_pay2 (F := Ideal)) (ix2 0 c) = _
    rw [step2_0 hG hN hP hW, zero2_at, zero_add, zero_add, Finset.sum_range_one]
  | k + 1, h => by
    show step2 V ⟨k + 1, h⟩ (acc2 V k (Nat.lt_of_succ_lt h)) (ix2 0 c) = _
    rw [step2_0 hG hN hP hW, acc2_0 c k, Finset.sum_range_succ _ (k + 1), EReal.coe_add]

theorem acc2_1 (c : Fin 256) : ∀ (k : ℕ) (h : k < cfg2.N), acc2 V k h (ix2 1 c) = ((∑ s ∈ Finset.range (k + 1), bq I s c : ℝ) : EReal)
  | 0, h => by
    show step2 V ⟨0, h⟩ (k2_pay2 (F := Ideal)) (ix2 1 c) = _
    rw [step2_1 hG hN hP hW, zero2_at, zero_add, zero_add, Finset.sum_range_one]
  | k + 1, h => by
    show step2 V ⟨k + 1, h⟩ (acc2 V k (Nat.lt_of_succ_lt h)) (ix2 1 c) = _
    rw [step2_1 hG hN hP hW, acc2_1 c k, Finset.sum_range_succ _ (k + 1), EReal.coe_add]

omit hG hN hP hW in
theorem bs_all (c : Fin 256) : ∑ s ∈ Finset.range 50, bs I s c = sum1 I c := by
  rw [Finset.sum_range]
  refine Eq.trans (Finset.sum_congr rfl fun s _ => dif_pos s.isLt) ?_
  exact Fin.sum_mul_add_fin 50 200 (fun i : Fin 10000 => ∑ j : Fin 32, z I i j c)

omit hG hN hP hW in
theorem bq_all (c : Fin 256) : ∑ s ∈ Finset.range 50, bq I s c = sq1 I c := by
  rw [Finset.sum_range]
  refine Eq.trans (Finset.sum_congr rfl fun s _ => dif_pos s.isLt) ?_
  exact Fin.sum_mul_add_fin 50 200 (fun i : Fin 10000 => ∑ j : Fin 32, z I i j c * z I i j c)

theorem call2_0 (d : Dev nD) (n : ℕ) (c : Fin 256) : (datOf (cfg := cfg2) d n V (aft2 V)).arrAt 4 cfg2.N (ix2 0 c) = (sum1 I c : EReal) :=
  (a2_4 V d n 0 c).trans ((acc2_0 hG hN hP hW c 49 _).trans (congrArg _ (bs_all c)))
theorem call2_1 (d : Dev nD) (n : ℕ) (c : Fin 256) : (datOf (cfg := cfg2) d n V (aft2 V)).arrAt 4 cfg2.N (ix2 1 c) = (sq1 I c : EReal) :=
  (a2_4 V d n 1 c).trans ((acc2_1 hG hN hP hW c 49 _).trans (congrArg _ (bq_all c)))

/-! ## The gate pass -/

variable (hS0 : ∀ c, XS V (ix2 0 c) = (sum1 I c : EReal)) (hS1 : ∀ c, XS V (ix2 1 c) = (sq1 I c : EReal))
  (hg : ∀ c, Xg1 V (ix2 0 c) = (I.g1 c : EReal)) (hb : ∀ c, Xb1 V (ix2 0 c) = (I.b1 c : EReal))
include hS0 hS1 hg hb

omit hG hN hP hW hb in
theorem sc3_coe (t : Fin cfg3.N) (c : Fin 256) : sc3 V t (ix2 0 c) = (scale1 I c : EReal) := by
  have h0 : inB cfg3 V 4 t (ix2 0 c) = (sum1 I c : EReal) := (b3_4 V t 0 c).trans (hS0 c)
  have h1 : inB cfg3 V 4 t (ix2 1 c) = (sq1 I c : EReal) := (b3_4 V t 1 c).trans (hS1 c)
  have h2 : inB cfg3 V 5 t (ix2 0 c) = (I.g1 c : EReal) := (b3_5 V t 0 c).trans (hg c)
  unfold sc3
  rw [Pay.k3_sc, h0, h1, h2]
  exact scale1_coe I c

omit hG hN hP hW in
theorem sh3_coe (t : Fin cfg3.N) (c : Fin 256) : sh3 V t (ix2 0 c) = (shift1 I c : EReal) := by
  have h0 : inB cfg3 V 4 t (ix2 0 c) = (sum1 I c : EReal) := (b3_4 V t 0 c).trans (hS0 c)
  have h2 : inB cfg3 V 6 t (ix2 0 c) = (I.b1 c : EReal) := (b3_6 V t 0 c).trans (hb c)
  have h3 : k3_pay4 (inB cfg3 V 4 t) (inB cfg3 V 5 t) (ix2 0 c) = (scale1 I c : EReal) := sc3_coe hS0 hS1 hg t c
  unfold sh3
  rw [Pay.k3_sh, h3, h0, h2]
  exact shift1_coe I c

omit hP hS0 hS1 hg hb in
theorem pr3_coe (t : Fin cfg3.N) (a : Fin 200) (j : Fin 32) (c : Fin 256) :
    pr3 V t (ix3 a j c) = (edge I ⟨t.val * 200 + a.val, by have := l50' t; omega⟩ j c : EReal) := by
  have ht := l50' t
  have e : ∀ h, (⟨t.val * 6400 + (a.val * 32 + j.val), h⟩ : Fin 320000) = ⟨(⟨t.val * 200 + a.val, by omega⟩ : Fin 10000).val * 32 + j.val, by dsimp only; omega⟩ := fun h => Fin.ext (by dsimp only; omega)
  have e' : ∀ h, (⟨t.val * 6400 + (a.val * 32 + j.val), h⟩ : Fin 323584) = ⟨(⟨t.val * 200 + a.val, by omega⟩ : Fin 10000).val * 32 + j.val, by dsimp only; omega⟩ := fun h => Fin.ext (by dsimp only; omega)
  unfold pr3
  refine (pr_real _ _ _ _ _ _ _ _ (fun l => I.W ⟨128 + l.val, by omega⟩ c) _ (fun l => I.W ⟨256 + l.val, by omega⟩ c)
    (fun l => (g3 V t _ l).trans ((congrArg (fun q => XG V (ix2 q l)) (e' _)).trans (hG _ j l)))
    (fun l => (wMid_at _ l c).trans ((b3_3 V t _ _).trans (hW _ _)))
    (fun l => (b3_1 V t _ l).trans ((congrArg (fun q => XN V (ix2 q l)) (e _)).trans (hN _ j l)))
    (fun l => (wLow_at _ l c).trans ((b3_3 V t _ _).trans (hW _ _)))).trans ?_
  rfl

theorem out3_coe (t : Fin cfg3.N) (a : Fin 200) (c : Fin 128) :
    k3_pay7 (sc3 V t) (sh3 V t) (pr3 V t) (inB cfg3 V 2 t) (ix2 a c) = (msg I ⟨t.val * 200 + a.val, by have := l50' t; omega⟩ c : EReal) := by
  rw [Pay.k3_out]
  simp only [sc3_coe hS0 hS1 hg, sh3_coe hS0 hS1 hg hb, pr3_coe hG hN hW, b3_2, hP]
  simp only [← EReal.coe_add, ← EReal.coe_mul, Ideal.logistic_coe, spE_coe, sum_coe]
  refine congrArg _ (Finset.sum_congr rfl fun j _ => ?_)
  rw [← y1_eq, ← y1_eq]
  rfl

theorem call3_s (d : Dev nD) (n : ℕ) (i : Fin 10000) (k : Fin 128) : (datOf (cfg := cfg3) d n V (aft3 V)).arrAt 7 cfg3.N (ix2 i k) = (msg I i k : EReal) := by
  obtain ⟨t, r, ht, hr, hlt, rfl⟩ := atom 50 200 (by norm_num) i
  exact (a3_7 V d n ⟨t, by have h : cfg3.N = 50 := N_3; omega⟩ ⟨r, hr⟩ k).trans (out3_coe hG hN hP hW hS0 hS1 hg hb _ _ _)

/-- The sums of a block of atoms' messages. -/
def cs (I : Inp) (s : ℕ) (c : Fin 128) : ℝ := if h : s < 50 then ∑ a : Fin 200, msg I ⟨s * 200 + a.val, by omega⟩ c else 0
def cq (I : Inp) (s : ℕ) (c : Fin 128) : ℝ := if h : s < 50 then ∑ a : Fin 200, msg I ⟨s * 200 + a.val, by omega⟩ c * msg I ⟨s * 200 + a.val, by omega⟩ c else 0

theorem step3_0 (t : Fin cfg3.N) (X : Vec Ideal S8x128 .f32) (c : Fin 128) : step3 V t X (ix2 0 c) = X (ix2 0 c) + (cs I t.val c : EReal) := by
  unfold step3
  rw [hset0_at, Pay.k3_s, hrow0_at]
  simp only [out3_coe hG hN hP hW hS0 hS1 hg hb, sum_coe]
  unfold cs
  rw [dif_pos (l50' t)]

theorem step3_1 (t : Fin cfg3.N) (X : Vec Ideal S8x128 .f32) (c : Fin 128) : step3 V t X (ix2 1 c) = X (ix2 1 c) + (cq I t.val c : EReal) := by
  unfold step3
  rw [hset1_at, Pay.k3_q, hrow1_at]
  simp only [out3_coe hG hN hP hW hS0 hS1 hg hb, ← EReal.coe_mul, sum_coe]
  unfold cq
  rw [dif_pos (l50' t)]

theorem acc3_0 (c : Fin 128) : ∀ (k : ℕ) (h : k < cfg3.N), acc3 V k h (ix2 0 c) = ((∑ s ∈ Finset.range (k + 1), cs I s c : ℝ) : EReal)
  | 0, h => by
    show step3 V ⟨0, h⟩ (k3_pay8 (F := Ideal)) (ix2 0 c) = _
    rw [step3_0 hG hN hP hW hS0 hS1 hg hb, zero3_at, zero_add, zero_add, Finset.sum_range_one]
  | k + 1, h => by
    show step3 V ⟨k + 1, h⟩ (acc3 V k (Nat.lt_of_succ_lt h)) (ix2 0 c) = _
    rw [step3_0 hG hN hP hW hS0 hS1 hg hb, acc3_0 c k, Finset.sum_range_succ _ (k + 1), EReal.coe_add]

theorem acc3_1 (c : Fin 128) : ∀ (k : ℕ) (h : k < cfg3.N), acc3 V k h (ix2 1 c) = ((∑ s ∈ Finset.range (k + 1), cq I s c : ℝ) : EReal)
  | 0, h => by
    show step3 V ⟨0, h⟩ (k3_pay8 (F := Ideal)) (ix2 1 c) = _
    rw [step3_1 hG hN hP hW hS0 hS1 hg hb, zero3_at, zero_add, zero_add, Finset.sum_range_one]
  | k + 1, h => by
    show step3 V ⟨k + 1, h⟩ (acc3 V k (Nat.lt_of_succ_lt h)) (ix2 1 c) = _
    rw [step3_1 hG hN hP hW hS0 hS1 hg hb, acc3_1 c k, Finset.sum_range_succ _ (k + 1), EReal.coe_add]

omit hG hN hP hW hS0 hS1 hg hb in
theorem cs_all (c : Fin 128) : ∑ s ∈ Finset.range 50, cs I s c = sum2 I c := by
  rw [Finset.sum_range]
  refine Eq.trans (Finset.sum_congr rfl fun s _ => dif_pos s.isLt) ?_
  exact Fin.sum_mul_add_fin 50 200 (fun i : Fin 10000 => msg I i c)

omit hG hN hP hW hS0 hS1 hg hb in
theorem cq_all (c : Fin 128) : ∑ s ∈ Finset.range 50, cq I s c = sq2 I c := by
  rw [Finset.sum_range]
  refine Eq.trans (Finset.sum_congr rfl fun s _ => dif_pos s.isLt) ?_
  exact Fin.sum_mul_add_fin 50 200 (fun i : Fin 10000 => msg I i c * msg I i c)

theorem call3_0 (d : Dev nD) (n : ℕ) (c : Fin 128) : (datOf (cfg := cfg3) d n V (aft3 V)).arrAt 8 cfg3.N (ix2 0 c) = (sum2 I c : EReal) :=
  (a3_8 V d n 0 c).trans ((acc3_0 hG hN hP hW hS0 hS1 hg hb c 49 _).trans (congrArg _ (cs_all c)))
theorem call3_1 (d : Dev nD) (n : ℕ) (c : Fin 128) : (datOf (cfg := cfg3) d n V (aft3 V)).arrAt 8 cfg3.N (ix2 1 c) = (sq2 I c : EReal) :=
  (a3_8 V d n 1 c).trans ((acc3_1 hG hN hP hW hS0 hS1 hg hb c 49 _).trans (congrArg _ (cq_all c)))

end Edge

/-! ## The final pass -/

theorem call4 (d : Dev nD) (n : ℕ) (hX : ∀ i k, X0 V (ix2 i k) = (I.x i k : EReal)) (hM : ∀ i k, XM V (ix2 i k) = (msg I i k : EReal))
    (hT0 : ∀ c, XT V (ix2 0 c) = (sum2 I c : EReal)) (hT1 : ∀ c, XT V (ix2 1 c) = (sq2 I c : EReal))
    (hg : ∀ c, Xg2 V (ix2 0 c) = (I.g2 c : EReal)) (hb : ∀ c, Xb2 V (ix2 0 c) = I.b2 c) (i : Fin 10000) (k : Fin 128) :
    (datOf (cfg := cfg4) d n V (aft4 V)).arrAt 5 cfg4.N (ix2 i k) = out I i k := by
  obtain ⟨t, r, ht, hr, hlt, rfl⟩ := atom 10 1000 (by norm_num) i
  have hN : t < cfg4.N := by have h : cfg4.N = 10 := N_4; omega
  exact (a4_5 V d n ⟨t, hN⟩ ⟨r, hr⟩ k).trans (k4_real _ _ _ _ _ _ _ I _ ((b4_2 V ⟨t, hN⟩ 0 k).trans (hT0 k)) ((b4_2 V ⟨t, hN⟩ 1 k).trans (hT1 k))
    ((b4_3 V ⟨t, hN⟩ 0 k).trans (hg k)) ((b4_4 V ⟨t, hN⟩ 0 k).trans (hb k)) ((b4_0 V ⟨t, hN⟩ ⟨r, hr⟩ k).trans (hX _ _)) ((b4_1 V ⟨t, hN⟩ ⟨r, hr⟩ k).trans (hM _ _)))

end Cert.Proof.Calls
-- ==== Proof.Refs.lean ====
/-
  The reference read at an index, at the ideal float values: on real arguments it computes the layer.
-/
module

public import proofs.«01_k».proof.Proof.Rows
public import proofs.«01_k».proof.Proof.Spec
public import Idealize.ShloMosaic.Lib.Pipeline.ValueKit.Acc

@[expose] public section

noncomputable section

namespace Cert.Proof.Refs

open Idealize.ShloMosaic Cert.ReferenceIdeal Cert.ReferenceIdeal.Gen Cert.ReferenceIdeal.Value Cert.Proof.Spec

set_option maxRecDepth 16384

variable (V : Valuation τ sig (Elt Ideal))

abbrev aX : Vec Ideal S10000x128 .f32 := V (Proc.devRef .tc main_arg0)
abbrev aN : Vec Ideal S10000x32x16 .f32 := V (Proc.devRef .tc main_arg1)
abbrev aI : IVec S10000x32 32 := V (Proc.devRef .tc main_arg2)
abbrev aW : Vec Ideal S272x256 .f32 := V (Proc.devRef .tc main_arg3)
abbrev aB : Vec Ideal S256 .f32 := V (Proc.devRef .tc main_arg4)
abbrev aG1 : Vec Ideal S256 .f32 := V (Proc.devRef .tc main_arg5)
abbrev aB1 : Vec Ideal S256 .f32 := V (Proc.devRef .tc main_arg6)
abbrev aG2 : Vec Ideal S128 .f32 := V (Proc.devRef .tc main_arg7)
abbrev aB2 : Vec Ideal S128 .f32 := V (Proc.devRef .tc main_arg8)

abbrev v10 : Vec Ideal S320000x256 .f32 := res_main_v10 V
abbrev v13 : Vec Ideal S256 .f32 := res_main_v13 V
abbrev v16 : Vec Ideal S320000x256 .f32 := res_main_v16 V
abbrev v36 : Vec Ideal S10000x32x256 .f32 := res_main_v36 V
abbrev v47 : Vec Ideal S10000x128 .f32 := res_main_v47 V
abbrev v50 : Vec Ideal S128 .f32 := res_main_v50 V
abbrev v53 : Vec Ideal S10000x128 .f32 := res_main_v53 V
abbrev v73 : Vec Ideal S10000x128 .f32 := res_main_v73 V

/-- The product and its bias, over any rows taken. -/
def prod {F : FTy → Type} [FloatOps F] (X : FVec F S10000x128 .f32) (N : FVec F S10000x32x16 .f32) (W : FVec F S272x256 .f32) (B : FVec F S256 .f32)
    (tk : FVec F S320000x128 .f32) : FVec F S320000x256 .f32 :=
  shapeCast _ (addf (Host.dotGeneral dot_S10000x32x272_S272x256_S10000x32x256_2_0_01_1_n_n none ((concatenate S10000x32x272 2 [⟨S10000x32x128, ((broadcastInDim S10000x32x128 ![0, 1, 2] bcast_S10000x1x128_S10000x32x128_0_1_2 (broadcastInDim S10000x1x128 ![0, 2] bcast_S10000x128_S10000x1x128_0_2 X)) : (⟨S10000x32x128, .f32⟩ : BufTy).Contents (Elt F))⟩, ⟨S10000x32x128, ((shapeCast _ tk shapeCasts_S320000x128_S10000x32x128) : (⟨S10000x32x128, .f32⟩ : BufTy).Contents (Elt F))⟩, ⟨S10000x32x16, (N : (⟨S10000x32x16, .f32⟩ : BufTy).Contents (Elt F))⟩] concatenates_S10000x32x128_S10000x32x128_S10000x32x16_S10000x32x272_d2 : (⟨S10000x32x272, .f32⟩ : BufTy).Contents (Elt F))) W) (broadcastInDim S10000x32x256 ![0, 1, 2] bcast_S1x1x256_S10000x32x256_0_1_2 (broadcastInDim S1x1x256 ![2] bcast_S256_S1x1x256_2 B))) shapeCasts_S10000x32x256_S320000x256

theorem v10_prod (h : Rows.InRange (aI V)) : v10 V = prod (F := Ideal) (aX V) (aN V) (aW V) (aB V) (Rows.rows (aX V) (aI V) h) := by
  exact (show v10 V = prod (F := Ideal) (aX V) (aN V) (aW V) (aB V) (Rows.take (F := Ideal) (aX V) (Rows.wrap (Rows.flat (aI V)))) from rfl).trans
    (congrArg (prod (F := Ideal) (aX V) (aN V) (aW V) (aB V)) (Rows.take_eq (F := Ideal) (aX V) (aI V) h))

theorem prod_at (X : Vec Ideal S10000x128 .f32) (N : Vec Ideal S10000x32x16 .f32) (W : Vec Ideal S272x256 .f32) (B : Vec Ideal S256 .f32) (tk : Vec Ideal S320000x128 .f32) (i : Fin 10000) (j : Fin 32) (c : Fin 256) :
    prod (F := Ideal) X N W B tk (ix2 ⟨i.val * 32 + j.val, by omega⟩ c)
      = ∑ k : Fin 128, X (ix2 i k) * W (ix2 ⟨k.val, by omega⟩ c) + (∑ k : Fin 128, tk (ix2 ⟨i.val * 32 + j.val, by omega⟩ k) * W (ix2 ⟨128 + k.val, by omega⟩ c)
        + ∑ k : Fin 16, N (ix3 i j k) * W (ix2 ⟨256 + k.val, by omega⟩ c)) + B (ix1 c) := by
  pointwise [prod]
  refine congrArg (· + B (ix1 c)) ?_
  refine (Fin.sum_univ_add (a := 128) (b := 128 + 16) _).trans ?_
  refine congrArg₂ (· + ·) (Finset.sum_congr rfl fun k _ => ?_) ((Fin.sum_univ_add (a := 128) (b := 16) _).trans (congrArg₂ (· + ·) (Finset.sum_congr rfl fun k _ => ?_) (Finset.sum_congr rfl fun k _ => ?_)))
  · rw [dif_pos (show (Fin.castAdd (128 + 16) k).val < 128 from k.isLt)]
    rfl
  · rw [dif_neg (show ¬ (Fin.natAdd 128 (Fin.castAdd 16 k)).val < 128 from by simp), dif_pos (show (Fin.natAdd 128 (Fin.castAdd 16 k)).val - 128 < 128 from by simp)]
    refine congrArg₂ (· * ·) (congrArg tk (congrArg (ix2 _) (Fin.ext (by simp)))) (congrArg W (congrArg (ix2 · c) (Fin.ext (by simp))))
  · rw [dif_neg (show ¬ (Fin.natAdd 128 (Fin.natAdd 128 k)).val < 128 from by simp), dif_neg (show ¬ (Fin.natAdd 128 (Fin.natAdd 128 k)).val - 128 < 128 from by simp)]
    refine congrArg₂ (· * ·) (congrArg N (congrArg (ix3 i j) (Fin.ext (by simp)))) (congrArg W (congrArg (ix2 · c) (Fin.ext (by simp; omega))))

theorem r13 (c : Fin 256) : v13 V (ix1 c) = Ideal.div (∑ x, v10 V (ix2 x c)) (Ideal.ofBits .f32 1218199552#32) := by
  pointwise [v13, res_main_v13]
theorem r16 (r : Fin 320000) (c : Fin 256) : v16 V (ix2 r c) = v10 V (ix2 r c) - v13 V (ix1 c) := by
  pointwise [v16, res_main_v16]
theorem r36 (i : Fin 10000) (j : Fin 32) (c : Fin 256) : v36 V (ix3 i j c)
    = Ideal.div (aG1 V (ix1 c) * (v10 V (ix2 ⟨i.val * 32 + j.val, by omega⟩ c) - v13 V (ix1 c)))
        (Ideal.sqrt (Ideal.div (∑ x, v16 V (ix2 x c) * v16 V (ix2 x c)) (Ideal.ofBits .f32 1218199552#32) + Ideal.ofBits .f32 925353388#32))
      + aB1 V (ix1 c) := by
  pointwise [v36, res_main_v36]
theorem r47 (i : Fin 10000) (c : Fin 128) : v47 V (ix2 i c)
    = ∑ x : Fin 32, Ideal.logistic (v36 V (ix3 i x ⟨c.val, by omega⟩)) * Pay.spE (v36 V (ix3 i x ⟨128 + c.val, by omega⟩)) := by
  pointwise [v47, res_main_v47, res_main_call1_v3, res_main_v38, res_main_call1_cst]
  simp only [ne_eq, not_true_eq_false, if_false, Pay.spE, zero_sub]
  rfl
theorem r50 (c : Fin 128) : v50 V (ix1 c) = Ideal.div (∑ x, v47 V (ix2 x c)) (Ideal.ofBits .f32 1176256512#32) := by
  pointwise [v50, res_main_v50]
theorem r53 (i : Fin 10000) (c : Fin 128) : v53 V (ix2 i c) = v47 V (ix2 i c) - v50 V (ix1 c) := by
  pointwise [v53, res_main_v53]
theorem r73 (i : Fin 10000) (c : Fin 128) : v73 V (ix2 i c)
    = aX V (ix2 i c) + (Ideal.div (aG2 V (ix1 c) * (v47 V (ix2 i c) - v50 V (ix1 c)))
        (Ideal.sqrt (Ideal.div (∑ x, v53 V (ix2 x c) * v53 V (ix2 x c)) (Ideal.ofBits .f32 1176256512#32) + Ideal.ofBits .f32 925353388#32))
      + aB2 V (ix1 c)) := by
  pointwise [v73, res_main_v73]

/-- The reference's result. -/
def res : Vec Ideal S10000x128 .f32 :=
  select (cmpf .une (res_main_call2_v3 V) (res_main_call2_v3 V)) (addf (res_main_v73 V) (broadcastInDim S10000x128 ![] bcast_S_S10000x128 (res_main_call2_cst V))) (addf (maximumf (res_main_v73 V) (broadcastInDim S10000x128 ![] bcast_S_S10000x128 (res_main_call2_cst V))) (Host.log1p (Host.exp (Host.negf (Host.absf (res_main_call2_v3 V))))))

theorem rres (i : Fin 10000) (c : Fin 128) : res V (ix2 i c) = Pay.spE (v73 V (ix2 i c)) := by
  pointwise [res, res_main_call2_v3, res_main_call2_cst]
  simp only [ne_eq, not_true_eq_false, if_false, Pay.spE, zero_sub]
  rfl

theorem flat_at (N : IVec S10000x32 32) (i : Fin 10000) (j : Fin 32) : Rows.flat N (ix1 ⟨i.val * 32 + j.val, by omega⟩) = N (ix2 i j) := by
  pointwise [Rows.flat]

theorem rows_at (X : Vec Ideal S10000x128 .f32) (N : IVec S10000x32 32) (h : Rows.InRange N) (i : Fin 10000) (j : Fin 32) (k : Fin 128) :
    Rows.rows X N h (ix2 ⟨i.val * 32 + j.val, by omega⟩ k) = X (ix2 ⟨(N (ix2 i j)).toNat, Rows.toNat_of_range (h _).1 (h _).2⟩ k) := by
  refine congrArg X ?_
  rw [ix2_eq_valueIdx]
  refine congrArg (ValueIdx.ix2 · k) (Fin.ext ?_)
  refine congrArg BitVec.toNat ?_
  rw [← flat_at N i j]
  rfl

/-! ## On real arguments -/

variable {V} {I : Inp} (hI : Reads I (aX V) (aN V) (aI V) (aW V) (aB V) (aG1 V) (aB1 V) (aG2 V) (aB2 V)) (hr : Rows.InRange (aI V))
include hI hr

theorem z_coe (i : Fin 10000) (j : Fin 32) (c : Fin 256) : v10 V (ix2 ⟨i.val * 32 + j.val, by omega⟩ c) = (z I i j c : EReal) := by
  rw [v10_prod V hr, prod_at]
  have ht : ∀ k : Fin 128, Rows.rows (aX V) (aI V) hr (ix2 ⟨i.val * 32 + j.val, by omega⟩ k) = (I.x (I.ix i j) k : EReal) := fun k => by
    rw [rows_at, ← hI.hx]
    exact congrArg (aX V) (congrArg (ix2 · k) (Fin.ext (hI.hi i j)))
  simp only [ht, hI.hx, hI.hn, hI.hW, hI.hb, ← EReal.coe_mul, sum_coe, ← EReal.coe_add]
  congr 1
  unfold z edge own
  ring

omit hI hr in
theorem sum_rows (f : Fin 320000 → EReal) : ∑ r, f r = ∑ i : Fin 10000, ∑ j : Fin 32, f ⟨i.val * 32 + j.val, by omega⟩ :=
  (Fin.sum_mul_add_fin 10000 32 f).symm

theorem m1_coe (c : Fin 256) : v13 V (ix1 c) = (mean1 I c : EReal) := by
  rw [r13, sum_rows]
  simp only [z_coe hI hr, sum_coe]
  rw [cN, div_real _ _ (by norm_num)]
  rfl

theorem d1_coe (i : Fin 10000) (j : Fin 32) (c : Fin 256) : v16 V (ix2 ⟨i.val * 32 + j.val, by omega⟩ c) = ((z I i j c - mean1 I c : ℝ) : EReal) := by
  rw [r16, z_coe hI hr, m1_coe hI hr, EReal.coe_sub]

theorem y1_coe (i : Fin 10000) (j : Fin 32) (c : Fin 256) : v36 V (ix3 i j c) = (y1 I i j c : EReal) := by
  rw [r36, z_coe hI hr, m1_coe hI hr, sum_rows]
  simp only [d1_coe hI hr, ← EReal.coe_mul, sum_coe, hI.hg1, hI.hb1]
  rw [cN, cE, div_real _ _ (by norm_num), ← EReal.coe_add,
    show (∑ i : Fin 10000, ∑ j : Fin 32, (z I i j c - mean1 I c) * (z I i j c - mean1 I c)) / 320000 = var1 I c from rfl,
    sqrt_real _ (var1_pos I c), ← EReal.coe_sub, ← EReal.coe_mul, div_real _ _ (Real.sqrt_pos.2 (var1_pos I c)).ne', ← EReal.coe_add]
  rfl

theorem msg_coe (i : Fin 10000) (c : Fin 128) : v47 V (ix2 i c) = (msg I i c : EReal) := by
  rw [r47]
  simp only [y1_coe hI hr, Ideal.logistic_coe, spE_coe, ← EReal.coe_mul, sum_coe]
  rfl

theorem m2_coe (c : Fin 128) : v50 V (ix1 c) = (mean2 I c : EReal) := by
  rw [r50]
  simp only [msg_coe hI hr, sum_coe]
  rw [cM, div_real _ _ (by norm_num)]
  rfl

theorem d2_coe (i : Fin 10000) (c : Fin 128) : v53 V (ix2 i c) = ((msg I i c - mean2 I c : ℝ) : EReal) := by
  rw [r53, msg_coe hI hr, m2_coe hI hr, EReal.coe_sub]

/-- The reference computes the layer. -/
theorem out_coe (i : Fin 10000) (c : Fin 128) : res V (ix2 i c) = out I i c := by
  rw [rres, r73, msg_coe hI hr, m2_coe hI hr]
  simp only [d2_coe hI hr, ← EReal.coe_mul, sum_coe, hI.hg2, hI.hb2, hI.hx]
  rw [cM, cE, div_real _ _ (by norm_num), ← EReal.coe_add,
    show (∑ i : Fin 10000, (msg I i c - mean2 I c) * (msg I i c - mean2 I c)) / 10000 = var2 I c from rfl,
    sqrt_real _ (var2_pos I c), ← EReal.coe_sub, ← EReal.coe_mul, div_real _ _ (Real.sqrt_pos.2 (var2_pos I c)).ne']
  rfl

end Cert.Proof.Refs
-- ==== Proof.Vals.lean ====
/-
  The value of the run at the ideal float values: call by call, on real arguments, the program's result is the layer's.
-/
module

public import proofs.«01_k».proof.Proof.Args
public import proofs.«01_k».proof.Proof.Calls
public import proofs.«01_k».proof.Proof.Refs

@[expose] public section

noncomputable section

namespace Cert.Proof.Vals

open Cert.KernelIdeal Cert.KernelIdeal.Gen Cert.Proof.Tiles Cert.Proof.Blocks Cert.Proof.Spec Cert.Proof.Calls Cert.Proof.Args
open Idealize.ShloMosaic Idealize.ShloMosaic.TcCoe

/-! ## A reshaped argument at an index -/

theorem row256 (v : Vec Ideal S256 .f32) (c : Fin 256) : shapeCast S1x256 v shapeCasts_S256_S1x256 (ix2 0 c) = v (ix1 c) := by
  pointwise []
theorem row128 (v : Vec Ideal S128 .f32) (c : Fin 128) : shapeCast S1x128 v shapeCasts_S128_S1x128 (ix2 0 c) = v (ix1 c) := by
  pointwise []
theorem nbr_at (v : Vec Ideal S10000x32x16 .f32) (i : Fin 10000) (j : Fin 32) (k : Fin 16) :
    shapeCast S320000x16 v shapeCasts_S10000x32x16_S320000x16 (ix2 ⟨i.val * 32 + j.val, by omega⟩ k) = v (ix3 i j k) := by
  pointwise []

variable (m : (ℓ : Loc nD τ sig) → Buf (Elt Ideal) ℓ) (d : Dev nD) {I : Inp}

/-- The arguments of one device hold those reals. -/
abbrev ReadsAt (I : Inp) : Prop :=
  Reads I (m (d, bf main_arg0)) (m (d, bf main_arg1)) (m (d, bf main_arg2)) (m (d, bf main_arg3)) (m (d, bf main_arg4)) (m (d, bf main_arg5)) (m (d, bf main_arg6))
    (m (d, bf main_arg7)) (m (d, bf main_arg8))

variable {m d} (hI : ReadsAt m d I) (hr : Rows.InRange (words m d))
include hI

/-! ## What stays from the host's layout to the calls -/

omit hI in
theorem keep1 (b : Ref sig .tc) (h8 : b ≠ main_v8) (h9 : b ≠ main_v9) (h10 : b ≠ main_v10) : V1 m d (bf b) = V0 m d (bf b) :=
  (V1_ne m d b h10).trans ((VJ_of_ne m d b h9).trans (V0'_ne m d b h8))
omit hI in
theorem keep2 (b : Ref sig .tc) (h8 : b ≠ main_v8) (h9 : b ≠ main_v9) (h10 : b ≠ main_v10) (h11 : b ≠ main_v11) : V2 m d (bf b) = V0 m d (bf b) :=
  (V2_ne m d b h11).trans (keep1 b h8 h9 h10)
omit hI in
theorem keep3 (b : Ref sig .tc) (h8 : b ≠ main_v8) (h9 : b ≠ main_v9) (h10 : b ≠ main_v10) (h11 : b ≠ main_v11) (h0 : b ≠ main_v12_1) (h1 : b ≠ main_v12_0) :
    V3 m d (bf b) = V0 m d (bf b) :=
  (V3_ne m d b h0 h1).trans (keep2 b h8 h9 h10 h11)

theorem x0 (i : Fin 10000) (k : Fin 128) : X0 (V0 m d) (ix2 i k) = (I.x i k : EReal) := (congrFun (V0_arg m d main_arg0 (by decide)) _).trans (hI.hx i k)
theorem w0 (k : Fin 272) (c : Fin 256) : XW (V0 m d) (ix2 k c) = (I.W k c : EReal) := (congrFun (V0_arg m d main_arg3 (by decide)) _).trans (hI.hW k c)
theorem b0 (c : Fin 256) : XB (V0 m d) (ix2 0 c) = (I.b c : EReal) := (congrFun (V0_v3 m d) _).trans ((row256 _ c).trans (hI.hb c))
theorem g10 (c : Fin 256) : Xg1 (V0 m d) (ix2 0 c) = (I.g1 c : EReal) := (congrFun (V0_v4 m d) _).trans ((row256 _ c).trans (hI.hg1 c))
theorem b10 (c : Fin 256) : Xb1 (V0 m d) (ix2 0 c) = (I.b1 c : EReal) := (congrFun (V0_v5 m d) _).trans ((row256 _ c).trans (hI.hb1 c))
theorem g20 (c : Fin 128) : Xg2 (V0 m d) (ix2 0 c) = (I.g2 c : EReal) := (congrFun (V0_v6 m d) _).trans ((row128 _ c).trans (hI.hg2 c))
theorem b20 (c : Fin 128) : Xb2 (V0 m d) (ix2 0 c) = I.b2 c := (congrFun (V0_v7 m d) _).trans ((row128 _ c).trans (hI.hb2 c))
theorem n0 (i : Fin 10000) (j : Fin 32) (k : Fin 16) : XN (V0 m d) (ix2 ⟨i.val * 32 + j.val, by omega⟩ k) = (I.nb i j k : EReal) :=
  (congrFun (V0_v2 m d) _).trans ((nbr_at _ i j k).trans (hI.hn i j k))

theorem p1 (i : Fin 10000) (c : Fin 256) : P1 m d (ix2 i c) = (own I i c : EReal) := call0 I (V0 m d) d 0 (x0 hI) (w0 hI) (b0 hI) i c

/-! ## The edges -/

omit hI in
theorem v8_1 : V1 m d (bf main_v8) = P1 m d := (V1_ne m d _ (by decide)).trans ((VJ_of_ne m d _ (by decide)).trans (V0'_at0 m d))
omit hI in
theorem v8_2 : V2 m d (bf main_v8) = P1 m d := (V2_ne m d _ (by decide)).trans v8_1

include hr in
theorem g_1 (i : Fin 10000) (j : Fin 32) (k : Fin 128) : XG (V1 m d) (ix2 ⟨i.val * 32 + j.val, by omega⟩ k) = (I.x (I.ix i j) k : EReal) := by
  refine (congrFun (V1_at m d) _).trans ?_
  have h := gat_at m d hr ⟨i.val * 32 + j.val, by omega⟩ k
  rw [← ix2_eq_valueIdx, ← ix2_eq_valueIdx] at h
  refine h.trans (Eq.trans (congrArg (tab m d) (congrArg (ix2 · k) (Fin.ext ?_))) (hI.hx (I.ix i j) k))
  refine Eq.trans (congrArg BitVec.toNat ?_) (hI.hi i j)
  exact Refs.flat_at (words m d) i j
include hr in
theorem g_2 (i : Fin 10000) (j : Fin 32) (k : Fin 128) : XG (V2 m d) (ix2 ⟨i.val * 32 + j.val, by omega⟩ k) = (I.x (I.ix i j) k : EReal) :=
  (congrFun (V2_ne m d main_v10 (by decide)) _).trans (g_1 hI hr i j k)

theorem n_1 (i : Fin 10000) (j : Fin 32) (k : Fin 16) : XN (V1 m d) (ix2 ⟨i.val * 32 + j.val, by omega⟩ k) = (I.nb i j k : EReal) :=
  (congrFun (keep1 main_v2 (by decide) (by decide) (by decide)) _).trans (n0 hI i j k)
theorem n_2 (i : Fin 10000) (j : Fin 32) (k : Fin 16) : XN (V2 m d) (ix2 ⟨i.val * 32 + j.val, by omega⟩ k) = (I.nb i j k : EReal) :=
  (congrFun (keep2 main_v2 (by decide) (by decide) (by decide) (by decide)) _).trans (n0 hI i j k)
theorem p_1 (i : Fin 10000) (c : Fin 256) : XP (V1 m d) (ix2 i c) = (own I i c : EReal) := (congrFun v8_1 _).trans (p1 hI i c)
theorem p_2 (i : Fin 10000) (c : Fin 256) : XP (V2 m d) (ix2 i c) = (own I i c : EReal) := (congrFun v8_2 _).trans (p1 hI i c)
theorem w_1 (k : Fin 272) (c : Fin 256) : XW (V1 m d) (ix2 k c) = (I.W k c : EReal) := (congrFun (keep1 main_arg3 (by decide) (by decide) (by decide)) _).trans (w0 hI k c)
theorem w_2 (k : Fin 272) (c : Fin 256) : XW (V2 m d) (ix2 k c) = (I.W k c : EReal) :=
  (congrFun (keep2 main_arg3 (by decide) (by decide) (by decide) (by decide)) _).trans (w0 hI k c)

include hr

theorem s_0 (c : Fin 256) : XS (V2 m d) (ix2 0 c) = (sum1 I c : EReal) :=
  (congrFun (V2_at0 m d) _).trans (call2_0 (g_1 hI hr) (n_1 hI) (p_1 hI) (w_1 hI) d 1 c)
theorem s_1 (c : Fin 256) : XS (V2 m d) (ix2 1 c) = (sq1 I c : EReal) :=
  (congrFun (V2_at0 m d) _).trans (call2_1 (g_1 hI hr) (n_1 hI) (p_1 hI) (w_1 hI) d 1 c)

omit hr in
theorem g1_2 (c : Fin 256) : Xg1 (V2 m d) (ix2 0 c) = (I.g1 c : EReal) :=
  (congrFun (keep2 main_v4 (by decide) (by decide) (by decide) (by decide)) _).trans (g10 hI c)
omit hr in
theorem b1_2 (c : Fin 256) : Xb1 (V2 m d) (ix2 0 c) = (I.b1 c : EReal) :=
  (congrFun (keep2 main_v5 (by decide) (by decide) (by decide) (by decide)) _).trans (b10 hI c)

theorem m_3 (i : Fin 10000) (k : Fin 128) : XM (V3 m d) (ix2 i k) = (msg I i k : EReal) :=
  (congrFun (V3_at1 m d) _).trans (call3_s (g_2 hI hr) (n_2 hI) (p_2 hI) (w_2 hI) (s_0 hI hr) (s_1 hI hr) (g1_2 hI) (b1_2 hI) d 1 i k)
theorem t_0 (c : Fin 128) : XT (V3 m d) (ix2 0 c) = (sum2 I c : EReal) :=
  (congrFun (V3_at0 m d) _).trans (call3_0 (g_2 hI hr) (n_2 hI) (p_2 hI) (w_2 hI) (s_0 hI hr) (s_1 hI hr) (g1_2 hI) (b1_2 hI) d 1 c)
theorem t_1 (c : Fin 128) : XT (V3 m d) (ix2 1 c) = (sq2 I c : EReal) :=
  (congrFun (V3_at0 m d) _).trans (call3_1 (g_2 hI hr) (n_2 hI) (p_2 hI) (w_2 hI) (s_0 hI hr) (s_1 hI hr) (g1_2 hI) (b1_2 hI) d 1 c)

/-- The program's result on real arguments. -/
theorem out_eq (i : Fin 10000) (k : Fin 128) : OUT m d (ix2 i k) = out I i k :=
  call4 I (V3 m d) d 1
    (fun i k => (congrFun (keep3 main_arg0 (by decide) (by decide) (by decide) (by decide) (by decide) (by decide)) _).trans (x0 hI i k))
    (m_3 hI hr) (t_0 hI hr) (t_1 hI hr)
    (fun c => (congrFun (keep3 main_v6 (by decide) (by decide) (by decide) (by decide) (by decide) (by decide)) _).trans (g20 hI c))
    (fun c => (congrFun (keep3 main_v7 (by decide) (by decide) (by decide) (by decide) (by decide) (by decide)) _).trans (b20 hI c)) i k

end Cert.Proof.Vals

end
-- ==== Proof.lean ====
/-
  The certificate. The program's run (`Tiles.run_main`, at any float values) carries the frames; with the values of
  Proof/Vals.lean, at the ideal float values and on real arguments, its result is the layer's, and so is the reference's
  (Proof/Refs.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Pre
public import proofs.«01_k».proof.Proof.Same
public import proofs.«01_k».proof.Proof.Vals

@[expose] public section

noncomputable section

namespace Cert.Proof

open Idealize.ShloMosaic Idealize.SL.Sem

section Runs

open Cert.KernelIdeal Cert.Proof.Tiles Cert.Proof.Rows Cert.Proof.Args

variable {F : FTy → Type} [FloatOps F]

/-- The program's run from memories whose index words are in range: its result, its arguments unchanged and every
    semaphore zero. -/
theorem run_out [∀ e, Nonempty (Elt F e)] (m : (ℓ : Loc nD τ sig) → Buf (Elt F) ℓ) (ρ : Dev nD → PrngReg) (h : ∀ d, InRange (words m d)) :
    θ_run (Cert.KernelIdeal.defs (F := F)) (Cert.KernelIdeal.threads (F := F)) ⟨m, fun _ => 0, ρ⟩
      (fun r => (∀ c : Dev nD, r.2.mem ((c.tc : Thread nD τ).loc main_v13) = OUT m c
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5)
          ∧ r.2.mem ((c.tc : Thread nD τ).loc main_arg6) = m ((c.tc : Thread nD τ).loc main_arg6)
          ∧ r.2.mem ((c.tc : Thread nD τ).loc main_arg7) = m ((c.tc : Thread nD τ).loc main_arg7)
          ∧ r.2.mem ((c.tc : Thread nD τ).loc main_arg8) = m ((c.tc : Thread nD τ).loc main_arg8))
        ∧ r.2.sem = fun _ => 0) := by
  refine (θ_run _ _ _).mono (fun r hr => ⟨fun c => ?_, hr.2⟩) (run_main m ρ fun d x => lst_lt m d (h d) x)
  refine ⟨(hr.1 c (bf main_v13) (by decide +kernel)).trans (V4_at0 m c), ?_, ?_, ?_, ?_, ?_, ?_, ?_, ?_, ?_⟩
  · exact (hr.1 c (bf main_arg0) (by decide +kernel)).trans (V4_arg m c main_arg0 (by decide))
  · exact (hr.1 c (bf main_arg1) (by decide +kernel)).trans (V4_arg m c main_arg1 (by decide))
  · exact (hr.1 c (bf main_arg2) (by decide +kernel)).trans (V4_arg m c main_arg2 (by decide))
  · exact (hr.1 c (bf main_arg3) (by decide +kernel)).trans (V4_arg m c main_arg3 (by decide))
  · exact (hr.1 c (bf main_arg4) (by decide +kernel)).trans (V4_arg m c main_arg4 (by decide))
  · exact (hr.1 c (bf main_arg5) (by decide +kernel)).trans (V4_arg m c main_arg5 (by decide))
  · exact (hr.1 c (bf main_arg6) (by decide +kernel)).trans (V4_arg m c main_arg6 (by decide))
  · exact (hr.1 c (bf main_arg7) (by decide +kernel)).trans (V4_arg m c main_arg7 (by decide))
  · exact (hr.1 c (bf main_arg8) (by decide +kernel)).trans (V4_arg m c main_arg8 (by decide))

end Runs

section RefRuns

open Cert.ReferenceIdeal Cert.ReferenceIdeal.Gen Cert.ReferenceIdeal.Value Cert.Proof.Refs Idealize.ShloMosaic.StableHlo

variable (m : (ℓ : Loc nD τ sig) → Buf (Elt Ideal) ℓ) (ρ : Dev nD → PrngReg)

/-- The reference's run: its result and its arguments unchanged. -/
theorem ref_out : θ_run (Cert.ReferenceIdeal.defs (F := Ideal)) (onTc (τ := τ) (Cert.ReferenceIdeal.main (F := Ideal))) ⟨m, fun _ => 0, ρ⟩
      (fun r => ∀ c : Dev nD, r.2.mem ((c.tc : Thread nD τ).loc main_v74) = res (launchContents m c)
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5)
          ∧ r.2.mem ((c.tc : Thread nD τ).loc main_arg6) = m ((c.tc : Thread nD τ).loc main_arg6)
          ∧ r.2.mem ((c.tc : Thread nD τ).loc main_arg7) = m ((c.tc : Thread nD τ).loc main_arg7)
          ∧ r.2.mem ((c.tc : Thread nD τ).loc main_arg8) = m ((c.tc : Thread nD τ).loc main_arg8)) :=
  (θ_run _ _ _).mono (fun r hr c => ⟨(hr c).1.trans rfl, (hr c).2⟩) (Cert.ReferenceIdeal.Value.run m ρ)

end RefRuns

open Cert.Proof.Rows Cert.Proof.Tiles Cert.Proof.Args

theorem frame_kernel : Cert.quiescent_Kernel := by
  intro m ρ hpre
  have h := run_out (F := Bits) m ρ fun d => Pre.inRange_of_index_range _ _ _ _ _ _ _ _ _ (hpre d)
  have e := congrArg₂ (fun D T => θ_run D T ⟨m, fun _ => 0, ρ⟩) Same.defs_eq Same.threads_eq
  refine (θ_run (Cert.Kernel.defs (F := Bits)) (Cert.Kernel.threads (F := Bits)) _).mono
    (fun r hr => ⟨fun c => (hr.1 c).2, hr.2⟩) (Eq.mpr (DFunLike.congr_fun e _) h)

theorem frame_kernelIdeal : Cert.quiescent_KernelIdeal := fun m ρ hpre =>
  (θ_run Cert.KernelIdeal.defs _ _).mono (fun r hr => ⟨fun c => (hr.1 c).2, hr.2⟩)
    (run_out (F := Ideal) m ρ fun d => Pre.inRange_of_index_range _ _ _ _ _ _ _ _ _ (hpre d))

theorem frame_kernelIdeal_admissible : Cert.quiescent_KernelIdeal_pre_admissible := fun m ρ hpre =>
  (θ_run Cert.KernelIdeal.defs _ _).mono (fun r hr => ⟨fun c => (hr.1 c).2, hr.2⟩)
    (run_out (F := Ideal) m ρ fun d => (Pre.reads_of_admissible _ _ _ _ _ _ _ _ _ (hpre d)).1)

theorem frame_referenceIdeal : Cert.quiescent_ReferenceIdeal := fun m ρ _ =>
  (θ_run _ _ _).mono (fun r hr => ⟨fun c => (hr c).2, sem_eq_zero_of_no_sems (by decide) r.2⟩) (ref_out m ρ)

theorem frame_referenceIdeal_admissible : Cert.quiescent_ReferenceIdeal_pre_admissible := fun m ρ _ =>
  (θ_run _ _ _).mono (fun r hr => ⟨fun c => (hr c).2, sem_eq_zero_of_no_sems (by decide) r.2⟩) (ref_out m ρ)

theorem algebraic : Cert.algebraic_KernelIdeal_ReferenceIdeal_pre_admissible := by
  intro m ρ m' ρ' hpre hag
  have h : ∀ d, InRange (words (F := Ideal) m d) := fun d => (Pre.reads_of_admissible _ _ _ _ _ _ _ _ _ (hpre d)).1
  refine ⟨fun c => OUT (F := Ideal) m c, ?_, ?_⟩
  · exact (θ_run Cert.KernelIdeal.defs _ _).mono (fun r hr => hr.1) (run_out (F := Ideal) m ρ h)
  · refine (θ_run Cert.ReferenceIdeal.defs _ _).mono (fun r hr c => ⟨(hr c).1.trans ?_, (hr c).2⟩) (ref_out m' ρ')
    obtain ⟨hr, I, hI⟩ := Pre.reads_of_admissible _ _ _ _ _ _ _ _ _ (hpre c)
    obtain ⟨e0, e1, e2, e3, e4, e5, e6, e7, e8⟩ := hag c
    have hI' : Spec.Reads I (Refs.aX (StableHlo.launchContents m' c)) (Refs.aN (StableHlo.launchContents m' c)) (Refs.aI (StableHlo.launchContents m' c))
        (Refs.aW (StableHlo.launchContents m' c)) (Refs.aB (StableHlo.launchContents m' c)) (Refs.aG1 (StableHlo.launchContents m' c))
        (Refs.aB1 (StableHlo.launchContents m' c)) (Refs.aG2 (StableHlo.launchContents m' c)) (Refs.aB2 (StableHlo.launchContents m' c)) :=
      ⟨fun i k => (congrFun e0 _).trans (hI.hx i k), fun i j k => (congrFun e1 _).trans (hI.hn i j k), fun i j => (congrArg BitVec.toNat (congrFun e2 _)).trans (hI.hi i j),
        fun k c => (congrFun e3 _).trans (hI.hW k c), fun c => (congrFun e4 _).trans (hI.hb c), fun c => (congrFun e5 _).trans (hI.hg1 c),
        fun c => (congrFun e6 _).trans (hI.hb1 c), fun c => (congrFun e7 _).trans (hI.hg2 c), fun c => (congrFun e8 _).trans (hI.hb2 c)⟩
    have hr' : InRange (Refs.aI (StableHlo.launchContents m' c)) := fun i => by
      have e : Refs.aI (StableHlo.launchContents m' c) i = words (F := Ideal) m c i := congrFun e2 i
      rw [e]
      exact h c i
    funext x
    obtain ⟨i, k, rfl⟩ : ∃ i k, x = ix2 (n0 := 10000) (n1 := 128) i k := ⟨_, _, eq_ix2 x⟩
    exact (Refs.out_coe hI' hr' i k).trans (Vals.out_eq (m := m) (d := c) hI (h c) i k).symm

theorem claim : Cert.Claim :=
  ⟨Cert.Kernel.Gen.facts, Cert.KernelIdeal.Gen.facts, Cert.ReferenceIdeal.Gen.facts, Cert.Pre_index_range.Gen.facts, Cert.Pre_admissible.Gen.facts,
    frame_kernel, frame_kernelIdeal, frame_kernelIdeal_admissible, frame_referenceIdeal, frame_referenceIdeal_admissible, trivial, algebraic⟩

end Cert.Proof

end
